-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_table : Cert.Pre_rows_in_table.Facts] (m : (ℓ : Loc Cert.Reference.nD Cert.Reference.τ Cert.Reference.sig) → Buf (Elt Bits) ℓ) : Prop :=
  ∀ c : Dev Cert.Reference.nD,
    (Cert.Pre_rows_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_table : Cert.Pre_rows_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v6)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v6) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v86)) (v1 : (c : Dev Cert.InprojIdeal.nD) → Buf (Elt Ideal) ((c.tc : Thread Cert.InprojIdeal.nD Cert.InprojIdeal.τ).loc Cert.InprojIdeal.main_v87)) (v2 : (c : Dev Cert.InprojIdeal.nD) → Buf (Elt Ideal) ((c.tc : Thread Cert.InprojIdeal.nD Cert.InprojIdeal.τ).loc Cert.InprojIdeal.main_v88)) (v3 : (c : Dev Cert.InprojIdeal.nD) → Buf (Elt Ideal) ((c.tc : Thread Cert.InprojIdeal.nD Cert.InprojIdeal.τ).loc Cert.InprojIdeal.main_v92)) (v4 : (c : Dev Cert.InprojIdeal.nD) → Buf (Elt Ideal) ((c.tc : Thread Cert.InprojIdeal.nD Cert.InprojIdeal.τ).loc Cert.InprojIdeal.main_v96)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v86) = v0 c
          ∧ r.2.mem ((c.tc : Thread Cert.InprojIdeal.nD Cert.InprojIdeal.τ).loc Cert.InprojIdeal.main_v87) = v1 c
          ∧ r.2.mem ((c.tc : Thread Cert.InprojIdeal.nD Cert.InprojIdeal.τ).loc Cert.InprojIdeal.main_v88) = v2 c
          ∧ r.2.mem ((c.tc : Thread Cert.InprojIdeal.nD Cert.InprojIdeal.τ).loc Cert.InprojIdeal.main_v92) = v3 c
          ∧ r.2.mem ((c.tc : Thread Cert.InprojIdeal.nD Cert.InprojIdeal.τ).loc Cert.InprojIdeal.main_v96) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v84) = v0 c
          ∧ r.2.mem ((c.tc : Thread Cert.InprojRefIdeal.nD Cert.InprojRefIdeal.τ).loc Cert.InprojRefIdeal.main_v87) = v1 c
          ∧ r.2.mem ((c.tc : Thread Cert.InprojRefIdeal.nD Cert.InprojRefIdeal.τ).loc Cert.InprojRefIdeal.main_v88) = v2 c
          ∧ r.2.mem ((c.tc : Thread Cert.InprojRefIdeal.nD Cert.InprojRefIdeal.τ).loc Cert.InprojRefIdeal.main_v90) = v3 c
          ∧ r.2.mem ((c.tc : Thread Cert.InprojRefIdeal.nD Cert.InprojRefIdeal.τ).loc Cert.InprojRefIdeal.main_v92) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Merge_MergeIdeal : Prop :=
  IdealRules.bf16_pair.BufferStatement Cert.MergeIdeal.S32768x2x256 Cert.MergeIdeal.S32768x1x256
  ∧ IdealRules.bf16_pair.BufferStatement Cert.MergeIdeal.S512x2x256 Cert.MergeIdeal.S512x1x256
  ∧ IdealRules.bf16_pair.Statement Cert.MergeIdeal.S512x2x256 Cert.MergeIdeal.S512x1x256
  ∧ IdealRules.bf16_pack.Statement Cert.MergeIdeal.S512x256

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v22_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def Claim : Prop :=
  ∃ (hKernel : Cert.Kernel.Facts) (hKernelIdeal : Cert.KernelIdeal.Facts) (hReferenceIdeal : Cert.ReferenceIdeal.Facts) (hReference : Cert.Reference.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPre_rows_in_table : Cert.Pre_rows_in_table.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal)
    ∧ quiescent_ReferenceIdeal_pre_rows_in_table (hReferenceIdeal := hReferenceIdeal) (hPre_rows_in_table := hPre_rows_in_table)
    ∧ quiescent_Reference (hReference := hReference) (hPre_rows_in_table := hPre_rows_in_table)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal (hKernelIdeal := hKernelIdeal) (hReferenceIdeal := hReferenceIdeal) (hPre_rows_in_table := hPre_rows_in_table)
    ∧ bitexact_Kernel_Reference (hKernel := hKernel) (hReference := hReference) (hPre_rows_in_table := hPre_rows_in_table)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
-- ==== Pre_rows_in_table.lean ====
abbrev S81920x256 : Shape := ⟨2, ![81920, 256]⟩
abbrev S32768x2 : Shape := ⟨2, ![32768, 2]⟩
abbrev S_ : Shape := ⟨0, ![]⟩

class Facts : Prop where
  bcast_S_S32768x2 : S_.BroadcastsInDim S32768x2 (![] : Fin 0 → Fin S32768x2.rank)

variable [Facts]

def fn {F : FTy → Type} [FloatOps F] (main_arg0 : IVec S81920x256 32) (main_arg1 : IVec S32768x2 32) : IVec S32768x2 1 :=
  let main_c : IVec S_ 32 := constantI S_ 32 0#32
  let main_v0 : IVec S32768x2 32 := broadcastInDim S32768x2 ![] bcast_S_S32768x2 main_c
  let main_v1 : IVec S32768x2 1 := cmpi .sge main_arg1 main_v0
  let main_c_0 : IVec S_ 32 := constantI S_ 32 81920#32
  let main_v2 : IVec S32768x2 32 := broadcastInDim S32768x2 ![] bcast_S_S32768x2 main_c_0
  let main_v3 : IVec S32768x2 1 := cmpi .slt main_arg1 main_v2
  let main_v4 : IVec S32768x2 1 := andi main_v1 main_v3
  main_v4
-- ==== Kernel.lean ====
abbrev S81920x256 : Shape := ⟨2, ![81920, 256]⟩
abbrev S32768x2 : Shape := ⟨2, ![32768, 2]⟩
abbrev S32768x1 : Shape := ⟨2, ![32768, 1]⟩
abbrev S32768 : Shape := ⟨1, ![32768]⟩
abbrev S65536 : Shape := ⟨1, ![65536]⟩
abbrev S1x65536 : Shape := ⟨2, ![1, 65536]⟩
abbrev S65536x256 : Shape := ⟨2, ![65536, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S81920x128 : Shape := ⟨2, ![81920, 128]⟩

abbrev nBuf : Table → Nat
  | .hbm => 9
  | .local .scVector .vmem => 2
  | _ => 0

abbrev bufTy : (tb : Table) → Fin (nBuf tb) → BufTy
  | .hbm, ⟨0, _⟩ => ⟨S81920x256, .i32⟩
  | .hbm, ⟨1, _⟩ => ⟨S32768x2, .i32⟩
  | .hbm, ⟨2, _⟩ => ⟨S32768x1, .i32⟩
  | .hbm, ⟨3, _⟩ => ⟨S32768, .i32⟩
  | .hbm, ⟨4, _⟩ => ⟨S32768x1, .i32⟩
  | .hbm, ⟨5, _⟩ => ⟨S32768, .i32⟩
  | .hbm, ⟨6, _⟩ => ⟨S65536, .i32⟩
  | .hbm, ⟨7, _⟩ => ⟨S1x65536, .i32⟩
  | .hbm, ⟨8, _⟩ => ⟨S65536x256, .i32⟩
  | .local .scVector .vmem, ⟨0, _⟩ => ⟨S2x1x128, .i32⟩
  | .local .scVector .vmem, ⟨1, _⟩ => ⟨S2x128x256, .i32⟩
  | _, _ => ⟨S81920x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_arg0_scv : Ref sig .scVector := ⟨.hbm, 0, rfl⟩
abbrev main_v5_scv : Ref sig .scVector := ⟨.hbm, 7, rfl⟩
abbrev main_v6_scv : Ref sig .scVector := ⟨.hbm, 8, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k0_off2 (i : grid0.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k0_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k0_off5 (i : grid0.Coords) (arg10_r0 : BitVec 32) : Fin 2 → Nat :=
  let c0_i32_105_r0 : BitVec 32 := 0#32
  let c128_i32_102_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_102_r0 v76_r0
  ![0, v145_r0.toNat]
def k0_off6 (arg6_r0 : BitVec 32) : Fin 1 → Nat :=
  let c2_i32_101_r0 : BitVec 32 := 2#32
  let v144_r0 : BitVec 32 := Scalar.remui arg6_r0 c2_i32_101_r0
  ![v144_r0.toNat]
def k0_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k0_off8 (i : grid0.Coords) (arg10_r0 : BitVec 32) : Fin 2 → Nat :=
  let c0_i32_105_r0 : BitVec 32 := 0#32
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_101_r0 v66_r0
  ![0, v144_r0.toNat]
def k0_off9 (arg7_r0 : BitVec 32) : Fin 1 → Nat :=
  let c2_i32_102_r0 : BitVec 32 := 2#32
  let v145_r0 : BitVec 32 := Scalar.remui arg7_r0 c2_i32_102_r0
  ![v145_r0.toNat]
def k0_off10 (arg8_r0 : BitVec 32) : Fin 3 → Nat :=
  let c2_i32_82_r0 : BitVec 32 := 2#32
  let v109_r0 : BitVec 32 := Scalar.remui arg8_r0 c2_i32_82_r0
  let c0_i32_101_r1 : BitVec 32 := 0#32
  let c0_i32_102_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_81_r0 : BitVec 32 := 2#32
  let v108_r0 : BitVec 32 := Scalar.remui arg7_r0 c2_i32_81_r0
  let c0_i32_105_r1 : BitVec 32 := 0#32
  let c0_i32_106_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k0_off13 (i : grid0.Coords) (arg10_r0 : BitVec 32) : Fin 2 → Nat :=
  let c128_i32_102_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_102_r0 v66_r0
  let c0_i32_105_r0 : BitVec 32 := 0#32
  ![v145_r0.toNat, 0]
def k0_off14 (arg8_r0 : BitVec 32) : Fin 1 → Nat :=
  let c2_i32_101_r0 : BitVec 32 := 2#32
  let v144_r0 : BitVec 32 := Scalar.remui arg8_r0 c2_i32_101_r0
  ![v144_r0.toNat]
def k0_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k0_off16 (i : grid0.Coords) (arg10_r0 : BitVec 32) : Fin 2 → Nat :=
  let c128_i32_102_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_102_r0 v71_r0
  let c0_i32_105_r0 : BitVec 32 := 0#32
  ![v145_r0.toNat, 0]
def k0_off17 (arg9_r0 : BitVec 32) : Fin 1 → Nat :=
  let c2_i32_101_r0 : BitVec 32 := 2#32
  let v144_r0 : BitVec 32 := Scalar.remui arg9_r0 c2_i32_101_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x65536.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x65536.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S65536x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S65536x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x65536.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x65536.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S65536x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S65536x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k0_off19 (i : grid0.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k0_chk5 (i : grid0.Coords) (v33_4_r0 : BitVec 32) : Prop :=
  (∀ a, (k0_off19 i v33_4_r0) a + S128x256.size a ≤ S65536x256.size a)
theorem k0_off19_inb : ∀ (i : grid0.Coords) (v33_4_r0 : BitVec 32) (k0_hw5 : k0_chk5 i v33_4_r0), ∀ a, (k0_off19 i v33_4_r0) a + S128x256.size a ≤ S65536x256.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S81920x256 : Shape := ⟨2, ![81920, 256]⟩
abbrev S32768x2 : Shape := ⟨2, ![32768, 2]⟩
abbrev S32768x1 : Shape := ⟨2, ![32768, 1]⟩
abbrev S32768 : Shape := ⟨1, ![32768]⟩
abbrev S_ : Shape := ⟨0, ![]⟩
abbrev S32768x256 : Shape := ⟨2, ![32768, 256]⟩
abbrev S65536x256 : Shape := ⟨2, ![65536, 256]⟩

abbrev nBuf : Space → Nat
  | .hbm => 25
  | .vmem => 0
  | .smem => 0
  | _ => 0

abbrev bufTy : (tb : Table) → Fin (tcTables nBuf tb) → BufTy
  | .hbm, ⟨0, _⟩ => ⟨S81920x256, .i32⟩
  | .hbm, ⟨1, _⟩ => ⟨S32768x2, .i32⟩
  | .hbm, ⟨2, _⟩ => ⟨S32768x1, .i32⟩
  | .hbm, ⟨3, _⟩ => ⟨S32768, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768x256, .i32⟩
  | .hbm, ⟨13, _⟩ => ⟨S32768x1, .i32⟩
  | .hbm, ⟨14, _⟩ => ⟨S32768, .i32⟩
  | .hbm, ⟨15, _⟩ => ⟨S_, .i32⟩
  | .hbm, ⟨16, _⟩ => ⟨S32768, .i32⟩
  | .hbm, ⟨17, _⟩ => ⟨S32768, .i1⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S32768, .i32⟩
  | .hbm, ⟨22, _⟩ => ⟨S32768x1, .i32⟩
  | .hbm, ⟨23, _⟩ => ⟨S32768x256, .i32⟩
  | .hbm, ⟨24, _⟩ => ⟨S65536x256, .i32⟩
  | _, _ => ⟨S81920x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Inproj.lean ====
abbrev S16x2048x1024 : Shape := ⟨3, ![16, 2048, 1024]⟩
abbrev S16x2048 : Shape := ⟨2, ![16, 2048]⟩
abbrev S1x1024 : Shape := ⟨2, ![1, 1024]⟩
abbrev S1x1024x11296 : Shape := ⟨3, ![1, 1024, 11296]⟩
abbrev S1x32 : Shape := ⟨2, ![1, 32]⟩
abbrev S32 : Shape := ⟨1, ![32]⟩
abbrev S_ : Shape := ⟨0, ![]⟩
abbrev S32768x1 : Shape := ⟨2, ![32768, 1]⟩
abbrev S32768x32 : Shape := ⟨2, ![32768, 32]⟩
abbrev S1x32768x1x32 : Shape := ⟨4, ![1, 32768, 1, 32]⟩
abbrev S1x32768x4x32 : Shape := ⟨4, ![1, 32768, 4, 32]⟩
abbrev S32768x128 : Shape := ⟨2, ![32768, 128]⟩
abbrev S64 : Shape := ⟨1, ![64]⟩
abbrev S128 : Shape := ⟨1, ![128]⟩
abbrev S1x128 : Shape := ⟨2, ![1, 128]⟩
abbrev S8 : Shape := ⟨1, ![8]⟩
abbrev S8x1 : Shape := ⟨2, ![8, 1]⟩
abbrev S8x128 : Shape := ⟨2, ![8, 128]⟩
abbrev S1024 : Shape := ⟨1, ![1024]⟩
abbrev S32768x1024 : Shape := ⟨2, ![32768, 1024]⟩
abbrev S1024x11296 : Shape := ⟨2, ![1024, 11296]⟩
abbrev S1024x4096 : Shape := ⟨2, ![1024, 4096]⟩
abbrev S1024x2048 : Shape := ⟨2, ![1024, 2048]⟩
abbrev S1024x1024 : Shape := ⟨2, ![1024, 1024]⟩
abbrev S1024x1 : Shape := ⟨2, ![1024, 1]⟩
abbrev S1024x11264 : Shape := ⟨2, ![1024, 11264]⟩
abbrev S1024x32 : Shape := ⟨2, ![1024, 32]⟩
abbrev S1024x128 : Shape := ⟨2, ![1024, 128]⟩
abbrev S32768x11264 : Shape := ⟨2, ![32768, 11264]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩
abbrev S256x1024 : Shape := ⟨2, ![256, 1024]⟩
abbrev S256x128 : Shape := ⟨2, ![256, 128]⟩
abbrev S32768x6144 : Shape := ⟨2, ![32768, 6144]⟩
abbrev S32768x3072 : Shape := ⟨2, ![32768, 3072]⟩
abbrev S32768x8x2x2x32 : Shape := ⟨5, ![32768, 8, 2, 2, 32]⟩

abbrev nBuf : Space → Nat
  | .hbm => 197
  | .vmem => 16
  | .smem => 0
  | _ => 0

abbrev hbmTy0_0 (i : Nat) : BufTy := match i % 128 with
  | 0 => ⟨S16x2048x1024, .f32⟩
  | 1 => ⟨S16x2048, .i32⟩
  | 2 => ⟨S1x1024, .f32⟩
  | 3 => ⟨S1x1024x11296, .f32⟩
  | 4 => ⟨S1x32, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S16x2048, .f32⟩
  | 22 => ⟨S32768x1, .f32⟩
  | 23 => ⟨S1x32, .f32⟩
  | 24 => ⟨S32768x32, .f32⟩
  | 25 => ⟨S32768x32, .f32⟩
  | 26 => ⟨S32768x32, .f32⟩
  | 27 => ⟨S32768x32, .f32⟩
  | 28 => ⟨S1x32768x1x32, .f32⟩
  | 29 => ⟨S1x32768x4x32, .f32⟩
  | 30 => ⟨S32768x128, .f32⟩
  | 31 => ⟨S_, .f32⟩
  | 32 => ⟨S64, .f32⟩
  | 33 => ⟨S64, .f32⟩
  | 34 => ⟨S_, .f32⟩
  | 35 => ⟨S64, .f32⟩
  | 36 => ⟨S128, .f32⟩
  | 37 => ⟨S32768x32, .f32⟩
  | 38 => ⟨S1x32768x1x32, .f32⟩
  | 39 => ⟨S1x32768x4x32, .f32⟩
  | 40 => ⟨S32768x128, .f32⟩
  | 41 => ⟨S1x128, .f32⟩
  | 42 => ⟨S32768x128, .f32⟩
  | 43 => ⟨S32768x128, .f32⟩
  | 44 => ⟨S128, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S128, .i32⟩
  | 52 => ⟨S128, .i32⟩
  | 53 => ⟨S_, .i32⟩
  | 54 => ⟨S128, .i32⟩
  | 55 => ⟨S128, .i1⟩
  | 56 => ⟨S_, .i32⟩
  | 57 => ⟨S128, .i32⟩
  | 58 => ⟨S128, .i1⟩
  | 59 => ⟨S_, .i32⟩
  | 60 => ⟨S_, .i1⟩
  | 61 => ⟨S128, .i1⟩
  | 62 => ⟨S128, .i1⟩
  | 63 => ⟨S128, .i1⟩
  | 64 => ⟨S128, .i32⟩
  | 65 => ⟨S128, .i32⟩
  | 66 => ⟨S128, .i32⟩
  | 67 => ⟨S_, .i32⟩
  | 68 => ⟨S_, .i32⟩
  | 69 => ⟨S128, .i32⟩
  | 70 => ⟨S128, .i32⟩
  | 71 => ⟨S128, .i32⟩
  | 72 => ⟨S_, .i32⟩
  | 73 => ⟨S128, .i32⟩
  | 74 => ⟨S128, .i1⟩
  | 75 => ⟨S128, .i32⟩
  | 76 => ⟨S128, .i32⟩
  | 77 => ⟨S_, .i32⟩
  | 78 => ⟨S128, .i32⟩
  | 79 => ⟨S128, .i1⟩
  | 80 => ⟨S128, .i1⟩
  | 81 => ⟨S_, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S_, .i32⟩
  | 89 => ⟨S_, .i32⟩
  | 90 => ⟨S128, .i32⟩
  | 91 => ⟨S128, .i32⟩
  | 92 => ⟨S128, .i32⟩
  | 93 => ⟨S_, .i32⟩
  | 94 => ⟨S128, .i32⟩
  | 95 => ⟨S128, .i1⟩
  | 96 => ⟨S128, .i32⟩
  | 97 => ⟨S128, .i32⟩
  | 98 => ⟨S_, .i32⟩
  | 99 => ⟨S128, .i32⟩
  | 100 => ⟨S128, .i1⟩
  | 101 => ⟨S128, .i1⟩
  | 102 => ⟨S_, .i32⟩
  | 103 => ⟨S128, .i32⟩
  | 104 => ⟨S128, .i32⟩
  | 105 => ⟨S128, .i32⟩
  | 106 => ⟨S_, .i32⟩
  | 107 => ⟨S128, .i32⟩
  | 108 => ⟨S128, .i32⟩
  | 109 => ⟨S128, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S128, .i32⟩
  | 117 => ⟨S128, .i32⟩
  | 118 => ⟨S_, .i32⟩
  | 119 => ⟨S128, .i32⟩
  | 120 => ⟨S128, .i1⟩
  | 121 => ⟨S_, .i32⟩
  | 122 => ⟨S128, .i32⟩
  | 123 => ⟨S128, .i1⟩
  | 124 => ⟨S_, .i32⟩
  | 125 => ⟨S_, .i1⟩
  | 126 => ⟨S128, .i1⟩
  | 127 => ⟨S128, .i1⟩
  | _ => ⟨S16x2048x1024, .f32⟩

abbrev hbmTy0_1 (i : Nat) : BufTy := match i % 128 with
  | 0 => ⟨S128, .i1⟩
  | 1 => ⟨S128, .i32⟩
  | 2 => ⟨S128, .i32⟩
  | 3 => ⟨S128, .i32⟩
  | 4 => ⟨S128, .i32⟩
  | 5 => ⟨S8, .i32⟩
  | 6 => ⟨S8x1, .i32⟩
  | 7 => ⟨S_, .i32⟩
  | 8 => ⟨S8x1, .i32⟩
  | 9 => ⟨S8x1, .i32⟩
  | 10 => ⟨S1x128, .i32⟩
  | 11 => ⟨S8x128, .i32⟩
  | 12 => ⟨S8x128, .i32⟩
  | 13 => ⟨S8x128, .i32⟩
  | 14 => ⟨S1024, .i32⟩
  | 15 => ⟨S32768x1024, .f32⟩
  | 16 => ⟨S1024x11296, .f32⟩
  | 17 => ⟨S1024x4096, .f32⟩
  | 18 => ⟨S1024x2048, .f32⟩
  | 19 => ⟨S1024x1024, .f32⟩
  | 20 => ⟨S_, .i32⟩
  | 21 => ⟨S1024, .i32⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S1024x1024, .f32⟩
  | 29 => ⟨S1024x1024, .f32⟩
  | 30 => ⟨S_, .i32⟩
  | 31 => ⟨S1024, .i32⟩
  | 32 => ⟨S1024, .i1⟩
  | 33 => ⟨S_, .i32⟩
  | 34 => ⟨S1024, .i32⟩
  | 35 => ⟨S1024, .i32⟩
  | 36 => ⟨S1024, .i32⟩
  | 37 => ⟨S1024x1, .i32⟩
  | 38 => ⟨S1024x1024, .f32⟩
  | 39 => ⟨S1024x1024, .f32⟩
  | 40 => ⟨S1024x1024, .f32⟩
  | 41 => ⟨S1024x1024, .f32⟩
  | 42 => ⟨S1024x11264, .f32⟩
  | 43 => ⟨S1024x11264, .bf16⟩
  | 44 => ⟨S1024x32, .f32⟩
  | 45 => ⟨S_, .i32⟩
  | 46 => ⟨S_, .f32⟩
  | 47 => ⟨S1024x128, .f32⟩
  | 48 => ⟨S1024x128, .bf16⟩
  | 49 => ⟨S32, .f32⟩
  | 50 => ⟨S_, .i32⟩
  | 51 => ⟨S_, .f32⟩
  | 52 => ⟨S128, .f32⟩
  | 53 => ⟨S1x128, .f32⟩
  | 54 => ⟨S1024, .f32⟩
  | 55 => ⟨S1x1024, .f32⟩
  | 56 => ⟨S32768x11264, .bf16⟩
  | 57 => ⟨S32768x128, .f32⟩
  | 58 => ⟨S32768x6144, .bf16⟩
  | 59 => ⟨S32768x3072, .bf16⟩
  | 60 => ⟨S32768x32, .f32⟩
  | 61 => ⟨S32768x1024, .bf16⟩
  | 62 => ⟨S32768x8x2x2x32, .bf16⟩
  | 63 => ⟨S32768x8x2x2x32, .bf16⟩
  | 64 => ⟨S32768x1024, .bf16⟩
  | 65 => ⟨S32768x1024, .bf16⟩
  | 66 => ⟨S32768x8x2x2x32, .bf16⟩
  | 67 => ⟨S32768x8x2x2x32, .bf16⟩
  | 68 => ⟨S32768x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x1024, .bf16⟩
  | .local _ .vmem, ⟨12, _⟩ => ⟨S2048x1024, .bf16⟩
  | .local _ .vmem, ⟨13, _⟩ => ⟨S2048x128, .f32⟩
  | .local _ .vmem, ⟨14, _⟩ => ⟨S2048x128, .f32⟩
  | .local _ .vmem, ⟨15, _⟩ => ⟨S2048x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_1 : Ref sig .tc := ⟨.hbm, 53, rfl⟩
abbrev main_call0_v5 : Ref sig .tc := ⟨.hbm, 54, rfl⟩
abbrev main_call0_v6 : Ref sig .tc := ⟨.hbm, 55, rfl⟩
abbrev main_call0_c_2 : Ref sig .tc := ⟨.hbm, 56, rfl⟩
abbrev main_call0_v7 : Ref sig .tc := ⟨.hbm, 57, rfl⟩
abbrev main_call0_v8 : Ref sig .tc := ⟨.hbm, 58, rfl⟩
abbrev main_call0_c_3 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_v33 : Ref sig .tc := ⟨.hbm, 66, rfl⟩
abbrev main_c_6 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_c : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_0 : Ref sig .tc := ⟨.hbm, 81, rfl⟩
abbrev main_call1_v12 : Ref sig .tc := ⟨.hbm, 82, rfl⟩
abbrev main_call1_v13 : Ref sig .tc := ⟨.hbm, 83, rfl⟩
abbrev main_v34 : Ref sig .tc := ⟨.hbm, 84, rfl⟩
abbrev main_c_7 : Ref sig .tc := ⟨.hbm, 85, rfl⟩
abbrev main_v35 : Ref sig .tc := ⟨.hbm, 86, rfl⟩
abbrev main_v36 : Ref sig .tc := ⟨.hbm, 87, rfl⟩
abbrev main_c_8 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_c : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_0 : Ref sig .tc := ⟨.hbm, 102, rfl⟩
abbrev main_call2_v12 : Ref sig .tc := ⟨.hbm, 103, rfl⟩
abbrev main_call2_v13 : Ref sig .tc := ⟨.hbm, 104, rfl⟩
abbrev main_v37 : Ref sig .tc := ⟨.hbm, 105, rfl⟩
abbrev main_c_9 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_c_10 : Ref sig .tc := ⟨.hbm, 110, rfl⟩
abbrev main_call3_v0 : Ref sig .tc := ⟨.hbm, 111, rfl⟩
abbrev main_call3_c : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_1 : Ref sig .tc := ⟨.hbm, 118, rfl⟩
abbrev main_call3_v5 : Ref sig .tc := ⟨.hbm, 119, rfl⟩
abbrev main_call3_v6 : Ref sig .tc := ⟨.hbm, 120, rfl⟩
abbrev main_call3_c_2 : Ref sig .tc := ⟨.hbm, 121, rfl⟩
abbrev main_call3_v7 : Ref sig .tc := ⟨.hbm, 122, rfl⟩
abbrev main_call3_v8 : Ref sig .tc := ⟨.hbm, 123, rfl⟩
abbrev main_call3_c_3 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_c_11 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_c_12 : Ref sig .tc := ⟨.hbm, 148, rfl⟩
abbrev main_v57 : Ref sig .tc := ⟨.hbm, 149, rfl⟩
abbrev main_v58 : Ref sig .tc := ⟨.hbm, 150, rfl⟩
abbrev main_c_13 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_c_14 : Ref sig .tc := ⟨.hbm, 158, rfl⟩
abbrev main_v65 : Ref sig .tc := ⟨.hbm, 159, rfl⟩
abbrev main_v66 : Ref sig .tc := ⟨.hbm, 160, rfl⟩
abbrev main_c_15 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_c_16 : Ref sig .tc := ⟨.hbm, 173, rfl⟩
abbrev main_call4_v0 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_c_17 : Ref sig .tc := ⟨.hbm, 178, rfl⟩
abbrev main_call5_v0 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_v85_0 : Ref sig .tc := ⟨.hbm, 184, rfl⟩
abbrev main_v85_1 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c6_i32 : BitVec 32 := 6#32
  let v3 : BitVec 1 := Scalar.cmpi .sge arg1 c6_i32
  let c8_i32 : BitVec 32 := 8#32
  let v4 : BitVec 1 := Scalar.cmpi .slt arg1 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c6_i32 : BitVec 32 := 6#32
  let v3 : BitVec 1 := Scalar.cmpi .sge arg1 c6_i32
  let c8_i32 : BitVec 32 := 8#32
  let v4 : BitVec 1 := Scalar.cmpi .slt arg1 c8_i32
  let v5 : BitVec 1 := Scalar.andi v3 v4
  let v_true : BitVec 1 := 1#1
  let v8 : BitVec 1 := Scalar.xori v5 v_true
  let v9 : BitVec 32 := Scalar.extui v8
  let c0_i32_2 : BitVec 32 := 0#32
  let v10 : BitVec 1 := Scalar.cmpi .ne v9 c0_i32_2
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InprojRefIdeal.lean ====
abbrev S16x2048x1024 : Shape := ⟨3, ![16, 2048, 1024]⟩
abbrev S16x2048 : Shape := ⟨2, ![16, 2048]⟩
abbrev S1x1024 : Shape := ⟨2, ![1, 1024]⟩
abbrev S1x1024x11296 : Shape := ⟨3, ![1, 1024, 11296]⟩
abbrev S1x32 : Shape := ⟨2, ![1, 32]⟩
abbrev S32 : Shape := ⟨1, ![32]⟩
abbrev S_ : Shape := ⟨0, ![]⟩
abbrev S16x2048x1 : Shape := ⟨3, ![16, 2048, 1]⟩
abbrev S1x1x32 : Shape := ⟨3, ![1, 1, 32]⟩
abbrev S16x2048x32 : Shape := ⟨3, ![16, 2048, 32]⟩
abbrev S1024 : Shape := ⟨1, ![1024]⟩
abbrev S1x1x1024 : Shape := ⟨3, ![1, 1, 1024]⟩
abbrev S1024x11296 : Shape := ⟨2, ![1024, 11296]⟩
abbrev S16x2048x11296 : Shape := ⟨3, ![16, 2048, 11296]⟩
abbrev S16x2048x2048 : Shape := ⟨3, ![16, 2048, 2048]⟩
abbrev S16x2048x4096 : Shape := ⟨3, ![16, 2048, 4096]⟩
abbrev S16x2048x8x2x64 : Shape := ⟨5, ![16, 2048, 8, 2, 64]⟩
abbrev S16x2048x1x1x32 : Shape := ⟨5, ![16, 2048, 1, 1, 32]⟩
abbrev S16x2048x8x2x32 : Shape := ⟨5, ![16, 2048, 8, 2, 32]⟩
abbrev S16x2048x6144 : Shape := ⟨3, ![16, 2048, 6144]⟩
abbrev S32768x6144 : Shape := ⟨2, ![32768, 6144]⟩
abbrev S16x2048x3072 : Shape := ⟨3, ![16, 2048, 3072]⟩
abbrev S32768x3072 : Shape := ⟨2, ![32768, 3072]⟩
abbrev S32768x32 : Shape := ⟨2, ![32768, 32]⟩
abbrev S32768x1024 : Shape := ⟨2, ![32768, 1024]⟩

abbrev nBuf : Space → Nat
  | .hbm => 120
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S1x1024, .f32⟩
  | .hbm, ⟨3, _⟩ => ⟨S1x1024x11296, .f32⟩
  | .hbm, ⟨4, _⟩ => ⟨S1x32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S16x2048, .f32⟩
  | .hbm, ⟨22, _⟩ => ⟨S16x2048x1, .f32⟩
  | .hbm, ⟨23, _⟩ => ⟨S1x1x32, .f32⟩
  | .hbm, ⟨24, _⟩ => ⟨S16x2048x32, .f32⟩
  | .hbm, ⟨25, _⟩ => ⟨S16x2048x32, .f32⟩
  | .hbm, ⟨26, _⟩ => ⟨S16x2048x32, .f32⟩
  | .hbm, ⟨27, _⟩ => ⟨S16x2048x32, .f32⟩
  | .hbm, ⟨28, _⟩ => ⟨S16x2048x32, .f32⟩
  | .hbm, ⟨29, _⟩ => ⟨S1024, .f32⟩
  | .hbm, ⟨30, _⟩ => ⟨S16x2048x1024, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | .hbm, ⟨46, _⟩ => ⟨S1024x11296, .f32⟩
  | .hbm, ⟨47, _⟩ => ⟨S16x2048x11296, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x2048, .f32⟩
  | .hbm, ⟨52, _⟩ => ⟨S16x2048x4096, .f32⟩
  | .hbm, ⟨53, _⟩ => ⟨S16x2048x32, .f32⟩
  | .hbm, ⟨54, _⟩ => ⟨S16x2048x1024, .f32⟩
  | .hbm, ⟨55, _⟩ => ⟨S16x2048x1024, .f32⟩
  | .hbm, ⟨56, _⟩ => ⟨S32, .f32⟩
  | .hbm, ⟨57, _⟩ => ⟨S1x1x32, .f32⟩
  | .hbm, ⟨58, _⟩ => ⟨S16x2048x32, .f32⟩
  | .hbm, ⟨59, _⟩ => ⟨S16x2048x32, .f32⟩
  | .hbm, ⟨60, _⟩ => ⟨S_, .f32⟩
  | .hbm, ⟨61, _⟩ => ⟨S16x2048x32, .f32⟩
  | .hbm, ⟨62, _⟩ => ⟨S16x2048x32, .f32⟩
  | .hbm, ⟨63, _⟩ => ⟨S16x2048x32, .f32⟩
  | .hbm, ⟨64, _⟩ => ⟨S16x2048x32, .f32⟩
  | .hbm, ⟨65, _⟩ => ⟨S16x2048x32, .i1⟩
  | .hbm, ⟨66, _⟩ => ⟨S16x2048x32, .f32⟩
  | .hbm, ⟨67, _⟩ => ⟨S16x2048x32, .f32⟩
  | .hbm, ⟨68, _⟩ => ⟨S16x2048x32, .f32⟩
  | .hbm, ⟨69, _⟩ => ⟨S16x2048x32, .f32⟩
  | .hbm, ⟨70, _⟩ => ⟨S16x2048x32, .f32⟩
  | .hbm, ⟨71, _⟩ => ⟨S16x2048x32, .f32⟩
  | .hbm, ⟨72, _⟩ => ⟨S16x2048x32, .f32⟩
  | .hbm, ⟨73, _⟩ => ⟨S16x2048x32, .f32⟩
  | .hbm, ⟨74, _⟩ => ⟨S16x2048x8x2x64, .f32⟩
  | .hbm, ⟨75, _⟩ => ⟨S16x2048x1x1x32, .f32⟩
  | .hbm, ⟨76, _⟩ => ⟨S16x2048x1x1x32, .f32⟩
  | .hbm, ⟨77, _⟩ => ⟨S16x2048x8x2x32, .f32⟩
  | .hbm, ⟨78, _⟩ => ⟨S16x2048x8x2x32, .f32⟩
  | .hbm, ⟨79, _⟩ => ⟨S16x2048x8x2x32, .f32⟩
  | .hbm, ⟨80, _⟩ => ⟨S16x2048x8x2x32, .f32⟩
  | .hbm, ⟨81, _⟩ => ⟨S16x2048x8x2x32, .f32⟩
  | .hbm, ⟨82, _⟩ => ⟨S16x2048x8x2x32, .f32⟩
  | .hbm, ⟨83, _⟩ => ⟨S16x2048x8x2x32, .f32⟩
  | .hbm, ⟨84, _⟩ => ⟨S16x2048x8x2x32, .f32⟩
  | .hbm, ⟨85, _⟩ => ⟨S16x2048x8x2x32, .f32⟩
  | .hbm, ⟨86, _⟩ => ⟨S16x2048x8x2x32, .f32⟩
  | .hbm, ⟨87, _⟩ => ⟨S16x2048x8x2x32, .f32⟩
  | .hbm, ⟨88, _⟩ => ⟨S16x2048x8x2x32, .f32⟩
  | .hbm, ⟨89, _⟩ => ⟨S16x2048x8x2x64, .f32⟩
  | .hbm, ⟨90, _⟩ => ⟨S_, .f32⟩
  | .hbm, ⟨91, _⟩ => ⟨S16x2048x8x2x64, .f32⟩
  | .hbm, ⟨92, _⟩ => ⟨S16x2048x8x2x64, .f32⟩
  | .hbm, ⟨93, _⟩ => ⟨S16x2048x8x2x64, .f32⟩
  | .hbm, ⟨94, _⟩ => ⟨S16x2048x1x1x32, .f32⟩
  | .hbm, ⟨95, _⟩ => ⟨S16x2048x1x1x32, .f32⟩
  | .hbm, ⟨96, _⟩ => ⟨S16x2048x8x2x32, .f32⟩
  | .hbm, ⟨97, _⟩ => ⟨S16x2048x8x2x32, .f32⟩
  | .hbm, ⟨98, _⟩ => ⟨S16x2048x8x2x32, .f32⟩
  | .hbm, ⟨99, _⟩ => ⟨S16x2048x8x2x32, .f32⟩
  | .hbm, ⟨100, _⟩ => ⟨S16x2048x8x2x32, .f32⟩
  | .hbm, ⟨101, _⟩ => ⟨S16x2048x8x2x32, .f32⟩
  | .hbm, ⟨102, _⟩ => ⟨S16x2048x8x2x32, .f32⟩
  | .hbm, ⟨103, _⟩ => ⟨S16x2048x8x2x32, .f32⟩
  | .hbm, ⟨104, _⟩ => ⟨S16x2048x8x2x32, .f32⟩
  | .hbm, ⟨105, _⟩ => ⟨S16x2048x8x2x32, .f32⟩
  | .hbm, ⟨106, _⟩ => ⟨S16x2048x8x2x32, .f32⟩
  | .hbm, ⟨107, _⟩ => ⟨S16x2048x8x2x32, .f32⟩
  | .hbm, ⟨108, _⟩ => ⟨S16x2048x8x2x64, .f32⟩
  | .hbm, ⟨109, _⟩ => ⟨S16x2048x6144, .f32⟩
  | .hbm, ⟨110, _⟩ => ⟨S32768x6144, .f32⟩
  | .hbm, ⟨111, _⟩ => ⟨S32768x6144, .bf16⟩
  | .hbm, ⟨112, _⟩ => ⟨S16x2048x3072, .f32⟩
  | .hbm, ⟨113, _⟩ => ⟨S32768x3072, .f32⟩
  | .hbm, ⟨114, _⟩ => ⟨S32768x3072, .bf16⟩
  | .hbm, ⟨115, _⟩ => ⟨S32768x32, .f32⟩
  | .hbm, ⟨116, _⟩ => ⟨S32768x1024, .f32⟩
  | .hbm, ⟨117, _⟩ => ⟨S32768x1024, .bf16⟩
  | .hbm, ⟨118, _⟩ => ⟨S32768x1024, .f32⟩
  | .hbm, ⟨119, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_7 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Merge.lean ====
abbrev S32768x1024 : Shape := ⟨2, ![32768, 1024]⟩
abbrev S32768x2048 : Shape := ⟨2, ![32768, 2048]⟩
abbrev S32768x11264 : Shape := ⟨2, ![32768, 11264]⟩
abbrev S1x1024x1024 : Shape := ⟨3, ![1, 1024, 1024]⟩
abbrev S1x2048x1024 : Shape := ⟨3, ![1, 2048, 1024]⟩
abbrev S1x1024 : Shape := ⟨2, ![1, 1024]⟩
abbrev S1x1024x8 : Shape := ⟨3, ![1, 1024, 8]⟩
abbrev S1x8 : Shape := ⟨2, ![1, 8]⟩
abbrev S1x1024x64 : Shape := ⟨3, ![1, 1024, 64]⟩
abbrev S1x64 : Shape := ⟨2, ![1, 64]⟩
abbrev S1024x8 : Shape := ⟨2, ![1024, 8]⟩
abbrev S1024x64 : Shape := ⟨2, ![1024, 64]⟩
abbrev S1024x72 : Shape := ⟨2, ![1024, 72]⟩
abbrev S_ : Shape := ⟨0, ![]⟩
abbrev S1024x128 : Shape := ⟨2, ![1024, 128]⟩
abbrev S1024x256 : Shape := ⟨2, ![1024, 256]⟩
abbrev S8 : Shape := ⟨1, ![8]⟩
abbrev S64 : Shape := ⟨1, ![64]⟩
abbrev S72 : Shape := ⟨1, ![72]⟩
abbrev S128 : Shape := ⟨1, ![128]⟩
abbrev S1x128 : Shape := ⟨2, ![1, 128]⟩
abbrev S1024x1024 : Shape := ⟨2, ![1024, 1024]⟩
abbrev S2048x1024 : Shape := ⟨2, ![2048, 1024]⟩
abbrev S1024 : Shape := ⟨1, ![1024]⟩
abbrev S32768x256 : Shape := ⟨2, ![32768, 256]⟩
abbrev S32768x8 : Shape := ⟨2, ![32768, 8]⟩
abbrev S8x128 : Shape := ⟨2, ![8, 128]⟩
abbrev S512x1024 : Shape := ⟨2, ![512, 1024]⟩
abbrev S512x2048 : Shape := ⟨2, ![512, 2048]⟩
abbrev S512x256 : Shape := ⟨2, ![512, 256]⟩
abbrev S512x8 : Shape := ⟨2, ![512, 8]⟩
abbrev S512 : Shape := ⟨1, ![512]⟩
abbrev S512x1 : Shape := ⟨2, ![512, 1]⟩
abbrev S512x512 : Shape := ⟨2, ![512, 512]⟩
abbrev S512x128 : Shape := ⟨2, ![512, 128]⟩

abbrev nBuf : Space → Nat
  | .hbm => 44
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x2048, .bf16⟩
  | .hbm, ⟨3, _⟩ => ⟨S32768x11264, .bf16⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1x1024, .f32⟩
  | .hbm, ⟨8, _⟩ => ⟨S1x1024x8, .f32⟩
  | .hbm, ⟨9, _⟩ => ⟨S1x8, .f32⟩
  | .hbm, ⟨10, _⟩ => ⟨S1x1024x64, .f32⟩
  | .hbm, ⟨11, _⟩ => ⟨S1x64, .f32⟩
  | .hbm, ⟨12, _⟩ => ⟨S1024x8, .f32⟩
  | .hbm, ⟨13, _⟩ => ⟨S1024x64, .f32⟩
  | .hbm, ⟨14, _⟩ => ⟨S1024x72, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1024x256, .bf16⟩
  | .hbm, ⟨23, _⟩ => ⟨S8, .f32⟩
  | .hbm, ⟨24, _⟩ => ⟨S64, .f32⟩
  | .hbm, ⟨25, _⟩ => ⟨S72, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1024x1024, .f32⟩
  | .hbm, ⟨31, _⟩ => ⟨S1024x1024, .bf16⟩
  | .hbm, ⟨32, _⟩ => ⟨S2048x1024, .f32⟩
  | .hbm, ⟨33, _⟩ => ⟨S2048x1024, .bf16⟩
  | .hbm, ⟨34, _⟩ => ⟨S1024x1024, .f32⟩
  | .hbm, ⟨35, _⟩ => ⟨S1024x1024, .bf16⟩
  | .hbm, ⟨36, _⟩ => ⟨S1024, .f32⟩
  | .hbm, ⟨37, _⟩ => ⟨S1x1024, .f32⟩
  | .hbm, ⟨38, _⟩ => ⟨S32768x1024, .f32⟩
  | .hbm, ⟨39, _⟩ => ⟨S32768x256, .i32⟩
  | .hbm, ⟨40, _⟩ => ⟨S32768x256, .i32⟩
  | .hbm, ⟨41, _⟩ => ⟨S32768x8, .f32⟩
  | .hbm, ⟨42, _⟩ => ⟨S32768x8, .i32⟩
  | .hbm, ⟨43, _⟩ => ⟨S8x128, .i32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x256, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x256, .i32⟩
  | .local _ .vmem, ⟨19, _⟩ => ⟨S512x256, .i32⟩
  | .local _ .vmem, ⟨20, _⟩ => ⟨S512x256, .i32⟩
  | .local _ .vmem, ⟨21, _⟩ => ⟨S512x256, .i32⟩
  | .local _ .vmem, ⟨22, _⟩ => ⟨S512x8, .f32⟩
  | .local _ .vmem, ⟨23, _⟩ => ⟨S512x8, .f32⟩
  | .local _ .vmem, ⟨24, _⟩ => ⟨S512x8, .i32⟩
  | .local _ .vmem, ⟨25, _⟩ => ⟨S512x8, .i32⟩
  | .local _ .vmem, ⟨26, _⟩ => ⟨S8x128, .i32⟩
  | .local _ .vmem, ⟨27, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev main_v22_3 : Ref sig .tc := ⟨.hbm, 41, rfl⟩
abbrev main_v22_4 : Ref sig .tc := ⟨.hbm, 42, rfl⟩
abbrev main_v22_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x8 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeIdeal.lean ====
abbrev S32768x1024 : Shape := ⟨2, ![32768, 1024]⟩
abbrev S32768x2048 : Shape := ⟨2, ![32768, 2048]⟩
abbrev S32768x11264 : Shape := ⟨2, ![32768, 11264]⟩
abbrev S1x1024x1024 : Shape := ⟨3, ![1, 1024, 1024]⟩
abbrev S1x2048x1024 : Shape := ⟨3, ![1, 2048, 1024]⟩
abbrev S1x1024 : Shape := ⟨2, ![1, 1024]⟩
abbrev S1x1024x8 : Shape := ⟨3, ![1, 1024, 8]⟩
abbrev S1x8 : Shape := ⟨2, ![1, 8]⟩
abbrev S1x1024x64 : Shape := ⟨3, ![1, 1024, 64]⟩
abbrev S1x64 : Shape := ⟨2, ![1, 64]⟩
abbrev S1024x8 : Shape := ⟨2, ![1024, 8]⟩
abbrev S1024x64 : Shape := ⟨2, ![1024, 64]⟩
abbrev S1024x72 : Shape := ⟨2, ![1024, 72]⟩
abbrev S_ : Shape := ⟨0, ![]⟩
abbrev S1024x128 : Shape := ⟨2, ![1024, 128]⟩
abbrev S1024x256 : Shape := ⟨2, ![1024, 256]⟩
abbrev S8 : Shape := ⟨1, ![8]⟩
abbrev S64 : Shape := ⟨1, ![64]⟩
abbrev S72 : Shape := ⟨1, ![72]⟩
abbrev S128 : Shape := ⟨1, ![128]⟩
abbrev S1x128 : Shape := ⟨2, ![1, 128]⟩
abbrev S1024x1024 : Shape := ⟨2, ![1024, 1024]⟩
abbrev S2048x1024 : Shape := ⟨2, ![2048, 1024]⟩
abbrev S1024 : Shape := ⟨1, ![1024]⟩
abbrev S32768x2x256 : Shape := ⟨3, ![32768, 2, 256]⟩
abbrev S32768x8 : Shape := ⟨2, ![32768, 8]⟩
abbrev S8x128 : Shape := ⟨2, ![8, 128]⟩
abbrev S32768x1x256 : Shape := ⟨3, ![32768, 1, 256]⟩
abbrev S32768x256 : Shape := ⟨2, ![32768, 256]⟩
abbrev S512x1024 : Shape := ⟨2, ![512, 1024]⟩
abbrev S512x2048 : Shape := ⟨2, ![512, 2048]⟩
abbrev S512x256 : Shape := ⟨2, ![512, 256]⟩
abbrev S512x2x256 : Shape := ⟨3, ![512, 2, 256]⟩
abbrev S512x1x256 : Shape := ⟨3, ![512, 1, 256]⟩
abbrev S512x8 : Shape := ⟨2, ![512, 8]⟩
abbrev S512 : Shape := ⟨1, ![512]⟩
abbrev S512x1 : Shape := ⟨2, ![512, 1]⟩
abbrev S512x512 : Shape := ⟨2, ![512, 512]⟩
abbrev S512x128 : Shape := ⟨2, ![512, 128]⟩

abbrev nBuf : Space → Nat
  | .hbm => 44
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x2048, .bf16⟩
  | .hbm, ⟨3, _⟩ => ⟨S32768x11264, .bf16⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1x1024, .f32⟩
  | .hbm, ⟨8, _⟩ => ⟨S1x1024x8, .f32⟩
  | .hbm, ⟨9, _⟩ => ⟨S1x8, .f32⟩
  | .hbm, ⟨10, _⟩ => ⟨S1x1024x64, .f32⟩
  | .hbm, ⟨11, _⟩ => ⟨S1x64, .f32⟩
  | .hbm, ⟨12, _⟩ => ⟨S1024x8, .f32⟩
  | .hbm, ⟨13, _⟩ => ⟨S1024x64, .f32⟩
  | .hbm, ⟨14, _⟩ => ⟨S1024x72, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1024x256, .bf16⟩
  | .hbm, ⟨23, _⟩ => ⟨S8, .f32⟩
  | .hbm, ⟨24, _⟩ => ⟨S64, .f32⟩
  | .hbm, ⟨25, _⟩ => ⟨S72, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1024x1024, .f32⟩
  | .hbm, ⟨31, _⟩ => ⟨S1024x1024, .bf16⟩
  | .hbm, ⟨32, _⟩ => ⟨S2048x1024, .f32⟩
  | .hbm, ⟨33, _⟩ => ⟨S2048x1024, .bf16⟩
  | .hbm, ⟨34, _⟩ => ⟨S1024x1024, .f32⟩
  | .hbm, ⟨35, _⟩ => ⟨S1024x1024, .bf16⟩
  | .hbm, ⟨36, _⟩ => ⟨S1024, .f32⟩
  | .hbm, ⟨37, _⟩ => ⟨S1x1024, .f32⟩
  | .hbm, ⟨38, _⟩ => ⟨S32768x1024, .f32⟩
  | .hbm, ⟨39, _⟩ => ⟨S32768x2x256, .bf16⟩
  | .hbm, ⟨40, _⟩ => ⟨S32768x2x256, .bf16⟩
  | .hbm, ⟨41, _⟩ => ⟨S32768x8, .f32⟩
  | .hbm, ⟨42, _⟩ => ⟨S32768x8, .i32⟩
  | .hbm, ⟨43, _⟩ => ⟨S8x128, .i32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x256, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x2x256, .bf16⟩
  | .local _ .vmem, ⟨19, _⟩ => ⟨S512x2x256, .bf16⟩
  | .local _ .vmem, ⟨20, _⟩ => ⟨S512x2x256, .bf16⟩
  | .local _ .vmem, ⟨21, _⟩ => ⟨S512x2x256, .bf16⟩
  | .local _ .vmem, ⟨22, _⟩ => ⟨S512x8, .f32⟩
  | .local _ .vmem, ⟨23, _⟩ => ⟨S512x8, .f32⟩
  | .local _ .vmem, ⟨24, _⟩ => ⟨S512x8, .i32⟩
  | .local _ .vmem, ⟨25, _⟩ => ⟨S512x8, .i32⟩
  | .local _ .vmem, ⟨26, _⟩ => ⟨S8x128, .i32⟩
  | .local _ .vmem, ⟨27, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev main_v22_3 : Ref sig .tc := ⟨.hbm, 41, rfl⟩
abbrev main_v22_4 : Ref sig .tc := ⟨.hbm, 42, rfl⟩
abbrev main_v22_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x8 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeRefIdeal.lean ====
abbrev S32768x1024 : Shape := ⟨2, ![32768, 1024]⟩
abbrev S32768x2048 : Shape := ⟨2, ![32768, 2048]⟩
abbrev S32768x11264 : Shape := ⟨2, ![32768, 11264]⟩
abbrev S1x1024x1024 : Shape := ⟨3, ![1, 1024, 1024]⟩
abbrev S1x2048x1024 : Shape := ⟨3, ![1, 2048, 1024]⟩
abbrev S1x1024 : Shape := ⟨2, ![1, 1024]⟩
abbrev S1x1024x8 : Shape := ⟨3, ![1, 1024, 8]⟩
abbrev S1x8 : Shape := ⟨2, ![1, 8]⟩
abbrev S1x1024x64 : Shape := ⟨3, ![1, 1024, 64]⟩
abbrev S1x64 : Shape := ⟨2, ![1, 64]⟩
abbrev S_ : Shape := ⟨0, ![]⟩
abbrev S1024x1024 : Shape := ⟨2, ![1024, 1024]⟩
abbrev S2048x1024 : Shape := ⟨2, ![2048, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x2048, .bf16⟩
  | .hbm, ⟨3, _⟩ => ⟨S32768x11264, .bf16⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1x1024, .f32⟩
  | .hbm, ⟨8, _⟩ => ⟨S1x1024x8, .f32⟩
  | .hbm, ⟨9, _⟩ => ⟨S1x8, .f32⟩
  | .hbm, ⟨10, _⟩ => ⟨S1x1024x64, .f32⟩
  | .hbm, ⟨11, _⟩ => ⟨S1x64, .f32⟩
  | .hbm, ⟨12, _⟩ => ⟨S32768x1024, .f32⟩
  | .hbm, ⟨13, _⟩ => ⟨S32768x2048, .f32⟩
  | .hbm, ⟨14, _⟩ => ⟨S32768x1024, .bf16⟩
  | .hbm, ⟨15, _⟩ => ⟨S32768x1024, .f32⟩
  | .hbm, ⟨16, _⟩ => ⟨S32768x1024, .bf16⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S1024x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S2048x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S1024x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Names.lean ====
/-
  The SparseCore row gather, its parts named. The kernel's 512 index blocks (128 row numbers each) are dealt to the 2·16
  tiles in runs of 16: tile `(c, s)` takes blocks `256 c + 16 s + t`, `t < 16`. Trip `t` of its loop starts the copy of
  index block `t + 1` into the other index slot, waits for block `t` in slot `t % 2`, gathers the table's rows it names into
  result slot `t % 2` (the row's two column halves, one stream each), starts the copy of that slot into the result's block
  `t` and waits for the copy of block `t - 1`.
  Here: the slots, cells, blocks as memrefs by number, and the equations that read the body's own slices as these
  (`@[sl_canon]`), each from a closed form of an offset vector; the five carried words of the loop as functions of the
  trip; the guards and the checks the body makes, decided over every tile and trip.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Stream
public import Idealize.ShloMosaic.Lib.StableHlo.Run
public import Idealize.ShloMosaic.Lib.Pipeline.Kit
public import Idealize.ShloMosaic.Lib.Ring
public import Idealize.ShloMosaic.Lib.Affine
public import Idealize.ShloMosaic.Lib.Tactic

@[expose] public section

noncomputable section

namespace Cert.Gather

open Cert.KernelIdeal Cert.KernelIdeal.Gen
open Idealize.ShloMosaic

/-! ## The whole buffers, as a tile names them -/

/-- The table, the row numbers and the result in HBM; the tile's two index slots and two result slots. -/
abbrev tabV : Memref sig .scVector .hbm S81920x256 .i32 := Memref.whole main_arg0_scv
abbrev idxV : Memref sig .scVector .hbm S1x65536 .i32 := Memref.whole main_v5_scv
abbrev resV : Memref sig .scVector .hbm S65536x256 .i32 := Memref.whole main_v6_scv
abbrev islV : Memref sig .scVector .vmem S2x1x128 .i32 := Memref.whole cc0_scoped0
abbrev oslV : Memref sig .scVector .vmem S2x128x256 .i32 := Memref.whole cc0_scoped2

/-! ## Blocks, slots and cells by number -/

/-- The first row of tile `L`'s block `b`. -/
abbrev row (L : grid0.Coords) (b : Fin 16) : ℕ := 32768 * (L 0).val + 2048 * (L 1).val + 128 * b.val

theorem row_lt (L : grid0.Coords) (b : Fin 16) : row L b + 128 ≤ 65536 := by
  have h0 : (L 0).val < 2 := (L 0).isLt
  have h1 : (L 1).val < 16 := (L 1).isLt
  have := b.isLt; show 32768 * (L 0).val + 2048 * (L 1).val + 128 * b.val + 128 ≤ 65536; omega

theorem inb_idx (L : grid0.Coords) (b : Fin 16) : ∀ a, (![0, row L b] : Fin 2 → Nat) a + S1x128.size a ≤ S1x65536.size a := by
  intro a; fin_cases a
  · show 0 + 1 ≤ 1; omega
  · exact row_lt L b
theorem inb_res (L : grid0.Coords) (b : Fin 16) : ∀ a, (![row L b, 0] : Fin 2 → Nat) a + S128x256.size a ≤ S65536x256.size a := by
  intro a; fin_cases a
  · exact row_lt L b
  · show 0 + 256 ≤ 256; omega
theorem inb_isl (s : Fin 2) : ∀ a, (![s.val, 0, 0] : Fin 3 → Nat) a + S1x1x128.size a ≤ S2x1x128.size a := by
  have := s.isLt; intro a; fin_cases a
  · show s.val + 1 ≤ 2; omega
  · show 0 + 1 ≤ 1; omega
  · show 0 + 128 ≤ 128; omega
theorem inb_osl (s : Fin 2) : ∀ a, (![s.val, 0, 0] : Fin 3 → Nat) a + S1x128x256.size a ≤ S2x128x256.size a := by
  have := s.isLt; intro a; fin_cases a
  · show s.val + 1 ≤ 2; omega
  · show 0 + 128 ≤ 128; omega
  · show 0 + 256 ≤ 256; omega
theorem inb_sem (s : Fin 2) : ∀ a, (![s.val] : Fin 1 → Nat) a + S1.size a ≤ S2.size a := by
  have := s.isLt; intro a; fin_cases a; show s.val + 1 ≤ 2; omega

/-- Block `b` of tile `L`'s row numbers; block `b` of its result rows. -/
def idxB (L : grid0.Coords) (b : Fin 16) : Memref sig .scVector .hbm S1x128 .i32 :=
  idxV.slice (Rect.unit (s := S1x65536) ![0, row L b] S1x128.size (inb_idx L b)) (fun _ => rfl)
def resB (L : grid0.Coords) (b : Fin 16) : Memref sig .scVector .hbm S128x256 .i32 :=
  resV.slice (Rect.unit (s := S65536x256) ![row L b, 0] S128x256.size (inb_res L b)) (fun _ => rfl)
/-- Index slot `s`; result slot `s`; their cells. -/
def isl (s : Fin 2) : Memref sig .scVector .vmem S1x128 .i32 :=
  (islV.slice (Rect.unit (s := S2x1x128) ![s.val, 0, 0] S1x1x128.size (inb_isl s)) (fun _ => rfl)).squeeze S1x128 squeezes_S1x1x128_S1x128
def osl (s : Fin 2) : Memref sig .scVector .vmem S128x256 .i32 :=
  (oslV.slice (Rect.unit (s := S2x128x256) ![s.val, 0, 0] S1x128x256.size (inb_osl s)) (fun _ => rfl)).squeeze S128x256 squeezes_S1x128x256_S128x256
def isem (s : Fin 2) : DmaSems sig S_ := (cc0_scoped1.slice (Rect.unit (s := S2) ![s.val] S1.size (inb_sem s))).squeeze S_ squeezes_S1_S_
def osem (s : Fin 2) : DmaSems sig S_ := (cc0_scoped3.slice (Rect.unit (s := S2) ![s.val] S1.size (inb_sem s))).squeeze S_ squeezes_S1_S_
/-- The table's left and right column halves. -/
abbrev tabL : Memref sig .scVector .hbm S81920x128 .i32 :=
  tabV.slice (Rect.unit (s := S81920x256) ![0, 0] S81920x128.size inb_S81920x256_S81920x128_0_0) (fun _ => rfl)
abbrev tabR : Memref sig .scVector .hbm S81920x128 .i32 :=
  tabV.slice (Rect.unit (s := S81920x256) ![0, 128] S81920x128.size inb_S81920x256_S81920x128_0_128) (fun _ => rfl)
/-- A result slot's left and right column halves; an index slot as the list a stream reads. -/
abbrev oslL (s : Fin 2) : Memref sig .scVector .vmem S128x128 .i32 :=
  (osl s).slice (Rect.unit (s := S128x256) ![0, 0] S128x128.size inb_S128x256_S128x128_0_0) (fun _ => rfl)
abbrev oslR (s : Fin 2) : Memref sig .scVector .vmem S128x128 .i32 :=
  (osl s).slice (Rect.unit (s := S128x256) ![0, 128] S128x128.size inb_S128x256_S128x128_0_128) (fun _ => rfl)
abbrev lst (s : Fin 2) : Memref sig .scVector .vmem S128 .i32 :=
  ((isl s).slice (Rect.unit (s := S1x128) ![0, 0] S1x128.size inb_S1x128_S1x128_0_0) (fun _ => rfl)).squeeze S128 squeezes_S1x128_S128

theorem isem_0 : (SemLoc.dma (isem 0).sem : SemLoc sig) = .dma ⟨0, by decide⟩ := by decide
theorem isem_1 : (SemLoc.dma (isem 1).sem : SemLoc sig) = .dma ⟨1, by decide⟩ := by decide
theorem osem_0 : (SemLoc.dma (osem 0).sem : SemLoc sig) = .dma ⟨2, by decide⟩ := by decide
theorem osem_1 : (SemLoc.dma (osem 1).sem : SemLoc sig) = .dma ⟨3, by decide⟩ := by decide

/-! ## The loop's carried words at trip `k` -/

/-- The next index block to copy in, the current block, the last block copied out, the block counter. -/
def w6 (k : ℕ) : BitVec 32 := BitVec.ofNat 32 (min (k + 1) 16)
def w7 (k : ℕ) : BitVec 32 := BitVec.ofNat 32 k
def w9 (k : ℕ) : BitVec 32 := BitVec.ofNat 32 (k - 1)
def w10 (k : ℕ) : BitVec 32 := BitVec.ofNat 32 (k % 16)

theorem trips_eq : k0_t1_loop.trips = 16 := by decide

section Decided
/-! Each of these is decided at every tile and trip. -/

theorem cond1_iff : ∀ (L : grid0.Coords) (k : Fin k0_t1_loop.trips), k0_cond1 L k (w10 k.val) = 1#1 ↔ k.val + 1 < 16 := by decide +kernel
theorem cond2_true : ∀ (L : grid0.Coords) (k : Fin k0_t1_loop.trips), k0_cond2 L k (w10 k.val) = 1#1 := by decide +kernel
theorem cond5_true : ∀ (L : grid0.Coords) (k : Fin k0_t1_loop.trips), k0_cond5 L k (w10 k.val) = 1#1 := by decide +kernel
theorem cond7_iff : ∀ (L : grid0.Coords) (k : Fin k0_t1_loop.trips), k0_cond7 L k (w10 k.val) = 1#1 ↔ 1 ≤ k.val := by decide +kernel

theorem off3_eq : k0_off3 = ![(0 : Fin 2).val] := by decide +kernel
theorem off1_eq : k0_off1 = ![(0 : Fin 2).val, 0, 0] := by decide +kernel
theorem off2_eq : ∀ L : grid0.Coords, k0_off2 L = ![0, row L 0] := by decide +kernel
theorem off4_eq : ∀ k : Fin k0_t1_loop.trips, k.val + 1 < 16 → k0_off4 (w6 k.val) = ![(Ring.sl 2 (k.val + 1)).val, 0, 0] := by decide +kernel
theorem off5_eq : ∀ (L : grid0.Coords) (k : Fin k0_t1_loop.trips), k.val + 1 < 16 → k0_off5 L (w10 k.val) = ![0, row L (Ring.bk 16 (k.val + 1))] := by decide +kernel
theorem off6_eq : ∀ k : Fin k0_t1_loop.trips, k.val + 1 < 16 → k0_off6 (w6 k.val) = ![(Ring.sl 2 (k.val + 1)).val] := by decide +kernel
theorem off7_eq : ∀ k : Fin k0_t1_loop.trips, k0_off7 (w7 k.val) = ![(Ring.sl 2 k.val).val, 0, 0] := by decide +kernel
theorem off8_eq : ∀ (L : grid0.Coords) (k : Fin k0_t1_loop.trips), k0_off8 L (w10 k.val) = ![0, row L (Ring.bk 16 k.val)] := by decide +kernel
theorem off9_eq : ∀ k : Fin k0_t1_loop.trips, k0_off9 (w7 k.val) = ![(Ring.sl 2 k.val).val] := by decide +kernel
theorem off10_eq : ∀ k : Fin k0_t1_loop.trips, k0_off10 (w7 k.val) = ![(Ring.sl 2 k.val).val, 0, 0] := by decide +kernel
theorem off11_eq : ∀ k : Fin k0_t1_loop.trips, k0_off11 (w7 k.val) = ![(Ring.sl 2 k.val).val, 0, 0] := by decide +kernel
theorem off12_eq : ∀ k : Fin k0_t1_loop.trips, k0_off12 (w7 k.val) = ![(Ring.sl 2 k.val).val, 0, 0] := by decide +kernel
theorem off13_eq : ∀ (L : grid0.Coords) (k : Fin k0_t1_loop.trips), k0_off13 L (w10 k.val) = ![row L (Ring.bk 16 k.val), 0] := by decide +kernel
theorem off14_eq : ∀ k : Fin k0_t1_loop.trips, k0_off14 (w7 k.val) = ![(Ring.sl 2 k.val).val] := by decide +kernel
theorem off15_eq : ∀ k : Fin k0_t1_loop.trips, 1 ≤ k.val → k0_off15 (w9 k.val) = ![(Ring.sl 2 (k.val + 1)).val, 0, 0] := by decide +kernel
theorem off16_eq : ∀ (L : grid0.Coords) (k : Fin k0_t1_loop.trips), 1 ≤ k.val → k0_off16 L (w10 k.val) = ![row L (Ring.bk 16 (k.val - 1)), 0] := by decide +kernel
theorem off17_eq : ∀ k : Fin k0_t1_loop.trips, 1 ≤ k.val → k0_off17 (w9 k.val) = ![(Ring.sl 2 (k.val + 1)).val] := by decide +kernel
theorem off18_eq : k0_off18 (w9 16) = ![(1 : Fin 2).val, 0, 0] := by decide +kernel
theorem off19_eq : ∀ L : grid0.Coords, k0_off19 L (w10 16) = ![row L 15, 0] := by decide +kernel
theorem off20_eq : k0_off20 (w9 16) = ![(1 : Fin 2).val] := by decide +kernel
theorem off21_eq : k0_off21 (w9 16) = ![(1 : Fin 2).val, 0, 0] := by decide +kernel

theorem chk1_at : ∀ (L : grid0.Coords) (k : Fin k0_t1_loop.trips), k0_chk1 L k (w6 k.val) (w7 k.val) (w7 k.val) (w9 k.val) (w10 k.val) := by decide +kernel
theorem chk2_at : ∀ k : Fin k0_t1_loop.trips, k0_chk2 (w7 k.val) := by decide +kernel
theorem chk3_at : ∀ k : Fin k0_t1_loop.trips, k0_chk3 (w7 k.val) := by decide +kernel
theorem chk4_at : k0_chk4 (w9 16) := by decide +kernel
theorem chk5_at : ∀ L : grid0.Coords, k0_chk5 L (w10 16) := by decide +kernel

end Decided

/-! ## The body's slices, read as those names -/

section Canon

private theorem isl_congr {off : Fin 3 → Nat} {s : Fin 2} (e : off = ![s.val, 0, 0]) (hh hs) :
    (islV.slice (Rect.unit (s := S2x1x128) off S1x1x128.size hh) hs).squeeze S1x128 squeezes_S1x1x128_S1x128 = isl s :=
  congrArg (fun M : Memref sig .scVector .vmem S1x1x128 .i32 => M.squeeze S1x128 squeezes_S1x1x128_S1x128) (Memref.slice_unit_congr _ e _ _ _ _)
private theorem osl_congr {off : Fin 3 → Nat} {s : Fin 2} (e : off = ![s.val, 0, 0]) (hh hs) :
    (oslV.slice (Rect.unit (s := S2x128x256) off S1x128x256.size hh) hs).squeeze S128x256 squeezes_S1x128x256_S128x256 = osl s :=
  congrArg (fun M : Memref sig .scVector .vmem S1x128x256 .i32 => M.squeeze S128x256 squeezes_S1x128x256_S128x256) (Memref.slice_unit_congr _ e _ _ _ _)
private theorem isem_congr {off : Fin 1 → Nat} {s : Fin 2} (e : off = ![s.val]) (hh) :
    (cc0_scoped1.slice (Rect.unit (s := S2) off S1.size hh)).squeeze S_ squeezes_S1_S_ = isem s :=
  congrArg (fun A : DmaSems sig S1 => A.squeeze S_ squeezes_S1_S_) (SemArray.slice_unit_congr _ e _ _)
private theorem osem_congr {off : Fin 1 → Nat} {s : Fin 2} (e : off = ![s.val]) (hh) :
    (cc0_scoped3.slice (Rect.unit (s := S2) off S1.size hh)).squeeze S_ squeezes_S1_S_ = osem s :=
  congrArg (fun A : DmaSems sig S1 => A.squeeze S_ squeezes_S1_S_) (SemArray.slice_unit_congr _ e _ _)
private theorem idxB_congr {off : Fin 2 → Nat} {L : grid0.Coords} {b : Fin 16} (e : off = ![0, row L b]) (hh hs) :
    idxV.slice (Rect.unit (s := S1x65536) off S1x128.size hh) hs = idxB L b := Memref.slice_unit_congr _ e _ _ _ (fun _ => rfl)
private theorem resB_congr {off : Fin 2 → Nat} {L : grid0.Coords} {b : Fin 16} (e : off = ![row L b, 0]) (hh hs) :
    resV.slice (Rect.unit (s := S65536x256) off S128x256.size hh) hs = resB L b := Memref.slice_unit_congr _ e _ _ _ (fun _ => rfl)

/-- Before the loop: index slot 0, its cell, index block 0. -/
@[sl_canon] theorem canon1 (hh hs) : (islV.slice (Rect.unit (s := S2x1x128) k0_off1 S1x1x128.size hh) hs).squeeze S1x128 squeezes_S1x1x128_S1x128 = isl 0 := isl_congr off1_eq _ _
@[sl_canon] theorem canon2 (L : grid0.Coords) (hh hs) : idxV.slice (Rect.unit (s := S1x65536) (k0_off2 L) S1x128.size hh) hs = idxB L 0 := idxB_congr (off2_eq L) _ _
@[sl_canon] theorem canon3 (hh) : (cc0_scoped1.slice (Rect.unit (s := S2) k0_off3 S1.size hh)).squeeze S_ squeezes_S1_S_ = isem 0 := isem_congr off3_eq _

variable (L : grid0.Coords) (k : Fin k0_t1_loop.trips)

/-- Trip `k`'s start of the next index copy. -/
@[sl_canon] theorem canon4 (hk : k.val + 1 < 16) (hh hs) : (islV.slice (Rect.unit (s := S2x1x128) (k0_off4 (w6 k.val)) S1x1x128.size hh) hs).squeeze S1x128 squeezes_S1x1x128_S1x128 = isl (Ring.sl 2 (k.val + 1)) := isl_congr (off4_eq k hk) _ _
@[sl_canon] theorem canon5 (hk : k.val + 1 < 16) (hh hs) : idxV.slice (Rect.unit (s := S1x65536) (k0_off5 L (w10 k.val)) S1x128.size hh) hs = idxB L (Ring.bk 16 (k.val + 1)) := idxB_congr (off5_eq L k hk) _ _
@[sl_canon] theorem canon6 (hk : k.val + 1 < 16) (hh) : (cc0_scoped1.slice (Rect.unit (s := S2) (k0_off6 (w6 k.val)) S1.size hh)).squeeze S_ squeezes_S1_S_ = isem (Ring.sl 2 (k.val + 1)) := isem_congr (off6_eq k hk) _
/-- Its wait for the current one. -/
@[sl_canon] theorem canon7 (hh hs) : (islV.slice (Rect.unit (s := S2x1x128) (k0_off7 (w7 k.val)) S1x1x128.size hh) hs).squeeze S1x128 squeezes_S1x1x128_S1x128 = isl (Ring.sl 2 k.val) := isl_congr (off7_eq k) _ _
@[sl_canon] theorem canon8 (hh hs) : idxV.slice (Rect.unit (s := S1x65536) (k0_off8 L (w10 k.val)) S1x128.size hh) hs = idxB L (Ring.bk 16 k.val) := idxB_congr (off8_eq L k) _ _
@[sl_canon] theorem canon9 (hh) : (cc0_scoped1.slice (Rect.unit (s := S2) (k0_off9 (w7 k.val)) S1.size hh)).squeeze S_ squeezes_S1_S_ = isem (Ring.sl 2 k.val) := isem_congr (off9_eq k) _
/-- The gathers' ends. -/
@[sl_canon] theorem canon10 (hh hs) : (oslV.slice (Rect.unit (s := S2x128x256) (k0_off10 (w7 k.val)) S1x128x256.size hh) hs).squeeze S128x256 squeezes_S1x128x256_S128x256 = osl (Ring.sl 2 k.val) := osl_congr (off10_eq k) _ _
@[sl_canon] theorem canon11 (hh hs) : (islV.slice (Rect.unit (s := S2x1x128) (k0_off11 (w7 k.val)) S1x1x128.size hh) hs).squeeze S1x128 squeezes_S1x1x128_S1x128 = isl (Ring.sl 2 k.val) := isl_congr (off11_eq k) _ _
/-- The result slot's copy out. -/
@[sl_canon] theorem canon12 (hh hs) : (oslV.slice (Rect.unit (s := S2x128x256) (k0_off12 (w7 k.val)) S1x128x256.size hh) hs).squeeze S128x256 squeezes_S1x128x256_S128x256 = osl (Ring.sl 2 k.val) := osl_congr (off12_eq k) _ _
@[sl_canon] theorem canon13 (hh hs) : resV.slice (Rect.unit (s := S65536x256) (k0_off13 L (w10 k.val)) S128x256.size hh) hs = resB L (Ring.bk 16 k.val) := resB_congr (off13_eq L k) _ _
@[sl_canon] theorem canon14 (hh) : (cc0_scoped3.slice (Rect.unit (s := S2) (k0_off14 (w7 k.val)) S1.size hh)).squeeze S_ squeezes_S1_S_ = osem (Ring.sl 2 k.val) := osem_congr (off14_eq k) _
/-- The wait for the previous one. -/
@[sl_canon] theorem canon15 (hk : 1 ≤ k.val) (hh hs) : (oslV.slice (Rect.unit (s := S2x128x256) (k0_off15 (w9 k.val)) S1x128x256.size hh) hs).squeeze S128x256 squeezes_S1x128x256_S128x256 = osl (Ring.sl 2 (k.val + 1)) := osl_congr (off15_eq k hk) _ _
@[sl_canon] theorem canon16 (hk : 1 ≤ k.val) (hh hs) : resV.slice (Rect.unit (s := S65536x256) (k0_off16 L (w10 k.val)) S128x256.size hh) hs = resB L (Ring.bk 16 (k.val - 1)) := resB_congr (off16_eq L k hk) _ _
@[sl_canon] theorem canon17 (hk : 1 ≤ k.val) (hh) : (cc0_scoped3.slice (Rect.unit (s := S2) (k0_off17 (w9 k.val)) S1.size hh)).squeeze S_ squeezes_S1_S_ = osem (Ring.sl 2 (k.val + 1)) := osem_congr (off17_eq k hk) _
/-- After the loop. -/
@[sl_canon] theorem canon19 (hh hs) : resV.slice (Rect.unit (s := S65536x256) (k0_off19 L (w10 16)) S128x256.size hh) hs = resB L 15 := resB_congr (off19_eq L) _ _
@[sl_canon] theorem canon20 (hh) : (cc0_scoped3.slice (Rect.unit (s := S2) (k0_off20 (w9 16)) S1.size hh)).squeeze S_ squeezes_S1_S_ = osem 1 := osem_congr off20_eq _
@[sl_canon] theorem canon21 (hh hs) : (oslV.slice (Rect.unit (s := S2x128x256) (k0_off21 (w9 16)) S1x128x256.size hh) hs).squeeze S128x256 squeezes_S1x128x256_S128x256 = osl 1 := osl_congr off21_eq _ _

end Canon

end Cert.Gather

end
-- ==== Proof.Pieces.lean ====
module

public import proofs.«01_k».proof.Proof.Names

@[expose] public section

noncomputable section

namespace Cert.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters
local notation "𝕄" => MT nD τ sig (HIx 1) (Elt F) ℕ UU ℕ
abbrev 𝒱₀ : Variants := Variants.none

variable (d : Dev nD) (L : grid0.Coords)

abbrev cV (L : grid0.Coords) : Fin τ.nSC := (L 0).castLE hcore0
abbrev jV (L : grid0.Coords) : Fin τ.nSub := (L 1).castLE hsub0
/-- Tile `L`'s thread. -/
abbrev VT (d : Dev nD) (L : grid0.Coords) : Thread nD τ := V d (cV L) (jV L)

variable (X : Buf (Elt F) (tabV.view.loc (VT d L))) (I : Buf (Elt F) (idxV.view.loc (VT d L))) (R₀ : Buf (Elt F) (resV.view.loc (VT d L)))

/-! ## What the pieces hold -/

/-- The row number the kernel's row `r` reads. -/
abbrev rowIx (r : ℕ) (h : r < 65536) : S1x65536.Idx := fun a => match a with | 0 => ⟨0, by decide⟩ | 1 => ⟨r, h⟩
/-- Block `b` of the row numbers as an index slot holds it: either slot's lane `y 2` at number `128 b + y 2` of the tile. -/
def IC (b : Fin 16) : Buf (Elt F) (islV.view.loc (VT d L)) :=
  fun y : S2x1x128.Idx => I (rowIx (row L b + (y 2).val) (by have := row_lt L b; have h : (y 2).val < 128 := (y 2).isLt; omega))
/-- Row `n`, column `c` of the table (a row number past its end wraps: no row number of the claims does). -/
abbrev tabIx (n : ℕ) (c : Fin 256) : S81920x256.Idx := fun a => match a with | 0 => ⟨n % 81920, Nat.mod_lt _ (by decide)⟩ | 1 => c
/-- The gathered rows: result row `r` is the table's row at number `r`. -/
def OUT : Buf (Elt F) (resV.view.loc (VT d L)) :=
  fun y : S65536x256.Idx => X (tabIx (BitVec.toNat (I (rowIx (y 0).val (y 0).isLt))) (y 1))

abbrev idxP (b : Fin 16) : sProp 𝕄 := (idxB L b).view.loc (VT d L) ↦[(idxB L b).view.set]{fullShare} I
abbrev resP (b : Fin 16) (f : Buf (Elt F) (resV.view.loc (VT d L))) : sProp 𝕄 := (resB L b).view.loc (VT d L) ↦[(resB L b).view.set]{fullShare} f
abbrev islP (s : Fin 2) (f : Buf (Elt F) (islV.view.loc (VT d L))) : sProp 𝕄 := (isl s).view.loc (VT d L) ↦[(isl s).view.set]{fullShare} f
abbrev oslP (s : Fin 2) (f : Buf (Elt F) (oslV.view.loc (VT d L))) : sProp 𝕄 := (osl s).view.loc (VT d L) ↦[(osl s).view.set]{fullShare} f
/-- An index slot idle, a result slot idle: its cell at zero, its elements at anything. -/
abbrev freeI (s : Fin 2) : sProp 𝕄 := iprop(semVal (VT d L, SemLoc.dma (isem s).sem) 0 ∗ ∃ f, islP d L s f)
abbrev freeO (s : Fin 2) : sProp 𝕄 := iprop(semVal (VT d L, SemLoc.dma (osem s).sem) 0 ∗ ∃ f, oslP d L s f)
/-- Index block `b` on its way into slot `s`; result slot `s` on its way to block `b`. -/
abbrev flightI (s : Fin 2) (b : Fin 16) : sProp 𝕄 :=
  Transfers.Flight countersEmb (VT d L) (SemLoc.dma (isem s).sem) (none : HIx 1) 4096 iprop(islP d L s (IC d L I b) ∗ idxP d L I b)
abbrev flightO (s : Fin 2) (b : Fin 16) (f : Buf (Elt F) (oslV.view.loc (VT d L))) : sProp 𝕄 :=
  Transfers.Flight countersEmb (VT d L) (SemLoc.dma (osem s).sem) (none : HIx 1) 1048576 iprop(resP d L b (OUT d L X I) ∗ oslP d L s f)

/-- A slot's points-to at an offset vector, as the body spells a gather's ends. -/
theorem islP_at {off : Fin 3 → Nat} {s : Fin 2} (e : off = ![s.val, 0, 0])
    (hh : ∀ a, off a + S1x1x128.size a ≤ S2x1x128.size a) (f : Buf (Elt F) (islV.view.loc (VT d L))) :
    islP d L s f = ((islV.slice (Rect.unit (s := S2x1x128) off ![1, 1, 128] hh) (fun _ => rfl)).view.loc (VT d L) ↦[(islV.slice (Rect.unit (s := S2x1x128) off ![1, 1, 128] hh) (fun _ => rfl)).view.set]{fullShare} f : sProp 𝕄) := by
  subst e; exact congrArg (fun S => (islV.view.loc (VT d L) ↦[S]{fullShare} f : sProp 𝕄)) (Memref.set_view_squeeze (islV.slice (Rect.unit (s := S2x1x128) ![s.val, 0, 0] ![1, 1, 128] hh) (fun _ => rfl)) squeezes_S1x1x128_S1x128)
theorem oslP_at {off : Fin 3 → Nat} {s : Fin 2} (e : off = ![s.val, 0, 0])
    (hh : ∀ a, off a + S1x128x256.size a ≤ S2x128x256.size a) (f : Buf (Elt F) (oslV.view.loc (VT d L))) :
    oslP d L s f = ((@Memref.squeeze _ _ _ S1x128x256 _ (oslV.slice (Rect.unit (s := S2x128x256) off ![1, 128, 256] hh) (fun _ => rfl)) S128x256 squeezes_S1x128x256_S128x256).view.loc (VT d L) ↦[(@Memref.squeeze _ _ _ S1x128x256 _ (oslV.slice (Rect.unit (s := S2x128x256) off ![1, 128, 256] hh) (fun _ => rfl)) S128x256 squeezes_S1x128x256_S128x256).view.set]{fullShare} f : sProp 𝕄) := by subst e; rfl
theorem hin_at {off : Fin 3 → Nat} {s : Fin 2} (e : off = ![s.val, 0, 0])
    (hh : ∀ a, off a + S1x1x128.size a ≤ S2x1x128.size a) (f : Buf (Elt F) (islV.view.loc (VT d L)))
    (hin : ∀ j, ((lst s).view.read (Elt F) f j).toNat < S81920x128.size gathers_S81920x128_S128x128.axis) (j) :
    ((((@Memref.squeeze _ _ _ S1x1x128 _ (islV.slice (Rect.unit (s := S2x1x128) off ![1, 1, 128] hh) (fun _ => rfl)) S1x128 squeezes_S1x1x128_S1x128).slice (Rect.unit (s := S1x128) ![0, 0] ![1, 128] inb_S1x128_S1x128_0_0) (fun _ => rfl)).squeeze S128 squeezes_S1x128_S128).view.read (Elt F) f j).toNat
      < S81920x128.size gathers_S81920x128_S128x128.axis := by subst e; exact hin j

end Cert.Gather
-- ==== Proof.Values.lean ====
module

public import proofs.«01_k».proof.Proof.Pieces
public import Idealize.ShloMosaic.Lib.PointwiseCore

@[expose] public section

noncomputable section

namespace Cert.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (X : Buf (Elt F) (tabV.view.loc (VT d L))) (I : Buf (Elt F) (idxV.view.loc (VT d L))) (R₀ : Buf (Elt F) (resV.view.loc (VT d L)))

/-- A slot's element in its scratch: the slot's number before its own coordinates. -/
theorem isl_emb (s : Fin 2) (x : S1x128.Idx) : @Eq S2x1x128.Idx ((isl s).view.emb x) (ix3 s 0 (x 1)) := by
  have h : @Eq S1x1x128.Idx (Shape.reshapeEquiv squeezes_S1x1x128_S1x128.numel_eq x) (ix3 0 0 (x 1)) := by
    pointwise
  refine (congrArg (Rect.unit (s := S2x1x128) ![s.val, 0, 0] S1x1x128.size (inb_isl s)).emb h).trans ?_
  funext a; fin_cases a <;> apply Fin.ext
  · show s.val + 1 * 0 = s.val; omega
  · rfl
  · show 0 + 1 * (x 1).val = (x 1).val; omega
theorem osl_emb (s : Fin 2) (x : S128x256.Idx) : @Eq S2x128x256.Idx ((osl s).view.emb x) (ix3 s (x 0) (x 1)) := by
  have h : @Eq S1x128x256.Idx (Shape.reshapeEquiv squeezes_S1x128x256_S128x256.numel_eq x) (ix3 0 (x 0) (x 1)) := by
    pointwise
  refine (congrArg (Rect.unit (s := S2x128x256) ![s.val, 0, 0] S1x128x256.size (inb_osl s)).emb h).trans ?_
  funext a; fin_cases a <;> apply Fin.ext
  · show s.val + 1 * 0 = s.val; omega
  · show 0 + 1 * (x 0).val = (x 0).val; omega
  · show 0 + 1 * (x 1).val = (x 1).val; omega
/-- Entry `j` of a slot read as a list. -/
theorem lst_emb (s : Fin 2) (j : S128.Idx) : @Eq S2x1x128.Idx ((lst s).view.emb j) (ix3 s 0 (j 0)) := by
  have h : @Eq S1x128.Idx (Shape.reshapeEquiv squeezes_S1x128_S128.numel_eq j) (ix2 0 (j 0)) := by
    pointwise
  have h2 : @Eq S1x128.Idx ((Rect.unit (s := S1x128) ![0, 0] S1x128.size inb_S1x128_S1x128_0_0).emb (ix2 0 (j 0))) (ix2 0 (j 0)) := by
    funext a; fin_cases a <;> apply Fin.ext
    · rfl
    · show 0 + 1 * (j 0).val = (j 0).val; omega
  exact (congrArg (isl s).view.emb ((congrArg _ h).trans h2)).trans (isl_emb s _)

/-- Block `b` of the row numbers landed in a slot is what `IC` says of the slot. -/
theorem isl_landed (s : Fin 2) (b : Fin 16) (fi : Buf (Elt F) (islV.view.loc (VT d L))) (i) (hi : i ∈ (isl s).view.set) :
    (isl s).view.writes (Elt F) fi [⟨Rect.whole S1x128, (idxB L b).view.read (Elt F) I⟩] i = IC d L I b i := by
  obtain ⟨x, -, rfl⟩ := Finset.mem_map.mp hi
  refine (congrFun (View.read_writes_whole (isl s).view fi ((idxB L b).view.read (Elt F) I)) x).trans ?_
  refine Eq.trans ?_ (congrArg (IC d L I b) (isl_emb s x)).symm
  refine congrArg I ?_
  funext a; fin_cases a <;> apply Fin.ext
  · show 0 + 1 * (x 0).val = 0
    have : (x 0).val < 1 := (x 0).isLt
    omega
  · show row L b + 1 * (x 1).val = row L b + (x 1).val; omega

/-- Entry `j` of block `b`'s list is the tile's row number there. -/
theorem lst_read (s : Fin 2) (b : Fin 16) (j : S128.Idx) (h : row L b + (j 0).val < 65536) :
    (lst s).view.read (Elt F) (IC d L I b) j = I (rowIx (row L b + (j 0).val) h) :=
  (congrArg (IC d L I b) (lst_emb s j)).trans rfl

/-- The table's element one of the two streams reads. -/
theorem tab_read {off : ℕ} (ho : off + 128 ≤ 256) (hh hs) (n : Fin 81920) (c : Fin 128) :
    (tabV.slice (Rect.unit (s := S81920x256) ![0, off] ![81920, 128] hh) hs).view.read (Elt F) X (ix2 n c : S81920x128.Idx)
      = X (tabIx n.val ⟨off + c.val, by omega⟩) := by
  refine congrArg X ?_
  funext a; fin_cases a <;> apply Fin.ext
  · show 0 + 1 * n.val = n.val % 81920
    rw [Nat.mod_eq_of_lt n.isLt]; omega
  · show off + 1 * c.val = off + c.val; omega

/-- What one of the two streams brings: lane `c` of half `off` of the named row. -/
theorem payload_at (s : Fin 2) (b : Fin 16) {off : ℕ} (ho : off + 128 ≤ 256) (hh hs hn)
    (hin : ∀ j, ((lst s).view.read (Elt F) (IC d L I b) j).toNat < S81920x128.size gathers_S81920x128_S128x128.axis)
    (y : S128x128.Idx) (h : row L b + (y 0).val < 65536) :
    SparseCore.gatherPayload (F := F) (e := .i32) gathers_S81920x128_S128x128 ((tabV.slice (Rect.unit (s := S81920x256) ![0, off] ![81920, 128] hh) hs).view.read (Elt F) X)
      (SparseCore.rows ((lst s).view.read (Elt F) (IC d L I b)) hn hin) y
      = X (tabIx (BitVec.toNat (I (rowIx (row L b + (y 0).val) h))) ⟨off + (y 1).val, by have : (y 1).val < 128 := (y 1).isLt; omega⟩) := by
  have hr : BitVec.toNat (I (rowIx (row L b + (y 0).val) h)) < 81920 := by
    have h1 := hin (ix1 (y 0))
    exact (congrArg BitVec.toNat (lst_read d L I s b (ix1 (y 0)) h)) ▸ h1
  unfold SparseCore.gatherPayload
  have e : gathers_S81920x128_S128x128.idx (SparseCore.rows ((lst s).view.read (Elt F) (IC d L I b)) hn hin) y
      = (ix2 (⟨BitVec.toNat (I (rowIx (row L b + (y 0).val) h)), hr⟩ : Fin 81920) (y 1) : S81920x128.Idx) := by
    funext a; fin_cases a <;> apply Fin.ext
    · refine (congrArg Fin.val (Shape.Gathers.idx_axis gathers_S81920x128_S128x128 _ y)).trans ?_
      have hv : (S128.rowMajor.symm (Fin.cast hn.symm (y 0)) : S128.Idx) = ix1 (y 0) := by
        exact (Equiv.symm_apply_eq _).mpr (Fin.ext (rowMajor_val1 (d := ![128]) (ix1 (y 0))).symm)
      have hb := congrArg BitVec.toNat ((congrArg ((lst s).view.read (Elt F) (IC d L I b)) hv).trans (lst_read d L I s b (ix1 (y 0)) h))
      exact hb
    · exact Shape.Gathers.idx_of_ne gathers_S81920x128_S128x128 _ y 1 (by decide)
  rw [e]
  exact tab_read d L X ho hh hs _ (y 1)

/-- A result slot after its two streams holds the gathered rows of block `b`. -/
theorem slot_read (s : Fin 2) (b : Fin 16) (fo : Buf (Elt F) (oslV.view.loc (VT d L))) (hn : S128.numel = S128x128.size gathers_S81920x128_S128x128.axis') (hh0 hh1 hs0 hs1 hr0 hr1)
    (hin : ∀ j, ((lst s).view.read (Elt F) (IC d L I b) j).toNat < S81920x128.size gathers_S81920x128_S128x128.axis) (x : S128x256.Idx) :
    (osl s).view.read (Elt F) ((osl s).view.writes (Elt F) fo
        [⟨Rect.unit (s := S128x256) ![0, 128] ![128, 128] hr1,
          SparseCore.gatherPayload (F := F) (e := .i32) gathers_S81920x128_S128x128 ((tabV.slice (Rect.unit (s := S81920x256) ![0, 128] ![81920, 128] hh1) hs1).view.read (Elt F) X)
            (SparseCore.rows ((lst s).view.read (Elt F) (IC d L I b)) hn hin)⟩,
         ⟨Rect.unit (s := S128x256) ![0, 0] ![128, 128] hr0,
          SparseCore.gatherPayload (F := F) (e := .i32) gathers_S81920x128_S128x128 ((tabV.slice (Rect.unit (s := S81920x256) ![0, 0] ![81920, 128] hh0) hs0).view.read (Elt F) X)
            (SparseCore.rows ((lst s).view.read (Elt F) (IC d L I b)) hn hin)⟩]) x
      = OUT d L X I ((resB L b).view.emb x) := by
  have h0 : (x 0).val < 128 := (x 0).isLt
  have h1 : (x 1).val < 256 := (x 1).isLt
  have hrow : row L b + (x 0).val < 65536 := by have := row_lt L b; omega
  have hout : OUT d L X I ((resB L b).view.emb x) = X (tabIx (BitVec.toNat (I (rowIx (row L b + (x 0).val) hrow))) (x 1)) := by
    have he : @Eq S65536x256.Idx ((resB L b).view.emb x) (ix2 (⟨row L b + (x 0).val, hrow⟩ : Fin 65536) (x 1)) := by
      funext a; fin_cases a <;> apply Fin.ext
      · show row L b + 1 * (x 0).val = _; simp
      · show 0 + 1 * (x 1).val = (x 1).val; omega
    exact congrArg (OUT d L X I) he
  rw [hout]
  by_cases hc : (x 1).val < 128
  · refine (View.read_writes_cons_miss_of_axis _ _ _ _ _ (1 : Fin 2) 128 128 rfl rfl rfl (.inl hc)).trans ?_
    refine (View.read_writes_cons_hit_of_coords _ _ _ _ _ (ix2 (x 0) ⟨(x 1).val, hc⟩ : S128x128.Idx) x ?_).trans ?_
    · intro a; fin_cases a
      · show (x 0).val = 0 + 1 * (x 0).val; omega
      · show (x 1).val = 0 + 1 * (x 1).val; omega
    refine (payload_at d L X I s b (off := 0) (by omega) hh0 hs0 hn hin _ hrow).trans ?_
    refine congrArg X (congrArg (tabIx _) (Fin.ext ?_))
    show 0 + (x 1).val = (x 1).val; omega
  · refine (View.read_writes_cons_hit_of_coords _ _ _ _ _ (ix2 (x 0) ⟨(x 1).val - 128, by omega⟩ : S128x128.Idx) x ?_).trans ?_
    · intro a; fin_cases a
      · show (x 0).val = 0 + 1 * (x 0).val; omega
      · show (x 1).val = 128 + 1 * ((x 1).val - 128); omega
    refine (payload_at d L X I s b (off := 128) (by omega) hh1 hs1 hn hin _ hrow).trans ?_
    refine congrArg X (congrArg (tabIx _) (Fin.ext ?_))
    show 128 + ((x 1).val - 128) = (x 1).val; omega

/-- The same with the first stream's ends at the offset vectors the body computes. -/
theorem slot_read_at {s : Fin 2} (b : Fin 16) (fo : Buf (Elt F) (oslV.view.loc (VT d L)))
    {off10 off11 : Fin 3 → Nat} (e10 : off10 = ![s.val, 0, 0]) (e11 : off11 = ![s.val, 0, 0])
    (h10 : ∀ a, off10 a + S1x128x256.size a ≤ S2x128x256.size a) (h11 : ∀ a, off11 a + S1x1x128.size a ≤ S2x1x128.size a)
    (hin : ∀ j, ((lst s).view.read (Elt F) (IC d L I b) j).toNat < S81920x128.size gathers_S81920x128_S128x128.axis)
    (hin' : ∀ j, ((((@Memref.squeeze _ _ _ S1x1x128 _ (islV.slice (Rect.unit (s := S2x1x128) off11 ![1, 1, 128] h11) (fun _ => rfl)) S1x128 squeezes_S1x1x128_S1x128).slice
        (Rect.unit (s := S1x128) ![0, 0] ![1, 128] inb_S1x128_S1x128_0_0) (fun _ => rfl)).squeeze S128 squeezes_S1x128_S128).view.read (Elt F) (IC d L I b) j).toNat
      < S81920x128.size gathers_S81920x128_S128x128.axis)
    (p0 p1 : S128x128.Idx → Elt F .i32)
    (hp0 : p0 = SparseCore.gatherPayload (F := F) (e := .i32) gathers_S81920x128_S128x128 (tabL.view.read (Elt F) X)
      (SparseCore.rows ((((@Memref.squeeze _ _ _ S1x1x128 _ (islV.slice (Rect.unit (s := S2x1x128) off11 ![1, 1, 128] h11) (fun _ => rfl)) S1x128 squeezes_S1x1x128_S1x128).slice
        (Rect.unit (s := S1x128) ![0, 0] ![1, 128] inb_S1x128_S1x128_0_0) (fun _ => rfl)).squeeze S128 squeezes_S1x128_S128).view.read (Elt F) (IC d L I b)) rfl hin'))
    (hp1 : p1 = SparseCore.gatherPayload (F := F) (e := .i32) gathers_S81920x128_S128x128 (tabR.view.read (Elt F) X)
      (SparseCore.rows ((lst s).view.read (Elt F) (IC d L I b)) rfl hin)) (x : S128x256.Idx) :
    (osl s).view.read (Elt F) ((osl s).view.writes (Elt F)
        ((@Memref.squeeze _ _ _ S1x128x256 _ (oslV.slice (Rect.unit (s := S2x128x256) off10 ![1, 128, 256] h10) (fun _ => rfl)) S128x256 squeezes_S1x128x256_S128x256).view.writes (Elt F) fo
          [⟨Rect.unit (s := S128x256) ![0, 0] ![128, 128] inb_S128x256_S128x128_0_0, p0⟩])
        [⟨Rect.unit (s := S128x256) ![0, 128] ![128, 128] inb_S128x256_S128x128_0_128, p1⟩]) x
      = OUT d L X I ((resB L b).view.emb x) := by
  subst e10 e11 hp0 hp1
  exact slot_read d L X I s b fo rfl inb_S81920x256_S81920x128_0_0 inb_S81920x256_S81920x128_0_128 (fun _ => rfl) (fun _ => rfl)
    inb_S128x256_S128x128_0_0 inb_S128x256_S128x128_0_128 hin x

/-- A result slot's contents landed in block `b` of the result: the gathered rows, where the slot reads as they do. -/
theorem res_landed (b : Fin 16) (w : S128x256.Idx → Elt F .i32) (hw : ∀ x, w x = OUT d L X I ((resB L b).view.emb x))
    (i) (hi : i ∈ (resB L b).view.set) : (resB L b).view.writes (Elt F) R₀ [⟨Rect.whole S128x256, w⟩] i = OUT d L X I i := by
  obtain ⟨x, -, rfl⟩ := Finset.mem_map.mp hi
  exact (congrFun (View.read_writes_whole (resB L b).view R₀ w) x).trans (hw x)

/-- The next index block's copy, as the program starts it, delivers the slot at `IC`. -/
theorem flightI_of (s : Fin 2) (b : Fin 16) (fi : Buf (Elt F) (islV.view.loc (VT d L))) (w : S1x128.Idx → Elt F .i32)
    (hw : w = (idxB L b).view.read (Elt F) I) :
    (Transfers.Flight countersEmb (VT d L) (SemLoc.dma (isem s).sem) default 4096
      iprop(islP d L s ((isl s).view.writes (Elt F) fi [⟨Rect.whole S1x128, w⟩]) ∗ idxP d L I b) : sProp 𝕄)
      ⊢ flightI d L I s b := by
  subst hw
  exact Transfers.Flight_mono countersEmb (VT d L) (sep_mono (Entails.of_eq (pointsTo_congr (isl_landed d L I s b fi))) Entails.rfl)

/-- The copy out of a slot that reads as the gathered rows delivers the result's block at them. -/
theorem flightO_of (s : Fin 2) (b : Fin 16) (w : S128x256.Idx → Elt F .i32) (hw : ∀ x, w x = OUT d L X I ((resB L b).view.emb x))
    (f : Buf (Elt F) ((osl s).view.loc (VT d L))) :
    (Transfers.Flight countersEmb (VT d L) (SemLoc.dma (osem s).sem) default 1048576
      iprop(resP d L b ((resB L b).view.writes (Elt F) R₀ [⟨Rect.whole S128x256, w⟩]) ∗ ((osl s).view.loc (VT d L) ↦[(osl s).view.set]{fullShare} f)) : sProp 𝕄)
      ⊢ iprop(∃ f', flightO d L X I s b f') := by
  have h := Transfers.Flight_mono countersEmb (VT d L) (sm := SemLoc.dma (osem s).sem) (ι := (default : HIx 1)) (N := 1048576) (D := iprop(resP d L b ((resB L b).view.writes (Elt F) R₀ [⟨Rect.whole S128x256, w⟩]) ∗ oslP d L s f))
    (sep_mono (Entails.of_eq (pointsTo_congr (res_landed d L X I R₀ b w hw))) Entails.rfl)
  iintro H
  iexists f
  iapply h $$ H

end Cert.Gather
-- ==== Proof.Trip.lean ====
module

public import proofs.«01_k».proof.Proof.Values

@[expose] public section

noncomputable section

namespace Cert.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (X : Buf (Elt F) (tabV.view.loc (VT d L))) (I : Buf (Elt F) (idxV.view.loc (VT d L))) (R₀ : Buf (Elt F) (resV.view.loc (VT d L)))

/-- The kernel's block counter base as the body computes it. -/
abbrev v4w (L : grid0.Coords) : BitVec 32 :=
  Scalar.muli (Scalar.addi (Scalar.addi 0#32 (Scalar.muli (BitVec.ofNat 32 (L 1).val) 1#32)) (Scalar.muli (BitVec.ofNat 32 (L 0).val) 16#32)) 16#32

abbrev tripG (k : Fin k0_t1_loop.trips) :=
  k0_t1_body (F := F) L (Memref.whole main_arg0_scv) (Memref.isWhole_whole _) idxV (Memref.isWhole_whole _) resV (Memref.isWhole_whole _) islV (Memref.isWhole_whole _) cc0_scoped1
    oslV (Memref.isWhole_whole _) cc0_scoped3 cc0_scoped4 cc0_scoped5 (v4w L) k (w6 k.val, w7 k.val, w7 k.val, w9 k.val, w10 k.val)

set_option maxHeartbeats 4000000 in
/-- A trip that is neither the first nor the last: the next index block's copy starts, block `k`'s arrives, its rows
    are gathered and start on their way out, and the copy out of the block before is waited for. -/
theorem trip_mid (q : PosShare TreeShare) (fp : Buf (Elt F) (oslV.view.loc (VT d L))) (k : Fin k0_t1_loop.trips) (hk1 : 1 ≤ k.val) (hk2 : k.val + 1 < 16)
    (hin : ∀ j, ((lst (Ring.sl 2 k.val)).view.read (Elt F) (IC d L I (Ring.bk 16 k.val)) j).toNat < S81920x128.size gathers_S81920x128_S128x128.axis)
    (O : CellTallies nD τ sig (HIx 1)) (W : Waits sig (HIx 1)) :
    (iprop(Transfers.MayWaits (VT d L) (none : HIx 1) O
      ∗ ((Memref.whole main_arg0_scv).view.loc (VT d L) ↦{q} X)
      ∗ semVal (VT d L, SemLoc.dma cc0_scoped4.sem) 0 ∗ semVal (VT d L, SemLoc.dma cc0_scoped5.sem) 0
      ∗ flightI d L I (Ring.sl 2 k.val) (Ring.bk 16 k.val) ∗ freeI d L (Ring.sl 2 (k.val + 1)) ∗ idxP d L I (Ring.bk 16 (k.val + 1))
      ∗ freeO d L (Ring.sl 2 k.val) ∗ resP d L (Ring.bk 16 k.val) R₀ ∗ flightO d L X I (Ring.sl 2 (k.val + 1)) (Ring.bk 16 (k.val - 1)) fp
      ∗ owes (VT d L) O W) : sProp 𝕄)
      ⊢ wp frame (wpE (defs₀ (F := F)) 𝒱₀ (VT d L) none) Set.univ (tripG (F := F) L k)
        (fun acc => iprop(⌜acc = (w6 (k.val + 1), w7 (k.val + 1), w7 (k.val + 1), w9 (k.val + 1), w10 (k.val + 1))⌝ ∗ Transfers.MayWaits (VT d L) (none : HIx 1) O
      ∗ ((Memref.whole main_arg0_scv).view.loc (VT d L) ↦{q} X)
      ∗ semVal (VT d L, SemLoc.dma cc0_scoped4.sem) 0 ∗ semVal (VT d L, SemLoc.dma cc0_scoped5.sem) 0
      ∗ flightI d L I (Ring.sl 2 (k.val + 1)) (Ring.bk 16 (k.val + 1)) ∗ freeI d L (Ring.sl 2 k.val) ∗ idxP d L I (Ring.bk 16 k.val)
      ∗ freeO d L (Ring.sl 2 (k.val + 1)) ∗ resP d L (Ring.bk 16 (k.val - 1)) (OUT d L X I) ∗ (∃ fp', flightO d L X I (Ring.sl 2 k.val) (Ring.bk 16 k.val) fp')
      ∗ ∃ W', owes (VT d L) O W')) := by
  have c1 : k0_cond1 L k (w10 k.val) = 1#1 := (cond1_iff L k).mpr hk2
  have c2 := cond2_true L k
  have c5 := cond5_true L k
  have c7 : k0_cond7 L k (w10 k.val) = 1#1 := (cond7_iff L k).mpr hk1
  have h1 := chk1_at L k
  have h2 := chk2_at k
  have h3 := chk3_at k
  iintro ⟨Hmw, HX, Hg0, Hg1, HFI, ⟨Hci, %fi, Hi⟩, Hix, ⟨Hco, %fo, Ho⟩, HR, HFO, HW⟩
  unfold tripG
  sl_unfold [k0_t1_body]
  sl_exec
  have hin' := hin_at d L (off11_eq k) (k0_off11_inb _ h3) _ hin
  ihave Hi' := (Entails.of_eq (islP_at d L (off11_eq k) (k0_off11_inb _ h3) _)) $$ HFI_dst
  ihave Ho' := (Entails.of_eq (oslP_at d L (off10_eq k) (k0_off10_inb _ h2) _)) $$ Ho
  sl_exec
  irevert Hi' Ho'
  iintro Hi' Ho'
  ihave Hi := (Entails.of_eq (islP_at d L (off11_eq k) (k0_off11_inb _ h3) _).symm) $$ Hi'
  ihave Ho := (Entails.of_eq (oslP_at d L (off10_eq k) (k0_off10_inb _ h2) _).symm) $$ Ho'
  sl_exec
  sl_step
  have hy : ∀ (L : grid0.Coords) (k : Fin k0_t1_loop.trips), 1 ≤ k.val → k.val + 1 < 16 →
      (trip_mid.sl.v91_r0 L k, trip_mid.sl.v139_r0 L k, trip_mid.sl.v121_r0 L k, trip_mid.sl.v135_r0 L k, trip_mid.sl.v143_r0 k)
        = (w6 (k.val + 1), w7 (k.val + 1), w7 (k.val + 1), w9 (k.val + 1), w10 (k.val + 1)) := by decide +kernel
  isplitr; · ipureintro; exact hy L k hk1 hk2
  isplitl [Hmw]; · iexact Hmw
  isplitl [HX]; · iexact HX
  isplitl [Hg0]; · iexact Hg0
  isplitl [Hg1]; · iexact Hg1
  isplitl [Hci]; · iapply (flightI_of d L I (Ring.sl 2 (k.val + 1)) (Ring.bk 16 (k.val + 1)) fi (trip_mid.sl.dma0 d L I k) rfl) $$ Hci
  isplitl [HFI Hi]
  · isplitl [HFI]; · iexact HFI
    iexists _; iexact Hi
  isplitl [HFI_src]; · iexact HFI_src
  isplitl [HFO HFO_src]
  · isplitl [HFO]; · iexact HFO
    iexists _; iexact HFO_src
  isplitl [HFO_dst]; · iexact HFO_dst
  isplitl [Hco]
  · iapply (flightO_of d L X I R₀ (Ring.sl 2 k.val) (Ring.bk 16 k.val) (trip_mid.sl.dma0_1 d L X I k hin h2 h3 fo hin')
      (by
        intro x
        unfold trip_mid.sl.dma0_1
        exact slot_read_at d L X I (Ring.bk 16 k.val) fo (off10_eq k) (off11_eq k) _ _ hin hin' _ _ rfl rfl x) _) $$ Hco
  iexists _; iexact HW

set_option maxHeartbeats 4000000 in
/-- The first trip: no copy out to wait for. -/
theorem trip_first (q : PosShare TreeShare) (k : Fin k0_t1_loop.trips) (hk : k.val = 0)
    (hin : ∀ j, ((lst (Ring.sl 2 k.val)).view.read (Elt F) (IC d L I (Ring.bk 16 k.val)) j).toNat < S81920x128.size gathers_S81920x128_S128x128.axis)
    (O : CellTallies nD τ sig (HIx 1)) (W : Waits sig (HIx 1)) :
    (iprop(Transfers.MayWaits (VT d L) (none : HIx 1) O
      ∗ ((Memref.whole main_arg0_scv).view.loc (VT d L) ↦{q} X)
      ∗ semVal (VT d L, SemLoc.dma cc0_scoped4.sem) 0 ∗ semVal (VT d L, SemLoc.dma cc0_scoped5.sem) 0
      ∗ flightI d L I (Ring.sl 2 k.val) (Ring.bk 16 k.val) ∗ freeI d L (Ring.sl 2 (k.val + 1)) ∗ idxP d L I (Ring.bk 16 (k.val + 1))
      ∗ freeO d L (Ring.sl 2 k.val) ∗ resP d L (Ring.bk 16 k.val) R₀
      ∗ owes (VT d L) O W) : sProp 𝕄)
      ⊢ wp frame (wpE (defs₀ (F := F)) 𝒱₀ (VT d L) none) Set.univ (tripG (F := F) L k)
        (fun acc => iprop(⌜acc = (w6 (k.val + 1), w7 (k.val + 1), w7 (k.val + 1), w9 (k.val + 1), w10 (k.val + 1))⌝ ∗ Transfers.MayWaits (VT d L) (none : HIx 1) O
      ∗ ((Memref.whole main_arg0_scv).view.loc (VT d L) ↦{q} X)
      ∗ semVal (VT d L, SemLoc.dma cc0_scoped4.sem) 0 ∗ semVal (VT d L, SemLoc.dma cc0_scoped5.sem) 0
      ∗ flightI d L I (Ring.sl 2 (k.val + 1)) (Ring.bk 16 (k.val + 1)) ∗ freeI d L (Ring.sl 2 k.val) ∗ idxP d L I (Ring.bk 16 k.val)
      ∗ (∃ fp', flightO d L X I (Ring.sl 2 k.val) (Ring.bk 16 k.val) fp')
      ∗ ∃ W', owes (VT d L) O W')) := by
  have c1 : k0_cond1 L k (w10 k.val) = 1#1 := (cond1_iff L k).mpr (by omega)
  have c2 := cond2_true L k
  have c5 := cond5_true L k
  have c7 : ¬ k0_cond7 L k (w10 k.val) = 1#1 := fun h => by have := (cond7_iff L k).mp h; omega
  have h1 := chk1_at L k
  have h2 := chk2_at k
  have h3 := chk3_at k
  iintro ⟨Hmw, HX, Hg0, Hg1, HFI, ⟨Hci, %fi, Hi⟩, Hix, ⟨Hco, %fo, Ho⟩, HR, HW⟩
  unfold tripG
  sl_unfold [k0_t1_body]
  sl_exec
  have hin' := hin_at d L (off11_eq k) (k0_off11_inb _ h3) _ hin
  ihave Hi' := (Entails.of_eq (islP_at d L (off11_eq k) (k0_off11_inb _ h3) _)) $$ HFI_dst
  ihave Ho' := (Entails.of_eq (oslP_at d L (off10_eq k) (k0_off10_inb _ h2) _)) $$ Ho
  sl_exec
  irevert Hi' Ho'
  iintro Hi' Ho'
  ihave Hi := (Entails.of_eq (islP_at d L (off11_eq k) (k0_off11_inb _ h3) _).symm) $$ Hi'
  ihave Ho := (Entails.of_eq (oslP_at d L (off10_eq k) (k0_off10_inb _ h2) _).symm) $$ Ho'
  sl_exec
  sl_step
  have hy : ∀ (L : grid0.Coords) (k : Fin k0_t1_loop.trips), k.val = 0 →
      (trip_first.sl.v91_r0 L k, trip_first.sl.v139_r0 L k, trip_first.sl.v121_r0 L k, trip_first.sl.v135_r0 L k, trip_first.sl.v143_r0 k)
        = (w6 (k.val + 1), w7 (k.val + 1), w7 (k.val + 1), w9 (k.val + 1), w10 (k.val + 1)) := by decide +kernel
  isplitr; · ipureintro; exact hy L k hk
  isplitl [Hmw]; · iexact Hmw
  isplitl [HX]; · iexact HX
  isplitl [Hg0]; · iexact Hg0
  isplitl [Hg1]; · iexact Hg1
  isplitl [Hci]; · iapply (flightI_of d L I (Ring.sl 2 (k.val + 1)) (Ring.bk 16 (k.val + 1)) fi (trip_first.sl.dma0 d L I k) rfl) $$ Hci
  isplitl [HFI Hi]
  · isplitl [HFI]; · iexact HFI
    iexists _; iexact Hi
  isplitl [HFI_src]; · iexact HFI_src
  isplitl [Hco]
  · iapply (flightO_of d L X I R₀ (Ring.sl 2 k.val) (Ring.bk 16 k.val) (trip_first.sl.dma0_1 d L X I k hin h2 h3 fo hin')
      (by
        intro x
        unfold trip_first.sl.dma0_1
        exact slot_read_at d L X I (Ring.bk 16 k.val) fo (off10_eq k) (off11_eq k) _ _ hin hin' _ _ rfl rfl x) _) $$ Hco
  iexists _; iexact HW

set_option maxHeartbeats 4000000 in
/-- The last trip: no index block left to copy in. -/
theorem trip_last (q : PosShare TreeShare) (fp : Buf (Elt F) (oslV.view.loc (VT d L))) (k : Fin k0_t1_loop.trips) (hk : k.val = 15)
    (hin : ∀ j, ((lst (Ring.sl 2 k.val)).view.read (Elt F) (IC d L I (Ring.bk 16 k.val)) j).toNat < S81920x128.size gathers_S81920x128_S128x128.axis)
    (O : CellTallies nD τ sig (HIx 1)) (W : Waits sig (HIx 1)) :
    (iprop(Transfers.MayWaits (VT d L) (none : HIx 1) O
      ∗ ((Memref.whole main_arg0_scv).view.loc (VT d L) ↦{q} X)
      ∗ semVal (VT d L, SemLoc.dma cc0_scoped4.sem) 0 ∗ semVal (VT d L, SemLoc.dma cc0_scoped5.sem) 0
      ∗ flightI d L I (Ring.sl 2 k.val) (Ring.bk 16 k.val)
      ∗ freeO d L (Ring.sl 2 k.val) ∗ resP d L (Ring.bk 16 k.val) R₀ ∗ flightO d L X I (Ring.sl 2 (k.val + 1)) (Ring.bk 16 (k.val - 1)) fp
      ∗ owes (VT d L) O W) : sProp 𝕄)
      ⊢ wp frame (wpE (defs₀ (F := F)) 𝒱₀ (VT d L) none) Set.univ (tripG (F := F) L k)
        (fun acc => iprop(⌜acc = (w6 (k.val + 1), w7 (k.val + 1), w7 (k.val + 1), w9 (k.val + 1), w10 (k.val + 1))⌝ ∗ Transfers.MayWaits (VT d L) (none : HIx 1) O
      ∗ ((Memref.whole main_arg0_scv).view.loc (VT d L) ↦{q} X)
      ∗ semVal (VT d L, SemLoc.dma cc0_scoped4.sem) 0 ∗ semVal (VT d L, SemLoc.dma cc0_scoped5.sem) 0
      ∗ freeI d L (Ring.sl 2 k.val) ∗ idxP d L I (Ring.bk 16 k.val)
      ∗ freeO d L (Ring.sl 2 (k.val + 1)) ∗ resP d L (Ring.bk 16 (k.val - 1)) (OUT d L X I) ∗ (∃ fp', flightO d L X I (Ring.sl 2 k.val) (Ring.bk 16 k.val) fp')
      ∗ ∃ W', owes (VT d L) O W')) := by
  have c1 : ¬ k0_cond1 L k (w10 k.val) = 1#1 := fun h => by have := (cond1_iff L k).mp h; omega
  have c2 := cond2_true L k
  have c5 := cond5_true L k
  have c7 : k0_cond7 L k (w10 k.val) = 1#1 := (cond7_iff L k).mpr (by omega)
  have h1 := chk1_at L k
  have h2 := chk2_at k
  have h3 := chk3_at k
  iintro ⟨Hmw, HX, Hg0, Hg1, HFI, ⟨Hco, %fo, Ho⟩, HR, HFO, HW⟩
  unfold tripG
  sl_unfold [k0_t1_body]
  sl_exec
  have hin' := hin_at d L (off11_eq k) (k0_off11_inb _ h3) _ hin
  ihave Hi' := (Entails.of_eq (islP_at d L (off11_eq k) (k0_off11_inb _ h3) _)) $$ HFI_dst
  ihave Ho' := (Entails.of_eq (oslP_at d L (off10_eq k) (k0_off10_inb _ h2) _)) $$ Ho
  sl_exec
  irevert Hi' Ho'
  iintro Hi' Ho'
  ihave Hi := (Entails.of_eq (islP_at d L (off11_eq k) (k0_off11_inb _ h3) _).symm) $$ Hi'
  ihave Ho := (Entails.of_eq (oslP_at d L (off10_eq k) (k0_off10_inb _ h2) _).symm) $$ Ho'
  sl_exec
  sl_step
  have hy : ∀ (L : grid0.Coords) (k : Fin k0_t1_loop.trips), k.val = 15 →
      (trip_last.sl.v91_r0 L k, trip_last.sl.v139_r0 L k, trip_last.sl.v121_r0 L k, trip_last.sl.v135_r0 L k, trip_last.sl.v143_r0 k)
        = (w6 (k.val + 1), w7 (k.val + 1), w7 (k.val + 1), w9 (k.val + 1), w10 (k.val + 1)) := by decide +kernel
  isplitr; · ipureintro; exact hy L k hk
  isplitl [Hmw]; · iexact Hmw
  isplitl [HX]; · iexact HX
  isplitl [Hg0]; · iexact Hg0
  isplitl [Hg1]; · iexact Hg1
  isplitl [HFI Hi]
  · isplitl [HFI]; · iexact HFI
    iexists _; iexact Hi
  isplitl [HFI_src]; · iexact HFI_src
  isplitl [HFO HFO_src]
  · isplitl [HFO]; · iexact HFO
    iexists _; iexact HFO_src
  isplitl [HFO_dst]; · iexact HFO_dst
  isplitl [Hco]
  · iapply (flightO_of d L X I R₀ (Ring.sl 2 k.val) (Ring.bk 16 k.val) (trip_last.sl.dma0 d L X I k hin h2 h3 fo hin')
      (by
        intro x
        unfold trip_last.sl.dma0
        exact slot_read_at d L X I (Ring.bk 16 k.val) fo (off10_eq k) (off11_eq k) _ _ hin hin' _ _ rfl rfl x) _) $$ Hco
  iexists _; iexact HW

end Cert.Gather
-- ==== Proof.Tile.lean ====
/-
  One tile's whole run: its sixteen trips by an invariant over the trip, between the start of the first index block's copy
  and the wait for the last result block's.
-/
module

public import proofs.«01_k».proof.Proof.Trip

@[expose] public section

noncomputable section

namespace Cert.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (X : Buf (Elt F) (tabV.view.loc (VT d L))) (I : Buf (Elt F) (idxV.view.loc (VT d L))) (R₀ : Buf (Elt F) (resV.view.loc (VT d L)))

/-! ## The blocks a trip has behind it and before it -/

/-- The result blocks whose copies out are waited for before trip `k`; those not yet gathered. -/
def doneS (k : ℕ) : Finset (Fin 16) := Finset.univ.filter fun b => b.val + 1 < k
def todoS (k : ℕ) : Finset (Fin 16) := Finset.univ.filter fun b => k ≤ b.val

theorem doneS_step : ∀ k : Fin 17, 1 ≤ k.val → Ring.bk 16 (k.val - 1) ∈ doneS (k.val + 1) ∧ (doneS (k.val + 1)).erase (Ring.bk 16 (k.val - 1)) = doneS k.val := by decide +kernel
theorem todoS_step : ∀ k : Fin 16, Ring.bk 16 k.val ∈ todoS k.val ∧ (todoS k.val).erase (Ring.bk 16 k.val) = todoS (k.val + 1) := by decide +kernel
theorem bk_ne : ∀ k : Fin 16, k.val + 1 < 16 → Ring.bk 16 (k.val + 1) ≠ Ring.bk 16 k.val := by decide +kernel
theorem doneS_one : doneS 1 = ∅ := by decide +kernel
theorem doneS_all : doneS 17 = Finset.univ := by decide +kernel
theorem todoS_zero : todoS 0 = Finset.univ := by decide +kernel
theorem todoS_all : todoS 16 = ∅ := by decide +kernel

theorem idx_out (k : ℕ) (hk : k + 1 < 16) :
    (bigSep (Finset.univ.erase (Ring.bk 16 k)) (fun b => idxP d L I b) : sProp 𝕄)
      = iprop(idxP d L I (Ring.bk 16 (k + 1)) ∗ bigSep ((Finset.univ.erase (Ring.bk 16 k)).erase (Ring.bk 16 (k + 1))) fun b => idxP d L I b) :=
  SparseCore.bigSep_erase' (Finset.mem_erase.mpr ⟨bk_ne ⟨k, by omega⟩ hk, Finset.mem_univ _⟩)
theorem idx_in (k : ℕ) (hk : k + 1 < 16) :
    (bigSep (Finset.univ.erase (Ring.bk 16 (k + 1))) (fun b => idxP d L I b) : sProp 𝕄)
      = iprop(idxP d L I (Ring.bk 16 k) ∗ bigSep ((Finset.univ.erase (Ring.bk 16 k)).erase (Ring.bk 16 (k + 1))) fun b => idxP d L I b) := by
  rw [Finset.erase_right_comm]
  exact SparseCore.bigSep_erase' (Finset.mem_erase.mpr ⟨(bk_ne ⟨k, by omega⟩ hk).symm, Finset.mem_univ _⟩)
theorem idx_all (b : Fin 16) :
    (bigSep Finset.univ (fun b => idxP d L I b) : sProp 𝕄) = iprop(idxP d L I b ∗ bigSep (Finset.univ.erase b) fun b => idxP d L I b) :=
  SparseCore.bigSep_erase' (Finset.mem_univ _)
theorem done_in (k : ℕ) (h0 : 1 ≤ k) (hk : k < 17) :
    (bigSep (doneS (k + 1)) (fun b => resP d L b (OUT d L X I)) : sProp 𝕄)
      = iprop(resP d L (Ring.bk 16 (k - 1)) (OUT d L X I) ∗ bigSep (doneS k) fun b => resP d L b (OUT d L X I)) := by
  have h := doneS_step ⟨k, hk⟩ h0
  rw [SparseCore.bigSep_erase' h.1, h.2]
theorem todo_out (k : ℕ) (hk : k < 16) :
    (bigSep (todoS k) (fun b => resP d L b R₀) : sProp 𝕄)
      = iprop(resP d L (Ring.bk 16 k) R₀ ∗ bigSep (todoS (k + 1)) fun b => resP d L b R₀) := by
  have h := todoS_step ⟨k, hk⟩
  rw [SparseCore.bigSep_erase' h.1, h.2]

/-! ## The invariant -/

/-- What every trip starts from alike: the carried words, the table's share, the two gather cells at zero. -/
def core (q : PosShare TreeShare) (O : CellTallies nD τ sig (HIx 1)) (k : ℕ) (acc : BitVec 32 × BitVec 32 × BitVec 32 × BitVec 32 × BitVec 32) : sProp 𝕄 :=
  iprop(⌜acc = (w6 k, w7 k, w7 k, w9 k, w10 k)⌝ ∗ Transfers.MayWaits (VT d L) (none : HIx 1) O
    ∗ ((Memref.whole main_arg0_scv).view.loc (VT d L) ↦{q} X)
    ∗ semVal (VT d L, SemLoc.dma cc0_scoped4.sem) 0 ∗ semVal (VT d L, SemLoc.dma cc0_scoped5.sem) 0
    ∗ ∃ W', owes (VT d L) O W')

/-- What is under way before trip `k`, and which blocks are where. -/
def mov (k : ℕ) : sProp 𝕄 :=
  if k = 0 then iprop(flightI d L I (Ring.sl 2 k) (Ring.bk 16 k) ∗ freeI d L (Ring.sl 2 (k + 1))
      ∗ (bigSep (Finset.univ.erase (Ring.bk 16 k)) fun b => idxP d L I b) ∗ freeO d L (Ring.sl 2 k) ∗ freeO d L (Ring.sl 2 (k + 1))
      ∗ bigSep (todoS k) fun b => resP d L b R₀)
  else if k < 16 then iprop(flightI d L I (Ring.sl 2 k) (Ring.bk 16 k) ∗ freeI d L (Ring.sl 2 (k + 1))
      ∗ (bigSep (Finset.univ.erase (Ring.bk 16 k)) fun b => idxP d L I b) ∗ freeO d L (Ring.sl 2 k)
      ∗ (∃ fp, flightO d L X I (Ring.sl 2 (k + 1)) (Ring.bk 16 (k - 1)) fp)
      ∗ (bigSep (doneS k) fun b => resP d L b (OUT d L X I)) ∗ bigSep (todoS k) fun b => resP d L b R₀)
  else iprop(freeI d L (Ring.sl 2 k) ∗ freeI d L (Ring.sl 2 (k + 1))
      ∗ (bigSep Finset.univ fun b => idxP d L I b) ∗ freeO d L (Ring.sl 2 k)
      ∗ (∃ fp, flightO d L X I (Ring.sl 2 (k + 1)) (Ring.bk 16 (k - 1)) fp)
      ∗ (bigSep (doneS k) fun b => resP d L b (OUT d L X I)))

def inv (q : PosShare TreeShare) (O : CellTallies nD τ sig (HIx 1)) (k : ℕ) (acc : BitVec 32 × BitVec 32 × BitVec 32 × BitVec 32 × BitVec 32) : sProp 𝕄 :=
  iprop(core d L X q O k acc ∗ mov d L X I R₀ k)

theorem sl_two (k : ℕ) : Ring.sl 2 (k + 1 + 1) = Ring.sl 2 k := Ring.sl_add 2 k

/-- Trip `k` takes the invariant at `k` to the invariant at `k + 1`. -/
theorem trip_inv (q : PosShare TreeShare) (O : CellTallies nD τ sig (HIx 1)) (k : Fin k0_t1_loop.trips)
    (hin : ∀ j, ((lst (Ring.sl 2 k.val)).view.read (Elt F) (IC d L I (Ring.bk 16 k.val)) j).toNat < S81920x128.size gathers_S81920x128_S128x128.axis) :
    (inv d L X I R₀ q O k.val (w6 k.val, w7 k.val, w7 k.val, w9 k.val, w10 k.val) : sProp 𝕄)
      ⊢ wp frame (wpE (defs₀ (F := F)) 𝒱₀ (VT d L) none) Set.univ (tripG (F := F) L k) (fun acc => inv d L X I R₀ q O (k.val + 1) acc) := by
  have hlt : k.val < 16 := trips_eq ▸ k.isLt
  have hs := sl_two k.val
  unfold inv core
  rcases Nat.eq_zero_or_pos k.val with h0 | h0
  · rw [show mov d L X I R₀ k.val = _ from if_pos h0, show mov d L X I R₀ (k.val + 1) = _ from (if_neg (by omega)).trans (if_pos (by omega)), hs,
      idx_out d L I k.val (by omega), idx_in d L I k.val (by omega), todo_out d L R₀ k.val hlt,
      show doneS (k.val + 1) = ∅ by rw [h0]; exact doneS_one, Nat.add_sub_cancel]
    iintro ⟨⟨-, Hmw, HX, Hg0, Hg1, %W', HW⟩, HFI, HfI, ⟨Hix, Hixs⟩, Hco, Hco1, HR, HRs⟩
    iapply (wp_wand_r Idealize.ShloMosaic.frame (wpE (defs₀ (F := F)) 𝒱₀ (VT d L) none) Set.univ)
    isplitl [Hmw HX Hg0 Hg1 HW HFI HfI Hix Hco HR]
    · iapply (trip_first d L X I R₀ q k h0 hin O W')
      isplitl [Hmw]; · iexact Hmw
      isplitl [HX]; · iexact HX
      isplitl [Hg0]; · iexact Hg0
      isplitl [Hg1]; · iexact Hg1
      isplitl [HFI]; · iexact HFI
      isplitl [HfI]; · iexact HfI
      isplitl [Hix]; · iexact Hix
      isplitl [Hco]; · iexact Hco
      isplitl [HR]; · iexact HR
      iexact HW
    iintro %acc ⟨%hacc, Hmw, HX, Hg0, Hg1, HFI, HfI, Hix, HFO, HW⟩
    isplitl [Hmw HX Hg0 Hg1 HW]
    · isplitr; · ipureintro; exact hacc
      isplitl [Hmw]; · iexact Hmw
      isplitl [HX]; · iexact HX
      isplitl [Hg0]; · iexact Hg0
      isplitl [Hg1]; · iexact Hg1
      iexact HW
    isplitl [HFI]; · iexact HFI
    isplitl [HfI]; · iexact HfI
    isplitl [Hix Hixs]
    · isplitl [Hix]; · iexact Hix
      iexact Hixs
    isplitl [Hco1]; · iexact Hco1
    isplitl [HFO]; · iexact HFO
    isplitr
    · rw [bigSep_empty]; iempintro
    iexact HRs
  rcases Nat.lt_or_ge (k.val + 1) 16 with h1 | h1
  · rw [show mov d L X I R₀ k.val = _ from (if_neg (by omega)).trans (if_pos (by omega)), show mov d L X I R₀ (k.val + 1) = _ from (if_neg (by omega)).trans (if_pos (by omega)), hs,
      idx_out d L I k.val (by omega), idx_in d L I k.val (by omega), todo_out d L R₀ k.val hlt, done_in d L X I k.val h0 (by omega), Nat.add_sub_cancel]
    iintro ⟨⟨-, Hmw, HX, Hg0, Hg1, %W', HW⟩, HFI, HfI, ⟨Hix, Hixs⟩, Hco, ⟨%fp, HFO⟩, HD, HR, HRs⟩
    iapply (wp_wand_r Idealize.ShloMosaic.frame (wpE (defs₀ (F := F)) 𝒱₀ (VT d L) none) Set.univ)
    isplitl [Hmw HX Hg0 Hg1 HW HFI HfI Hix Hco HR HFO]
    · iapply (trip_mid d L X I R₀ q fp k h0 h1 hin O W')
      isplitl [Hmw]; · iexact Hmw
      isplitl [HX]; · iexact HX
      isplitl [Hg0]; · iexact Hg0
      isplitl [Hg1]; · iexact Hg1
      isplitl [HFI]; · iexact HFI
      isplitl [HfI]; · iexact HfI
      isplitl [Hix]; · iexact Hix
      isplitl [Hco]; · iexact Hco
      isplitl [HR]; · iexact HR
      isplitl [HFO]; · iexact HFO
      iexact HW
    iintro %acc ⟨%hacc, Hmw, HX, Hg0, Hg1, HFI, HfI, Hix, Hco, HRd, HFO, HW⟩
    isplitl [Hmw HX Hg0 Hg1 HW]
    · isplitr; · ipureintro; exact hacc
      isplitl [Hmw]; · iexact Hmw
      isplitl [HX]; · iexact HX
      isplitl [Hg0]; · iexact Hg0
      isplitl [Hg1]; · iexact Hg1
      iexact HW
    isplitl [HFI]; · iexact HFI
    isplitl [HfI]; · iexact HfI
    isplitl [Hix Hixs]
    · isplitl [Hix]; · iexact Hix
      iexact Hixs
    isplitl [Hco]; · iexact Hco
    isplitl [HFO]; · iexact HFO
    isplitl [HRd HD]
    · isplitl [HRd]; · iexact HRd
      iexact HD
    iexact HRs
  · rw [show mov d L X I R₀ k.val = _ from (if_neg (by omega)).trans (if_pos (by omega)), show mov d L X I R₀ (k.val + 1) = _ from (if_neg (by omega)).trans (if_neg (by omega)), hs,
      idx_all d L I (Ring.bk 16 k.val), todo_out d L R₀ k.val hlt, done_in d L X I k.val h0 (by omega), Nat.add_sub_cancel]
    iintro ⟨⟨-, Hmw, HX, Hg0, Hg1, %W', HW⟩, HFI, HfI, Hixs, Hco, ⟨%fp, HFO⟩, HD, HR, HRs⟩
    iapply (wp_wand_r Idealize.ShloMosaic.frame (wpE (defs₀ (F := F)) 𝒱₀ (VT d L) none) Set.univ)
    isplitl [Hmw HX Hg0 Hg1 HW HFI Hco HR HFO]
    · iapply (trip_last d L X I R₀ q fp k (by omega) hin O W')
      isplitl [Hmw]; · iexact Hmw
      isplitl [HX]; · iexact HX
      isplitl [Hg0]; · iexact Hg0
      isplitl [Hg1]; · iexact Hg1
      isplitl [HFI]; · iexact HFI
      isplitl [Hco]; · iexact Hco
      isplitl [HR]; · iexact HR
      isplitl [HFO]; · iexact HFO
      iexact HW
    iintro %acc ⟨%hacc, Hmw, HX, Hg0, Hg1, HfI0, Hix, Hco, HRd, HFO, HW⟩
    isplitl [Hmw HX Hg0 Hg1 HW]
    · isplitr; · ipureintro; exact hacc
      isplitl [Hmw]; · iexact Hmw
      isplitl [HX]; · iexact HX
      isplitl [Hg0]; · iexact Hg0
      isplitl [Hg1]; · iexact Hg1
      iexact HW
    isplitl [HfI]; · iexact HfI
    isplitl [HfI0]; · iexact HfI0
    isplitl [Hix Hixs]
    · isplitl [Hix]; · iexact Hix
      iexact Hixs
    isplitl [Hco]; · iexact Hco
    isplitl [HFO]; · iexact HFO
    isplitl [HRd]; · iexact HRd
    iexact HD

end Cert.Gather
-- ==== Proof.Run.lean ====
module

public import proofs.«01_k».proof.Proof.Tile

@[expose] public section

noncomputable section

namespace Cert.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (X : Buf (Elt F) (tabV.view.loc (VT d L))) (I : Buf (Elt F) (idxV.view.loc (VT d L))) (R₀ : Buf (Elt F) (resV.view.loc (VT d L)))

/-- The kernel on tile `L`, as the launch calls it. -/
abbrev tileProg (L : grid0.Coords) :=
  cc0_gather_kernel (F := F) L tabV (Memref.isWhole_whole _) idxV (Memref.isWhole_whole _) resV (Memref.isWhole_whole _)
    islV (Memref.isWhole_whole _) cc0_scoped1 oslV (Memref.isWhole_whole _) cc0_scoped3 cc0_scoped4 cc0_scoped5

set_option maxHeartbeats 4000000 in
/-- Tile `L` from its blocks, its share of the table, its slots and cells idle, to the same with the result's blocks at the
    gathered rows. -/
theorem tile_run (q : PosShare TreeShare)
    (hin : ∀ (s : Fin 2) (b : Fin 16) j, ((lst s).view.read (Elt F) (IC d L I b) j).toNat < S81920x128.size gathers_S81920x128_S128x128.axis)
    (O : CellTallies nD τ sig (HIx 1)) (W : Waits sig (HIx 1)) :
    (iprop(Transfers.MayWaits (VT d L) (none : HIx 1) O
      ∗ (tabV.view.loc (VT d L) ↦{q} X)
      ∗ (bigSep Finset.univ fun b => idxP d L I b) ∗ (bigSep Finset.univ fun b => resP d L b R₀)
      ∗ freeI d L 0 ∗ freeI d L 1 ∗ freeO d L 0 ∗ freeO d L 1
      ∗ semVal (VT d L, SemLoc.dma cc0_scoped4.sem) 0 ∗ semVal (VT d L, SemLoc.dma cc0_scoped5.sem) 0
      ∗ owes (VT d L) O W) : sProp 𝕄)
      ⊢ wp frame (wpE (defs₀ (F := F)) 𝒱₀ (VT d L) none) Set.univ (tileProg (F := F) L)
        fun _ => iprop((tabV.view.loc (VT d L) ↦{q} X)
          ∗ (bigSep Finset.univ fun b => idxP d L I b) ∗ (bigSep Finset.univ fun b => resP d L b (OUT d L X I))
          ∗ freeI d L 0 ∗ freeI d L 1 ∗ freeO d L 0 ∗ freeO d L 1
          ∗ semVal (VT d L, SemLoc.dma cc0_scoped4.sem) 0 ∗ semVal (VT d L, SemLoc.dma cc0_scoped5.sem) 0
          ∗ ∃ W', owes (VT d L) O W') := by
  have h4 := chk4_at
  have h5 := chk5_at L
  rw [idx_all d L I 0]
  iintro ⟨#Hmw, HX, ⟨Hi0, Hixs⟩, HR, ⟨Hci, %fi, Hi⟩, Hf1, Ho0, Ho1, Hg0, Hg1, HO⟩
  sl_unfold [tileProg, cc0_gather_kernel]
  sl_exec
  sl_for (inv d L X I R₀ q O) $$ [HX Hixs HR Hci Hf1 Ho0 Ho1 Hg0 Hg1 HO]
  case region =>
    intro k acc
    unfold inv core
    iintro ⟨⟨%hacc, Hc⟩, Hm⟩
    subst hacc
    have h := trip_inv d L X I R₀ q O k (hin _ _)
    unfold inv core at h
    iapply h
    isplitl [Hc]
    · isplitr; · ipureintro; rfl
      iexact Hc
    iexact Hm
  · unfold inv core
    rw [show mov d L X I R₀ 0 = _ from if_pos rfl, todoS_zero, show Ring.sl 2 0 = (0 : Fin 2) from rfl, show Ring.sl 2 (0 + 1) = (1 : Fin 2) from rfl,
      show Ring.bk 16 0 = (0 : Fin 16) from rfl]
    isplitl [HX Hg0 Hg1 HO]
    · isplitr; · ipureintro; decide
      isplitr; · iexact Hmw
      isplitl [HX]; · iexact HX
      isplitl [Hg0]; · iexact Hg0
      isplitl [Hg1]; · iexact Hg1
      iexists W; iexact HO
    isplitl [Hci]
    · have h := flightI_of d L I 0 0 fi (tile_run.sl.dma0 d L I) rfl
      rw [isem_0] at h
      iapply h; iexact Hci
    isplitl [Hf1]; · iexact Hf1
    isplitl [Hixs]; · iexact Hixs
    isplitl [Ho0]; · iexact Ho0
    isplitl [Ho1]; · iexact Ho1
    iexact HR
  irw [show Scf.trips k0_t1_loop.lb k0_t1_loop.ub k0_t1_loop.st = 16 from trips_eq]
  unfold inv core
  irw [show mov d L X I R₀ 16 = _ from (if_neg (by omega)).trans (if_neg (by omega)), show Ring.sl 2 16 = (0 : Fin 2) from rfl, show Ring.sl 2 (16 + 1) = (1 : Fin 2) from rfl,
    show Ring.bk 16 (16 - 1) = (15 : Fin 16) from rfl]
  iintro %acc ⟨⟨%hacc, -, HX, Hg0, Hg1, %W', HO⟩, Hf0, Hf1, Hixs, Ho0, ⟨%fp, HFO⟩, HD⟩
  subst hacc
  sl_exec
  sl_step
  rw [← idx_all d L I 0]
  have hd := done_in d L X I 16 (by decide) (by decide)
  rw [doneS_all] at hd
  isplitl [HX]; · iexact HX
  isplitl [Hixs]; · iexact Hixs
  isplitl [HD HFO_dst]
  · rw [hd]
    isplitl [HFO_dst]; · iexact HFO_dst
    iexact HD
  isplitl [Hf0]; · iexact Hf0
  isplitl [Hf1]; · iexact Hf1
  isplitl [Ho0]; · iexact Ho0
  isplitl [HFO HFO_src]
  · isplitl [HFO]
    · irw [show (SemLoc.dma (osem 1).sem : SemLoc sig) = .dma ⟨3, by decide⟩ by decide]
      iexact HFO
    iexists _; iexact HFO_src
  isplitl [Hg0]; · iexact Hg0
  isplitl [Hg1]; · iexact Hg1
  iexists _; iexact HO

end Cert.Gather
-- ==== Proof.Launch.lean ====
module

public import proofs.«01_k».proof.Proof.Run

@[expose] public section

noncomputable section

namespace Cert.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

omit [FloatOps F] in
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

abbrev tLoc (d : Dev nD) : Loc nD τ sig := (SparseCore.T d).loc main_arg0
abbrev iLoc (d : Dev nD) : Loc nD τ sig := (SparseCore.T d).loc main_v5
abbrev rLoc (d : Dev nD) : Loc nD τ sig := (SparseCore.T d).loc main_v6

/-- The coordinates of tile `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's share of the table: the whole dealt to the two SparseCores, each's to its sixteen tiles. -/
def tq (c : Fin 2) (i : Fin 16) : PosShare TreeShare := Transfers.dealOf (Transfers.dealOf fullShare Finset.univ c) Finset.univ i

section Tile

variable (d : Dev nD) (L : grid0.Coords)
variable (X : Buf (Elt F) (tLoc d)) (I : Buf (Elt F) (iLoc d)) (R : Buf (Elt F) (rLoc d))

/-- The elements of tile `L`'s block `b` of row numbers, of its block `b` of the result. -/
def iSet (L : grid0.Coords) (b : Fin 16) : Finset S1x65536.Idx := (Rect.unit (s := S1x65536) ![0, row L b] S1x128.size (inb_idx L b)).set
def rSet (L : grid0.Coords) (b : Fin 16) : Finset S65536x256.Idx := (Rect.unit (s := S65536x256) ![row L b, 0] S128x256.size (inb_res L b)).set

omit [FloatOps F] in
theorem pts_idx (b : Fin 16) (f : Buf (Elt F) (iLoc d)) : (idxP d L f b : sProp 𝕄) = iLoc d ↦[iSet L b]{fullShare} f := by
  have h : (idxB L b).view.set = iSet L b := by
    show ((View.whole (main_v5_scv : Ref sig .scVector)).slice _).set = _
    rw [View.set_slice]; exact Finset.map_refl
  show (iLoc d ↦[(idxB L b).view.set]{fullShare} f : sProp 𝕄) = _
  exact congrArg (fun S => (iLoc d ↦[S]{fullShare} f : sProp 𝕄)) h
omit [FloatOps F] in
theorem pts_res (b : Fin 16) (f : Buf (Elt F) (rLoc d)) : (resP d L b f : sProp 𝕄) = rLoc d ↦[rSet L b]{fullShare} f := by
  have h : (resB L b).view.set = rSet L b := by
    show ((View.whole (main_v6_scv : Ref sig .scVector)).slice _).set = _
    rw [View.set_slice]; exact Finset.map_refl
  show (rLoc d ↦[(resB L b).view.set]{fullShare} f : sProp 𝕄) = _
  exact congrArg (fun S => (rLoc d ↦[S]{fullShare} f : sProp 𝕄)) h

/-- What a tile is dealt and brings back: its share of the table, its sixteen blocks of row numbers, its sixteen blocks of
    the result at `R`. -/
def deal : sProp 𝕄 :=
  iprop((tLoc d ↦{tq (L 0) (L 1)} X) ∗ (bigSep Finset.univ fun b : Fin 16 => iLoc d ↦[iSet L b]{fullShare} I)
    ∗ bigSep Finset.univ fun b : Fin 16 => rLoc d ↦[rSet L b]{fullShare} R)

instance deal_storable : BI.Storable (upEmb : UEmb _ 𝕄) (deal d L X I R) := by unfold deal; infer_instance

/-! ## The tile's own buffers and cells -/

abbrev dcell (d : Dev nD) (c : Fin τ.nSC) (i : Fin τ.nSub) (k : Fin 6) : GSem nD τ sig := (V d c i, .dma (⟨k.val, k.isLt⟩ : DmaSem sig))
abbrev cell0 (k : Fin 6) : sProp 𝕄 := semVal (VT d L, SemLoc.dma (⟨k.val, k.isLt⟩ : DmaSem sig)) 0

omit [FloatOps F] in
theorem dcell_mem (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

omit [FloatOps F] in
theorem ownSems0_V :
    (ownSems0 (VT d L) : sProp 𝕄)
      = iprop((cell0 d L 0 ∗ cell0 d L 1 ∗ cell0 d L 2 ∗ cell0 d L 3 ∗ cell0 d L 4 ∗ cell0 d L 5)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

omit [FloatOps F] in
theorem ownBufs_V :
    (ownBufs (VT d L) : sProp 𝕄)
      = iprop((∃ f, (VT d L).loc cc0_scoped0 ↦{fullShare} f) ∗ (∃ f, (VT d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The slots apart and together -/

def islSet (s : Fin 2) : Finset S2x1x128.Idx := (Rect.unit (s := S2x1x128) ![s.val, 0, 0] S1x1x128.size (inb_isl s)).set
def oslSet (s : Fin 2) : Finset S2x128x256.Idx := (Rect.unit (s := S2x128x256) ![s.val, 0, 0] S1x128x256.size (inb_osl s)).set

omit [FloatOps F] in
theorem pts_isl (s : Fin 2) (f : Buf (Elt F) ((VT d L).loc cc0_scoped0)) : (islP d L s f : sProp 𝕄) = (VT d L).loc cc0_scoped0 ↦[islSet s]{fullShare} f := by
  have h : (isl s).view.set = islSet s :=
    (View.set_reshape ((View.whole (cc0_scoped0 : Ref sig .scVector)).slice (Rect.unit (s := S2x1x128) ![s.val, 0, 0] S1x1x128.size (inb_isl s))) squeezes_S1x1x128_S1x128.numel_eq).trans
      (View.set_slice_whole _ _)
  show ((VT d L).loc cc0_scoped0 ↦[(isl s).view.set]{fullShare} f : sProp 𝕄) = _
  exact congrArg (fun S => ((VT d L).loc cc0_scoped0 ↦[S]{fullShare} f : sProp 𝕄)) h
omit [FloatOps F] in
theorem pts_osl (s : Fin 2) (f : Buf (Elt F) ((VT d L).loc cc0_scoped2)) : (oslP d L s f : sProp 𝕄) = (VT d L).loc cc0_scoped2 ↦[oslSet s]{fullShare} f := by
  have h : (osl s).view.set = oslSet s :=
    (View.set_reshape ((View.whole (cc0_scoped2 : Ref sig .scVector)).slice (Rect.unit (s := S2x128x256) ![s.val, 0, 0] S1x128x256.size (inb_osl s))) squeezes_S1x128x256_S128x256.numel_eq).trans
      (View.set_slice_whole _ _)
  show ((VT d L).loc cc0_scoped2 ↦[(osl s).view.set]{fullShare} f : sProp 𝕄) = _
  exact congrArg (fun S => ((VT d L).loc cc0_scoped2 ↦[S]{fullShare} f : sProp 𝕄)) h

theorem isl_disj (s s' : Fin 2) (h : s ≠ s') : Disjoint (islSet s) (islSet s') :=
  Ring.lead_disjoint (s := S2x1x128) (0 : Fin 3) 1 (fun s : Fin 2 => ![s.val, 0, 0]) S1x1x128.size inb_isl (fun b => (Nat.one_mul _).symm) rfl s s' h
theorem osl_disj (s s' : Fin 2) (h : s ≠ s') : Disjoint (oslSet s) (oslSet s') :=
  Ring.lead_disjoint (s := S2x128x256) (0 : Fin 3) 1 (fun s : Fin 2 => ![s.val, 0, 0]) S1x128x256.size inb_osl (fun b => (Nat.one_mul _).symm) rfl s s' h
theorem isl_cover : Finset.univ.biUnion islSet = Finset.univ :=
  Ring.lead_cover (s := S2x1x128) (0 : Fin 3) 1 (fun s : Fin 2 => ![s.val, 0, 0]) S1x1x128.size inb_isl (fun b => (Nat.one_mul _).symm)
    (fun b a h => by fin_cases a <;> first | exact absurd rfl h | rfl) rfl (fun a h => by fin_cases a <;> first | exact absurd rfl h | rfl) rfl
theorem osl_cover : Finset.univ.biUnion oslSet = Finset.univ :=
  Ring.lead_cover (s := S2x128x256) (0 : Fin 3) 1 (fun s : Fin 2 => ![s.val, 0, 0]) S1x128x256.size inb_osl (fun b => (Nat.one_mul _).symm)
    (fun b a h => by fin_cases a <;> first | exact absurd rfl h | rfl) rfl (fun a h => by fin_cases a <;> first | exact absurd rfl h | rfl) rfl

omit [FloatOps F] in
theorem isl_in : iprop(∃ f, (VT d L).loc cc0_scoped0 ↦{fullShare} f) ⊢ (iprop((∃ f, islP d L 0 f) ∗ ∃ f, islP d L 1 f) : sProp 𝕄) :=
  Ring.slots2_split (ℓ := (VT d L).loc cc0_scoped0) islSet isl_disj isl_cover _ _ (pts_isl d L 0) (pts_isl d L 1)
omit [FloatOps F] in
theorem isl_out : (iprop((∃ f, islP d L 0 f) ∗ ∃ f, islP d L 1 f) : sProp 𝕄) ⊢ iprop(∃ f, (VT d L).loc cc0_scoped0 ↦{fullShare} f) :=
  Ring.slots2_join (ℓ := (VT d L).loc cc0_scoped0) islSet isl_disj isl_cover _ _ (pts_isl d L 0) (pts_isl d L 1)
omit [FloatOps F] in
theorem osl_in : iprop(∃ f, (VT d L).loc cc0_scoped2 ↦{fullShare} f) ⊢ (iprop((∃ f, oslP d L 0 f) ∗ ∃ f, oslP d L 1 f) : sProp 𝕄) :=
  Ring.slots2_split (ℓ := (VT d L).loc cc0_scoped2) oslSet osl_disj osl_cover _ _ (pts_osl d L 0) (pts_osl d L 1)
omit [FloatOps F] in
theorem osl_out : (iprop((∃ f, oslP d L 0 f) ∗ ∃ f, oslP d L 1 f) : sProp 𝕄) ⊢ iprop(∃ f, (VT d L).loc cc0_scoped2 ↦{fullShare} f) :=
  Ring.slots2_join (ℓ := (VT d L).loc cc0_scoped2) oslSet osl_disj osl_cover _ _ (pts_osl d L 0) (pts_osl d L 1)

/-- The result on device `d`: row `r` is the table's row at number `r`. -/
def outD (X : Buf (Elt F) (tLoc d)) (I : Buf (Elt F) (iLoc d)) : Buf (Elt F) (rLoc d) :=
  fun y : S65536x256.Idx => X (tabIx (BitVec.toNat (I (rowIx (y 0).val (y 0).isLt))) (y 1))

/-- Every row number names a row of the table. -/
def InTable (I : Buf (Elt F) (iLoc d)) : Prop := ∀ (r : ℕ) (h : r < 65536), BitVec.toNat (I (rowIx r h)) < 81920

omit [FloatOps F] in
theorem deal_eq : deal d L X I R = (iprop((tabV.view.loc (VT d L) ↦{tq (L 0) (L 1)} X) ∗ (bigSep Finset.univ fun b => idxP d L I b)
    ∗ bigSep Finset.univ fun b => resP d L b R) : sProp 𝕄) := by
  unfold deal
  simp only [pts_idx, pts_res]

/-- The tile's body from what the launch deals it to what it brings back. -/
theorem tile_body (hI : InTable d I) (O : CellTallies nD τ sig (HIx 1)) (W : Waits sig (HIx 1)) (hO : ∀ g, O g none = 0) :
    iprop(levAts (K (F := F)).L (K (F := F)).lev ∗ emp ∗ deal d L X I R
        ∗ scopedBufs (VT d L) ∗ scopedSems0 (VT d L) ∗ owes (VT d L) O W)
      ⊢ wp frame (wpE (defs₀ (F := F)) 𝒱₀ (VT d L) none) Set.univ (tileProg (F := F) L)
          fun _ => iprop(deal d L X I (outD d X I) ∗ scopedBufs (VT d L) ∗ scopedSems0 (VT d L)
            ∗ ∃ W', ⌜∀ p ∈ W', p ∈ W ∨ p.2 = none ∨ p.2 = some (0 : Fin 1)⌝ ∗ owes (VT d L) O W') := by
  have hin : ∀ (s : Fin 2) (b : Fin 16) j, ((lst s).view.read (Elt F) (IC d L I b) j).toNat < S81920x128.size gathers_S81920x128_S128x128.axis := by
    intro s b j
    have hj : (j 0).val < 128 := (j 0).isLt
    rw [lst_read d L I s b j (by have := row_lt L b; omega)]
    exact hI _ _
  rw [(K (F := F)).scopedBufs_V facts d (cV L) (jV L), SparseCore.Cfg.scopedSems0_V (Val := Elt F) d (cV L) (jV L), ownSems0_V, ownBufs_V, deal_eq, deal_eq]
  iintro ⟨#Hlv, -, ⟨HX, HI, HR⟩, ⟨HG, HT, Hbufs⟩, ⟨⟨Hc0, Hc1, Hc2, Hc3, Hc4, Hc5⟩, Hsems⟩, HO⟩
  ihave Hmw := (show levAts (K (F := F)).L (K (F := F)).lev ⊢ Transfers.MayWaits (VT d L) (default : HIx 1) O from
    (K (F := F)).mayWaits_none (thr := VT d L) hO) $$ Hlv
  ihave HG' := (isl_in (F := F) d L) $$ HG
  icases HG' with ⟨HG0, HG1⟩
  ihave HT' := (osl_in (F := F) d L) $$ HT
  icases HT' with ⟨HT0, HT1⟩
  iapply (wp_wand_r Idealize.ShloMosaic.frame (wpE (defs₀ (F := F)) 𝒱₀ (VT d L) none) Set.univ)
  isplitl [HX HI HR HG0 HG1 HT0 HT1 Hc0 Hc1 Hc2 Hc3 Hc4 Hc5 HO]
  · iapply (tile_run d L X I R (tq (L 0) (L 1)) hin O W)
    isplitr; · iexact Hmw
    isplitl [HX]; · iexact HX
    isplitl [HI]; · iexact HI
    isplitl [HR]; · iexact HR
    isplitl [HG0 Hc0]
    · isplitl [Hc0]; · iexact Hc0
      iexact HG0
    isplitl [HG1 Hc1]
    · isplitl [Hc1]; · iexact Hc1
      iexact HG1
    isplitl [HT0 Hc2]
    · isplitl [Hc2]; · iexact Hc2
      iexact HT0
    isplitl [HT1 Hc3]
    · isplitl [Hc3]; · iexact Hc3
      iexact HT1
    isplitl [Hc4]; · iexact Hc4
    isplitl [Hc5]; · iexact Hc5
    iexact HO
  iintro %_ ⟨HX, HI, HR, ⟨Hc0, HG0⟩, ⟨Hc1, HG1⟩, ⟨Hc2, HT0⟩, ⟨Hc3, HT1⟩, Hc4, Hc5, ⟨%W', HO⟩⟩
  isplitl [HX HI HR]
  · isplitl [HX]; · iexact HX
    isplitl [HI]; · iexact HI
    iexact HR
  isplitl [HG0 HG1 HT0 HT1 Hbufs]
  · isplitl [HG0 HG1]
    · iapply (isl_out (F := F) d L)
      isplitl [HG0]; · iexact HG0
      iexact HG1
    isplitl [HT0 HT1]
    · iapply (osl_out (F := F) d L)
      isplitl [HT0]; · iexact HT0
      iexact HT1
    iexact Hbufs
  isplitl [Hc0 Hc1 Hc2 Hc3 Hc4 Hc5 Hsems]
  · isplitr [Hsems]
    · isplitl [Hc0]; · iexact Hc0
      isplitl [Hc1]; · iexact Hc1
      isplitl [Hc2]; · iexact Hc2
      isplitl [Hc3]; · iexact Hc3
      isplitl [Hc4]; · iexact Hc4
      iexact Hc5
    iexact Hsems
  iexists W'; isplitr
  · ipureintro; intro p _
    rcases p.2 with _ | q
    · exact .inr (.inl rfl)
    · exact .inr (.inr (congrArg some (Subsingleton.elim q 0)))
  · iexact HO

end Tile

end Cert.Gather
-- ==== Proof.Split.lean ====
module

public import proofs.«01_k».proof.Proof.Launch

/-! The three arrays whole are what the thirty-two tiles are dealt: the table by shares, the row numbers and the result by
    the blocks, sixteen a tile. -/

@[expose] public section

noncomputable section

namespace Cert.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

abbrev Blk : Type := (Fin 2 × Fin 16) × Fin 16
abbrev iBlk (p : Blk) : Finset S1x65536.Idx := iSet (coordsV p.1.1 p.1.2) p.2
abbrev rBlk (p : Blk) : Finset S65536x256.Idx := rSet (coordsV p.1.1 p.1.2) p.2

theorem row_val (c : Fin 2) (i b : Fin 16) : row (coordsV c i) b = 32768 * c.val + 2048 * i.val + 128 * b.val := rfl

theorem mem_iBlk (p : Blk) (x : S1x65536.Idx) : x ∈ iBlk p ↔ 32768 * p.1.1.val + 2048 * p.1.2.val + 128 * p.2.val ≤ (x 1).val
    ∧ (x 1).val < 32768 * p.1.1.val + 2048 * p.1.2.val + 128 * p.2.val + 128 := by
  have h0 : (x 0).val < 1 := (x 0).isLt
  unfold iBlk iSet
  rw [Rect.mem_set_unit]
  constructor
  · intro h; exact h 1
  · intro h a
    fin_cases a
    · show 0 ≤ (x 0).val ∧ (x 0).val < 0 + 1; omega
    · exact h
theorem mem_rBlk (p : Blk) (x : S65536x256.Idx) : x ∈ rBlk p ↔ 32768 * p.1.1.val + 2048 * p.1.2.val + 128 * p.2.val ≤ (x 0).val
    ∧ (x 0).val < 32768 * p.1.1.val + 2048 * p.1.2.val + 128 * p.2.val + 128 := by
  have h1 : (x 1).val < 256 := (x 1).isLt
  unfold rBlk rSet
  rw [Rect.mem_set_unit]
  constructor
  · intro h; exact h 0
  · intro h a
    fin_cases a
    · exact h
    · show 0 ≤ (x 1).val ∧ (x 1).val < 0 + 256; omega

/-- The tile and block of row `n`. -/
def blkOf (n : ℕ) (h : n < 65536) : Blk :=
  ((⟨n / 32768, by omega⟩, ⟨n % 32768 / 2048, by omega⟩), ⟨n % 2048 / 128, by omega⟩)

theorem blk_ext (p p' : Blk) (n : ℕ)
    (h : 32768 * p.1.1.val + 2048 * p.1.2.val + 128 * p.2.val ≤ n ∧ n < 32768 * p.1.1.val + 2048 * p.1.2.val + 128 * p.2.val + 128)
    (h' : 32768 * p'.1.1.val + 2048 * p'.1.2.val + 128 * p'.2.val ≤ n ∧ n < 32768 * p'.1.1.val + 2048 * p'.1.2.val + 128 * p'.2.val + 128) : p = p' := by
  obtain ⟨⟨c, i⟩, b⟩ := p
  obtain ⟨⟨c', i'⟩, b'⟩ := p'
  have := c.isLt; have := i.isLt; have := b.isLt; have := c'.isLt; have := i'.isLt; have := b'.isLt
  dsimp only at h h'
  have e1 : c = c' := Fin.ext (by omega)
  subst e1
  have e2 : i = i' := Fin.ext (by omega)
  subst e2
  have e3 : b = b' := Fin.ext (by omega)
  subst e3
  rfl

theorem blk_at (n : ℕ) (h : n < 65536) : 32768 * (blkOf n h).1.1.val + 2048 * (blkOf n h).1.2.val + 128 * (blkOf n h).2.val ≤ n
    ∧ n < 32768 * (blkOf n h).1.1.val + 2048 * (blkOf n h).1.2.val + 128 * (blkOf n h).2.val + 128 := by
  show 32768 * (n / 32768) + 2048 * (n % 32768 / 2048) + 128 * (n % 2048 / 128) ≤ n
    ∧ n < 32768 * (n / 32768) + 2048 * (n % 32768 / 2048) + 128 * (n % 2048 / 128) + 128
  omega

theorem iBlk_disj : ∀ p ∈ (Finset.univ : Finset Blk), ∀ p' ∈ (Finset.univ : Finset Blk), p ≠ p' → Disjoint (iBlk p) (iBlk p') :=
  fun p _ p' _ hne => Finset.disjoint_left.mpr fun x h h' => hne (blk_ext p p' (x 1).val ((mem_iBlk p x).1 h) ((mem_iBlk p' x).1 h'))
theorem rBlk_disj : ∀ p ∈ (Finset.univ : Finset Blk), ∀ p' ∈ (Finset.univ : Finset Blk), p ≠ p' → Disjoint (rBlk p) (rBlk p') :=
  fun p _ p' _ hne => Finset.disjoint_left.mpr fun x h h' => hne (blk_ext p p' (x 0).val ((mem_rBlk p x).1 h) ((mem_rBlk p' x).1 h'))
theorem iBlk_cover : (Finset.univ : Finset Blk).biUnion iBlk = Finset.univ :=
  Finset.eq_univ_of_forall fun x => Finset.mem_biUnion.mpr ⟨blkOf (x 1).val (x 1).isLt, Finset.mem_univ _, (mem_iBlk _ x).2 (blk_at _ _)⟩
theorem rBlk_cover : (Finset.univ : Finset Blk).biUnion rBlk = Finset.univ :=
  Finset.eq_univ_of_forall fun x => Finset.mem_biUnion.mpr ⟨blkOf (x 0).val (x 0).isLt, Finset.mem_univ _, (mem_rBlk _ x).2 (blk_at _ _)⟩

variable (d : Dev nD)

omit [FloatOps F] in
theorem iPts_blks (f : Buf (Elt F) (iLoc d)) : (iLoc d ↦{fullShare} f : sProp 𝕄)
    = bigSep Finset.univ fun c : Fin 2 => bigSep Finset.univ fun i : Fin 16 => bigSep Finset.univ fun b : Fin 16 => iLoc d ↦[iSet (coordsV c i) b]{fullShare} f := by
  have h : (iLoc d ↦{fullShare} f : sProp 𝕄) = bigSep Finset.univ fun p : Blk => iLoc d ↦[iBlk p]{fullShare} f := by
    rw [← pointsTo_biUnion Finset.univ (ℓ := iLoc d) iBlk iBlk_disj, iBlk_cover]; try rfl
  rw [h, BI.bigSep_univ_prod, BI.bigSep_univ_prod]
omit [FloatOps F] in
theorem rPts_blks (f : Buf (Elt F) (rLoc d)) : (rLoc d ↦{fullShare} f : sProp 𝕄)
    = bigSep Finset.univ fun c : Fin 2 => bigSep Finset.univ fun i : Fin 16 => bigSep Finset.univ fun b : Fin 16 => rLoc d ↦[rSet (coordsV c i) b]{fullShare} f := by
  have h : (rLoc d ↦{fullShare} f : sProp 𝕄) = bigSep Finset.univ fun p : Blk => rLoc d ↦[rBlk p]{fullShare} f := by
    rw [← pointsTo_biUnion Finset.univ (ℓ := rLoc d) rBlk rBlk_disj, rBlk_cover]; try rfl
  rw [h, BI.bigSep_univ_prod, BI.bigSep_univ_prod]
omit [FloatOps F] in
theorem tPts_shares (f : Buf (Elt F) (tLoc d)) : (tLoc d ↦{fullShare} f : sProp 𝕄)
    = bigSep Finset.univ fun c : Fin 2 => bigSep Finset.univ fun i : Fin 16 => tLoc d ↦{tq c i} f := by
  rw [Transfers.pointsTo_deal (Finset.univ : Finset (Fin 2)) Finset.univ_nonempty fullShare]
  exact bigSep_congr fun c _ => Transfers.pointsTo_deal (Finset.univ : Finset (Fin 16)) Finset.univ_nonempty _

/-- The three arrays whole are the tiles' parts. -/
theorem deal_whole (X : Buf (Elt F) (tLoc d)) (I : Buf (Elt F) (iLoc d)) (R : Buf (Elt F) (rLoc d)) :
    (bigSep Finset.univ fun c : Fin 2 => bigSep Finset.univ fun i : Fin 16 => deal d (coordsV c i) X I R)
      = (iprop((tLoc d ↦{fullShare} X) ∗ (iLoc d ↦{fullShare} I) ∗ rLoc d ↦{fullShare} R) : sProp 𝕄) := by
  rw [tPts_shares, iPts_blks, rPts_blks]
  unfold deal
  simp only [bigSep_sep']
  rfl

end Cert.Gather
-- ==== Proof.Main.lean ====
module

public import proofs.«01_k».proof.Proof.Split
public import Idealize.ShloMosaic.Lib.StableHlo.Run

/-! @main: the row numbers laid out in one line, the SparseCore call, the result read. -/

@[expose] public section

noncomputable section

namespace Cert.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

abbrev dLoc (d : Dev nD) : Loc nD τ sig := (SparseCore.T d).loc main_arg1

/-! ## The host operations -/

abbrev a0' : DevRef τ sig := Proc.devRef .tc (main_arg0 : Ref sig .tc)
abbrev a1' : DevRef τ sig := Proc.devRef .tc (main_arg1 : Ref sig .tc)
abbrev h0' : DevRef τ sig := Proc.devRef .tc (main_v0 : Ref sig .tc)
abbrev h1' : DevRef τ sig := Proc.devRef .tc (main_v1 : Ref sig .tc)
abbrev h2' : DevRef τ sig := Proc.devRef .tc (main_v2 : Ref sig .tc)
abbrev h3' : DevRef τ sig := Proc.devRef .tc (main_v3 : Ref sig .tc)
abbrev h4' : DevRef τ sig := Proc.devRef .tc (main_v4 : Ref sig .tc)
abbrev h5' : DevRef τ sig := Proc.devRef .tc (main_v5 : Ref sig .tc)
abbrev h6' : DevRef τ sig := Proc.devRef .tc (main_v6 : Ref sig .tc)
abbrev op0 : HloOp τ sig (Elt F) := StableHlo.unary main_arg1 main_v0 ((extractStridedSlice S32768x1 ![0, 0] · slices_S32768x2_S32768x1_0_0) : (⟨S32768x2, .i32⟩ : BufTy).Contents (Elt F) → (⟨S32768x1, .i32⟩ : BufTy).Contents (Elt F))
abbrev op1 : HloOp τ sig (Elt F) := StableHlo.reshape main_v0 main_v1 (rfl : (.i32 : EltTy) = .i32) shapeCasts_S32768x1_S32768
abbrev op2 : HloOp τ sig (Elt F) := StableHlo.unary main_arg1 main_v2 ((extractStridedSlice S32768x1 ![0, 1] · slices_S32768x2_S32768x1_0_1) : (⟨S32768x2, .i32⟩ : BufTy).Contents (Elt F) → (⟨S32768x1, .i32⟩ : BufTy).Contents (Elt F))
abbrev op3 : HloOp τ sig (Elt F) := StableHlo.reshape main_v2 main_v3 (rfl : (.i32 : EltTy) = .i32) shapeCasts_S32768x1_S32768
abbrev op4 : HloOp τ sig (Elt F) := StableHlo.binary main_v1 main_v3 main_v4 ((fun a b => concatenate S65536 0 [⟨S32768, a⟩, ⟨S32768, b⟩] concatenates_S32768_S32768_S65536_d0) : (⟨S32768, .i32⟩ : BufTy).Contents (Elt F) → (⟨S32768, .i32⟩ : BufTy).Contents (Elt F) → (⟨S65536, .i32⟩ : BufTy).Contents (Elt F))
abbrev op5 : HloOp τ sig (Elt F) := StableHlo.reshape main_v4 main_v5 (rfl : (.i32 : EltTy) = .i32) shapeCasts_S65536_S1x65536

/-- The TensorCore's arrays, all unscoped. -/
abbrev S9 : Finset (DevRef τ sig) := {a0', a1', h0', h1', h2', h3', h4', h5', h6'}

omit [FloatOps F] in
theorem held_S9 (d : Dev nD) (W : Valuation τ sig (Elt F)) :
    (held (T d) S9 W : sProp 𝕄)
      = iprop((tLoc d ↦{fullShare} W a0') ∗ (dLoc d ↦{fullShare} W a1') ∗ ((SparseCore.T d).loc main_v0 ↦{fullShare} W h0')
          ∗ ((SparseCore.T d).loc main_v1 ↦{fullShare} W h1') ∗ ((SparseCore.T d).loc main_v2 ↦{fullShare} W h2')
          ∗ ((SparseCore.T d).loc main_v3 ↦{fullShare} W h3') ∗ ((SparseCore.T d).loc main_v4 ↦{fullShare} W h4')
          ∗ (iLoc d ↦{fullShare} W h5') ∗ rLoc d ↦{fullShare} W h6') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
omit [FloatOps F] in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (dLoc d ↦{fullShare} W main_arg1) ∗ ((SparseCore.T d).loc main_v0 ↦{fullShare} W main_v0)
          ∗ ((SparseCore.T d).loc main_v1 ↦{fullShare} W main_v1) ∗ ((SparseCore.T d).loc main_v2 ↦{fullShare} W main_v2)
          ∗ ((SparseCore.T d).loc main_v3 ↦{fullShare} W main_v3) ∗ ((SparseCore.T d).loc main_v4 ↦{fullShare} W main_v4)
          ∗ (iLoc d ↦{fullShare} W main_v5) ∗ rLoc d ↦{fullShare} W main_v6) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The arrays at launch, and before the call. -/
def V0 (d : Dev nD) : Valuation τ sig (Elt F) := fun b => m (d, b)
def V6 (d : Dev nD) : Valuation τ sig (Elt F) := (op5 (F := F)).result ((op4 (F := F)).result ((op3 (F := F)).result ((op2 (F := F)).result
  ((op1 (F := F)).result ((op0 (F := F)).result (V0 m d))))))

set_option maxRecDepth 4096 in
theorem unscoped_held (d : Dev nD) : (unscopedBufs d (fun b => m ((SparseCore.T d).loc b)) : sProp 𝕄) = held (T d) S9 (V0 m d) := by
  rw [unscopedBufs_eq, held_S9]; rfl

theorem V6_keep (d : Dev nD) (b : DevRef τ sig) (h0 : b ∉ ({h0'} : Finset (DevRef τ sig))) (h1 : b ∉ ({h1'} : Finset (DevRef τ sig)))
    (h2 : b ∉ ({h2'} : Finset (DevRef τ sig))) (h3 : b ∉ ({h3'} : Finset (DevRef τ sig))) (h4 : b ∉ ({h4'} : Finset (DevRef τ sig)))
    (h5 : b ∉ ({h5'} : Finset (DevRef τ sig))) : V6 m d b = m (d, b) := by
  unfold V6
  rw [(op5 (F := F)).result_of_not_mem _ h5, (op4 (F := F)).result_of_not_mem _ h4, (op3 (F := F)).result_of_not_mem _ h3,
    (op2 (F := F)).result_of_not_mem _ h2, (op1 (F := F)).result_of_not_mem _ h1, (op0 (F := F)).result_of_not_mem _ h0]
  rfl
theorem V6_a0 (d : Dev nD) : V6 m d a0' = m (tLoc d) := V6_keep m d a0' (by decide) (by decide) (by decide) (by decide) (by decide) (by decide)
theorem V6_a1 (d : Dev nD) : V6 m d a1' = m (dLoc d) := V6_keep m d a1' (by decide) (by decide) (by decide) (by decide) (by decide) (by decide)
theorem V6_r (d : Dev nD) : V6 m d h6' = m (rLoc d) := V6_keep m d h6' (by decide) (by decide) (by decide) (by decide) (by decide) (by decide)

/-- The row numbers in one line: the two columns one after the other. -/
def line (dest : (⟨S32768x2, .i32⟩ : BufTy).Contents (Elt F)) : (⟨S1x65536, .i32⟩ : BufTy).Contents (Elt F) :=
  shapeCast S1x65536 (concatenate S65536 0
    [⟨S32768, shapeCast S32768 (extractStridedSlice S32768x1 ![0, 0] dest slices_S32768x2_S32768x1_0_0) shapeCasts_S32768x1_S32768⟩,
     ⟨S32768, shapeCast S32768 (extractStridedSlice S32768x1 ![0, 1] dest slices_S32768x2_S32768x1_0_1) shapeCasts_S32768x1_S32768⟩]
    concatenates_S32768_S32768_S65536_d0) shapeCasts_S65536_S1x65536

def lineD (d : Dev nD) : Buf (Elt F) (iLoc d) := line (F := F) (m (dLoc d))

theorem V6_i (d : Dev nD) : V6 m d h5' = lineD m d := by
  unfold V6
  after_results_simp
  rfl

/-! ## What the tasks take and give -/

/-- The tile of SparseCore `c`'s task `i`. -/
abbrev Lc (c : Fin ((K (F := F)).nCore 0)) (i : Fin ((K (F := F)).nSub 0)) : grid0.Coords := coordsV ⟨c.val, c.isLt⟩ ⟨i.val, i.isLt⟩

abbrev goD (d : Dev nD) (c : Fin 2) (i : Fin 16) : sProp 𝕄 := deal d (coordsV c i) (m (tLoc d)) (lineD m d) (m (rLoc d))
abbrev tdD (d : Dev nD) (c : Fin 2) (i : Fin 16) : sProp 𝕄 :=
  deal d (coordsV c i) (m (tLoc d)) (lineD m d) (outD d (m (tLoc d)) (lineD m d))

def P : (K (F := F)).Pay (nD := nD) (Val := Elt F) (Name := ℕ) (U := UU) where
  st := fun q d c => match q with | 0 => bigSep Finset.univ fun i : Fin 16 => goD m d ⟨c.val, c.isLt⟩ i
  dn := fun q d c => match q with | 0 => bigSep Finset.univ fun i : Fin 16 => tdD m d ⟨c.val, c.isLt⟩ i
  go := fun q d c i => match q with | 0 => goD m d ⟨c.val, c.isLt⟩ ⟨i.val, i.isLt⟩
  td := fun q d c i => match q with | 0 => tdD m d ⟨c.val, c.isLt⟩ ⟨i.val, i.isLt⟩
  x := fun _ _ => iprop(emp)

theorem go_storable (d : Dev nD) (c : Fin 2) : BI.Storable (upEmb : UEmb _ 𝕄) (bigSep Finset.univ fun i : Fin 16 => goD m d c i) := by
  have h : ∀ i : Fin 16, BI.Storable (upEmb : UEmb _ 𝕄) (goD m d c i) := fun i => deal_storable d (coordsV c i) _ _ _
  exact BI.Storable.bigSep _ _ _
theorem td_storable (d : Dev nD) (c : Fin 2) : BI.Storable (upEmb : UEmb _ 𝕄) (bigSep Finset.univ fun i : Fin 16 => tdD m d c i) := by
  have h : ∀ i : Fin 16, BI.Storable (upEmb : UEmb _ 𝕄) (tdD m d c i) := fun i => deal_storable d (coordsV c i) _ _ _
  exact BI.Storable.bigSep _ _ _

instance P_storable : (P (F := F) m).IsStorable where
  st q d c := match q with | 0 => (go_storable m d ⟨c.val, c.isLt⟩)
  dn q d c := match q with | 0 => (td_storable m d ⟨c.val, c.isLt⟩)
  go q d c i := match q with | 0 => (inferInstance : BI.Storable (upEmb : UEmb _ 𝕄) (goD m d ⟨c.val, c.isLt⟩ ⟨i.val, i.isLt⟩))
  td q d c i := match q with | 0 => (inferInstance : BI.Storable (upEmb : UEmb _ 𝕄) (tdD m d ⟨c.val, c.isLt⟩ ⟨i.val, i.isLt⟩))

/-- What the proof asks of the launch memory: every row number names a row of the table. -/
def PreOK : Prop := ∀ d : Dev nD, InTable d (lineD m d)

theorem defs₀_vector (c : Fin τ.nSC) (s : Fin τ.nSub) :
    defs₀ (F := F) (.scVector c s) 0 () = SparseCore.onTile hcore0 hsub0 (fun c s => tileProg (F := F) (coordsV c s)) ⟨⟩ c s := rfl

theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (m (tLoc d)) (lineD m d) (m (rLoc d)) (hpre d) O W hO

theorem vecSplit : (K (F := F)).VecSplit' (P m) 0 := by
  intro d c
  show (bigSep Finset.univ fun i : Fin 16 => goD m d ⟨c.val, c.isLt⟩ i) ⊢ |={Set.univ}=> iprop(
      (bigSep Finset.univ fun i : Fin 16 => goD m d ⟨c.val, c.isLt⟩ i)
      ∗ ((bigSep Finset.univ fun i : Fin 16 => tdD m d ⟨c.val, c.isLt⟩ i) -∗ bigSep Finset.univ fun i : Fin 16 => tdD m d ⟨c.val, c.isLt⟩ i))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem st0_eq (d : Dev nD) : (bigSep Finset.univ fun c : Fin ((K (F := F)).nCore 0) => (P m).st 0 d c)
    = iprop((tLoc d ↦{fullShare} m (tLoc d)) ∗ (iLoc d ↦{fullShare} lineD m d) ∗ rLoc d ↦{fullShare} m (rLoc d)) :=
  deal_whole d (m (tLoc d)) (lineD m d) (m (rLoc d))
theorem dn0_eq (d : Dev nD) : (bigSep Finset.univ fun c : Fin ((K (F := F)).nCore 0) => (P m).dn 0 d c)
    = iprop((tLoc d ↦{fullShare} m (tLoc d)) ∗ (iLoc d ↦{fullShare} lineD m d) ∗ rLoc d ↦{fullShare} outD d (m (tLoc d)) (lineD m d)) :=
  deal_whole d (m (tLoc d)) (lineD m d) (outD d (m (tLoc d)) (lineD m d))

theorem hOp0 : (op0 (F := F)).bufs ⊆ S9 := show ({a1', h0'} : Finset (DevRef τ sig)) ⊆ S9 by decide
theorem hOp1 : (op1 (F := F)).bufs ⊆ S9 := show ({h0', h1'} : Finset (DevRef τ sig)) ⊆ S9 by decide
theorem hOp2 : (op2 (F := F)).bufs ⊆ S9 := show ({a1', h2'} : Finset (DevRef τ sig)) ⊆ S9 by decide
theorem hOp3 : (op3 (F := F)).bufs ⊆ S9 := show ({h2', h3'} : Finset (DevRef τ sig)) ⊆ S9 by decide
theorem hOp4 : (op4 (F := F)).bufs ⊆ S9 := show ({h1', h3', h4'} : Finset (DevRef τ sig)) ⊆ S9 by decide
theorem hOp5 : (op5 (F := F)).bufs ⊆ S9 := show ({h4', h5'} : Finset (DevRef τ sig)) ⊆ S9 by decide

/-- The arrays before the call. -/
theorem held_V6 (d : Dev nD) :
    (held (T d) S9 ((op5 (F := F)).result ((op4 (F := F)).result ((op3 (F := F)).result ((op2 (F := F)).result
        ((op1 (F := F)).result ((op0 (F := F)).result (V0 m d))))))) : sProp 𝕄)
      = iprop((tLoc d ↦{fullShare} m (tLoc d)) ∗ (dLoc d ↦{fullShare} m (dLoc d)) ∗ ((SparseCore.T d).loc main_v0 ↦{fullShare} V6 m d h0')
          ∗ ((SparseCore.T d).loc main_v1 ↦{fullShare} V6 m d h1') ∗ ((SparseCore.T d).loc main_v2 ↦{fullShare} V6 m d h2')
          ∗ ((SparseCore.T d).loc main_v3 ↦{fullShare} V6 m d h3') ∗ ((SparseCore.T d).loc main_v4 ↦{fullShare} V6 m d h4')
          ∗ (iLoc d ↦{fullShare} lineD m d) ∗ rLoc d ↦{fullShare} m (rLoc d)) := by
  show held (SparseCore.T d) S9 (V6 m d) = _
  rw [held_S9, V6_a0, V6_a1, V6_i, V6_r]

/-- What @main leaves: the two arguments as launched, the result. -/
abbrev FIN (d : Dev nD) : sProp 𝕄 := iprop((tLoc d ↦{fullShare} m (tLoc d)) ∗ (dLoc d ↦{fullShare} m (dLoc d))
  ∗ rLoc d ↦{fullShare} outD d (m (tLoc d)) (lineD m d))

/-- @main: the six host operations, the call from the table, the line of row numbers and the result's array. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S9) hOp0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S9) hOp1) $$ [Hb Hheld]
  · isplitl [Hb] <;> iassumption
  iintro ⟨Hb, Hheld⟩
  rw [wp_ret]; imodintro
  iapply (wp_hlo_within 𝒱 (SparseCore.T d) none Set.univ (op := op2) (S := S9) hOp2) $$ [Hb Hheld]
  · isplitl [Hb] <;> iassumption
  iintro ⟨Hb, Hheld⟩
  rw [wp_ret]; imodintro
  iapply (wp_hlo_within 𝒱 (SparseCore.T d) none Set.univ (op := op3) (S := S9) hOp3) $$ [Hb Hheld]
  · isplitl [Hb] <;> iassumption
  iintro ⟨Hb, Hheld⟩
  rw [wp_ret]; imodintro
  iapply (wp_hlo_within 𝒱 (SparseCore.T d) none Set.univ (op := op4) (S := S9) hOp4) $$ [Hb Hheld]
  · isplitl [Hb] <;> iassumption
  iintro ⟨Hb, Hheld⟩
  rw [wp_ret]; imodintro
  iapply (wp_hlo_within 𝒱 (SparseCore.T d) none Set.univ (op := op5) (S := S9) hOp5) $$ [Hb Hheld]
  · isplitl [Hb] <;> iassumption
  iintro ⟨Hb, Hheld⟩
  rw [wp_ret]; imodintro
  ihave Hh := (Entails.of_eq (held_V6 (F := F) m d)) $$ Hheld
  icases Hh with ⟨Ht, Hd, -, -, -, -, -, Hi, Hr⟩
  iapply ((K (F := F)).wp_run (D (F := F)) 𝒱 (EH := EH) (P := P m) κ d 0) $$ [Hst Ht Hi Hr Hd Hb Hts]
  isplitr; · iexact Hctx
  isplitl [Hst]; · iexact Hst
  isplitl [Ht Hi Hr]
  · rw [st0_eq]
    isplitl [Ht]; · iexact Ht
    isplitl [Hi]; · iexact Hi
    iexact Hr
  iintro ⟨Hst, Hdn⟩
  ihave Hdn' := (Entails.of_eq (dn0_eq m d)) $$ Hdn
  icases Hdn' with ⟨Ht, Hi, Hr⟩
  imodintro
  isplitl [Hst]; · iexact Hst
  isplitr [Hb Hts]
  · isplitl [Ht]; · iexact Ht
    isplitl [Hd]; · iexact Hd
    iexact Hr
  isplitl [Hb] <;> iassumption

/-! ## The run -/

def fq (d : Dev nD) (s' : Phys nD τ sig (Elt F)) : Prop :=
  s'.mem.mem (tLoc d) = m (tLoc d) ∧ s'.mem.mem (dLoc d) = m (dLoc d) ∧ s'.mem.mem (rLoc d) = outD d (m (tLoc d)) (lineD m d)

theorem hfin (d : Dev nD) (s' : Phys nD τ sig (Elt F)) : iprop(FIN m d ∗ SI s') ⊢ (⌜fq m d s'⌝ : sProp 𝕄) := by
  iintro ⟨⟨Ht, Hd, Hr⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := dLoc d) (I := Finset.univ) (q := fullShare) (f := m (dLoc d)))) $$ [HSI Hd]
  · isplitl [HSI] <;> iassumption
  icases H with ⟨%h2, HSI, -⟩
  ihave H := (SI_pointsTo_agree (st := s') (ℓ := rLoc d) (I := Finset.univ) (q := fullShare) (f := outD d (m (tLoc d)) (lineD m d))) $$ [HSI Hr]
  · isplitl [HSI] <;> iassumption
  icases H with %h3
  ipureintro
  have e1 : s'.mem.mem (tLoc d) = m (tLoc d) := funext fun (i : Idx (tLoc d)) => h1 i (Finset.mem_univ i)
  have e2 : s'.mem.mem (dLoc d) = m (dLoc d) := funext fun (i : Idx (dLoc d)) => h2 i (Finset.mem_univ i)
  have e3 : s'.mem.mem (rLoc d) = outD d (m (tLoc d)) (lineD m d) := funext fun (i : Idx (rLoc d)) => h3 i (Finset.mem_univ i)
  exact ⟨e1, e2, e3⟩

def QC : PUnit × MemSt nD τ sig (Elt F) → Prop := fun r => (∀ c : Dev nD, r.2.mem (tLoc c) = m (tLoc c) ∧ r.2.mem (dLoc c) = m (dLoc c)
  ∧ r.2.mem (rLoc c) = outD c (m (tLoc c)) (lineD m c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Gather
-- ==== Proof.Ref.lean ====
module

public import proofs.«01_k».proof.Proof.Main
public import proofs.«01_k».proof.Proof.Gen.ReferenceIdeal.Run
public import Idealize.ShloMosaic.Lib.ValueLayout
public import Idealize.ShloMosaic.Lib.Routing.Ops
public import Idealize.ShloMosaic.Lib.Quiescent

/-! The reference's result at an index, and that it is the kernel's: row `r` is the table's row numbered by entry `r` of the two
    columns laid end to end. -/

@[expose] public section

noncomputable section

namespace Cert.Gather

open Cert.KernelIdeal Cert.KernelIdeal.Gen
open Idealize.ShloMosaic Idealize.SL.Sem
open Idealize.ShloMosaic.Routing (gather_row)

variable {F : FTy → Type} [FloatOps F]

/-- One column of the row numbers. -/
theorem col_at (k : ℕ) (hk : k < 2) (dest : S32768x2.Idx → BitVec 32) (hs : S32768x2.Slices ![0, k] S32768x1) (hc : S32768x1.ShapeCasts S32768)
    (i : Fin 32768) : shapeCast S32768 (extractStridedSlice S32768x1 ![0, k] dest hs) hc (ix1 i) = dest (ix2 i (⟨k, hk⟩ : Fin 2)) := by
  refine (shapeCast_apply _ hc (ix1 i) (ix2 i (0 : Fin 1)) ?_).trans (extractStridedSlice_apply _ dest hs _ _ ?_)
  · rw [Shape.rowMajor_val_two, Shape.rowMajor_val_one]
    show i.val * 1 + 0 = i.val
    omega
  · intro a
    fin_cases a
    · show i.val = 0 + i.val; omega
    · show k = k + 0; omega

theorem rowIx_eq (r : ℕ) (h : r < 65536) : rowIx r h = ix2 (0 : Fin 1) (⟨r, h⟩ : Fin 65536) := by
  funext a; fin_cases a <;> rfl

/-- The line of row numbers: the first column, then the second. -/
theorem line_lo (dest : (⟨S32768x2, .i32⟩ : BufTy).Contents (Elt F)) (r : ℕ) (h : r < 32768) (h' : r < 65536) :
    line (F := F) dest (rowIx r h') = dest (ix2 (⟨r, h⟩ : Fin 32768) (⟨0, by decide⟩ : Fin 2)) := by
  unfold line
  rw [rowIx_eq]
  refine (Idealize.ShloMosaic.ValueIdx.shapeCast_a_1a_apply _ _ _ _).trans ((concatenate_pair_apply_left (t := S65536) (s₁ := S32768) (s₂ := S32768) 0 _ _ _ (ix1 (⟨r, h'⟩ : Fin 65536)) rfl (ix1 (⟨r, h⟩ : Fin 32768) : S32768.Idx) ?_).trans
    (col_at 0 (by decide) dest _ _ _))
  intro b; fin_cases b; rfl
theorem line_hi (dest : (⟨S32768x2, .i32⟩ : BufTy).Contents (Elt F)) (r : ℕ) (h : r < 32768) (h' : 32768 + r < 65536) :
    line (F := F) dest (rowIx (32768 + r) h') = dest (ix2 (⟨r, h⟩ : Fin 32768) (⟨1, by decide⟩ : Fin 2)) := by
  unfold line
  rw [rowIx_eq]
  refine (Idealize.ShloMosaic.ValueIdx.shapeCast_a_1a_apply _ _ _ _).trans ((concatenate_pair_apply_right (t := S65536) (s₁ := S32768) (s₂ := S32768) 0 _ _ _ (ix1 (⟨32768 + r, h'⟩ : Fin 65536)) rfl rfl (ix1 (⟨r, h⟩ : Fin 32768) : S32768.Idx) ?_ ?_).trans
    (col_at 1 (by decide) dest _ _ _))
  · intro b hb; fin_cases b; exact absurd rfl hb
  · show r + 32768 = 32768 + r; omega

/-- Every row number of `dest` names a row of the table. -/
def DestOK (dest : S32768x2.Idx → BitVec 32) : Prop := ∀ j, (dest j).toNat < 81920

theorem inTable_of_dest (d : Dev nD) (dest : (⟨S32768x2, .i32⟩ : BufTy).Contents (Elt F)) (hd : DestOK dest) : InTable (F := F) d (line (F := F) dest) := by
  intro r h
  by_cases hr : r < 32768
  · rw [line_lo dest r hr h]; exact hd _
  · obtain ⟨r', rfl⟩ : ∃ r', r = 32768 + r' := ⟨r - 32768, by omega⟩
    rw [line_hi dest r' (by omega) h]; exact hd _

/-! ## The reference's term -/

open Cert.ReferenceIdeal.Gen in
/-- The row numbers as the reference hands them to its gather: a negative one has the table's height added. -/
def wrap (v : IVec S32768 32) : IVec S32768x1 32 :=
  broadcastInDim S32768x1 ![0] Cert.ReferenceIdeal.Facts₀.bcast_S32768_S32768x1_0
    (select (cmpi .slt v (broadcastInDim S32768 ![] Cert.ReferenceIdeal.Facts₀.bcast_S_S32768 (constantI Cert.ReferenceIdeal.S_ 32 0#32)))
      (addi v (broadcastInDim S32768 ![] Cert.ReferenceIdeal.Facts₀.bcast_S_S32768 (constantI Cert.ReferenceIdeal.S_ 32 81920#32))) v)

theorem wrap_at (v : IVec S32768 32) (i : Fin 32768) (h : (v (ix1 i)).toNat < 81920) :
    wrap v (ix2 i (0 : Fin 1)) = BitVec.ofNat 32 (⟨(v (ix1 i)).toNat, h⟩ : Fin 81920).val := by
  have e : wrap v (ix2 i (0 : Fin 1)) = Scalar.select (IntOp.cmpi .slt (v (ix1 i)) 0#32) (IntOp.addi (v (ix1 i)) 81920#32) (v (ix1 i)) := by
    unfold wrap
    refine (broadcastInDim_apply (s := S32768) (t := S32768x1) ![0] _ _ _ (ix1 i : S32768.Idx) ?_).trans rfl
    intro a; fin_cases a
    exact (if_neg (by decide)).symm
  have hs : IntOp.cmpi .slt (v (ix1 i)) 0#32 = 0#1 := by
    have : (v (ix1 i)).slt 0#32 = false := by
      rw [BitVec.slt_eq_decide, decide_eq_false_iff_not, BitVec.toInt_eq_toNat_cond]
      simp only [BitVec.toInt_zero, BitVec.ofNat_eq_ofNat]
      omega
    simp only [IntOp.cmpi, this]; rfl
  rw [e, hs]
  show v (ix1 i) = _
  exact by simp

open Cert.ReferenceIdeal.Gen in
def refOut (X : S81920x256.Idx → BitVec 32) (dest : S32768x2.Idx → BitVec 32) : S65536x256.Idx → BitVec 32 :=
  concatenate S65536x256 0
    [⟨Cert.ReferenceIdeal.S32768x256, Host.gather Cert.ReferenceIdeal.gather_S81920x256_S32768x1_S32768x256_1_0_n_n_0_1_1256 X
        (wrap (shapeCast S32768 (extractStridedSlice S32768x1 ![0, 0] dest Cert.ReferenceIdeal.Facts₀.slices_S32768x2_S32768x1_0_0) Cert.ReferenceIdeal.Facts₀.shapeCasts_S32768x1_S32768))⟩,
     ⟨Cert.ReferenceIdeal.S32768x256, Host.gather Cert.ReferenceIdeal.gather_S81920x256_S32768x1_S32768x256_1_0_n_n_0_1_1256 X
        (wrap (shapeCast S32768 (extractStridedSlice S32768x1 ![0, 1] dest Cert.ReferenceIdeal.Facts₀.slices_S32768x2_S32768x1_0_1) Cert.ReferenceIdeal.Facts₀.shapeCasts_S32768x1_S32768))⟩]
    Cert.ReferenceIdeal.Facts₀.concatenates_S32768x256_S32768x256_S65536x256_d0

theorem refOut_lo (X : S81920x256.Idx → BitVec 32) (dest : S32768x2.Idx → BitVec 32) (hd : DestOK dest) (r : ℕ) (h : r < 32768) (h' : r < 65536) (c : Fin 256) :
    refOut X dest (ix2 (⟨r, h'⟩ : Fin 65536) c) = X (ix2 (⟨(dest (ix2 (⟨r, h⟩ : Fin 32768) (⟨0, by decide⟩ : Fin 2))).toNat, hd _⟩ : Fin 81920) c) := by
  unfold refOut
  refine (concatenate_pair_apply_left (t := S65536x256) (s₁ := Cert.ReferenceIdeal.S32768x256) (s₂ := Cert.ReferenceIdeal.S32768x256) 0 _ _ _ (ix2 (⟨r, h'⟩ : Fin 65536) c) rfl (ix2 (⟨r, h⟩ : Fin 32768) c : Cert.ReferenceIdeal.S32768x256.Idx) ?_).trans ?_
  · intro b; fin_cases b <;> rfl
  · have e := col_at 0 (by decide) dest Cert.ReferenceIdeal.Facts₀.slices_S32768x2_S32768x1_0_0 Cert.ReferenceIdeal.Facts₀.shapeCasts_S32768x1_S32768 ⟨r, h⟩
    refine gather_row Cert.ReferenceIdeal.gather_S81920x256_S32768x1_S32768x256_1_0_n_n_0_1_1256 rfl rfl rfl rfl rfl X _ _ _ _ ?_ (by decide)
    exact (wrap_at _ ⟨r, h⟩ (by rw [e]; exact hd _)).trans (congrArg (BitVec.ofNat 32) (congrArg BitVec.toNat e))
theorem refOut_hi (X : S81920x256.Idx → BitVec 32) (dest : S32768x2.Idx → BitVec 32) (hd : DestOK dest) (r : ℕ) (h : r < 32768) (h' : 32768 + r < 65536) (c : Fin 256) :
    refOut X dest (ix2 (⟨32768 + r, h'⟩ : Fin 65536) c) = X (ix2 (⟨(dest (ix2 (⟨r, h⟩ : Fin 32768) (⟨1, by decide⟩ : Fin 2))).toNat, hd _⟩ : Fin 81920) c) := by
  unfold refOut
  refine (concatenate_pair_apply_right (t := S65536x256) (s₁ := Cert.ReferenceIdeal.S32768x256) (s₂ := Cert.ReferenceIdeal.S32768x256) 0 _ _ _ (ix2 (⟨32768 + r, h'⟩ : Fin 65536) c) rfl rfl (ix2 (⟨r, h⟩ : Fin 32768) c : Cert.ReferenceIdeal.S32768x256.Idx) ?_ ?_).trans ?_
  · intro b hb; fin_cases b
    · exact absurd rfl hb
    · rfl
  · show r + 32768 = 32768 + r; omega
  · have e := col_at 1 (by decide) dest Cert.ReferenceIdeal.Facts₀.slices_S32768x2_S32768x1_0_1 Cert.ReferenceIdeal.Facts₀.shapeCasts_S32768x1_S32768 ⟨r, h⟩
    refine gather_row Cert.ReferenceIdeal.gather_S81920x256_S32768x1_S32768x256_1_0_n_n_0_1_1256 rfl rfl rfl rfl rfl X _ _ _ _ ?_ (by decide)
    exact (wrap_at _ ⟨r, h⟩ (by rw [e]; exact hd _)).trans (congrArg (BitVec.ofNat 32) (congrArg BitVec.toNat e))

theorem tabIx_eq (n : ℕ) (h : n < 81920) (c : Fin 256) : tabIx n c = ix2 (⟨n, h⟩ : Fin 81920) c := by
  funext a; fin_cases a
  · exact Fin.ext (Nat.mod_eq_of_lt h)
  · rfl

/-- The kernel's result is the reference's. -/
theorem out_eq_ref (d : Dev nD) (X : Buf (Elt F) (tLoc d)) (dest : (⟨S32768x2, .i32⟩ : BufTy).Contents (Elt F)) (hd : DestOK dest) :
    (outD (F := F) d X (line (F := F) dest) : S65536x256.Idx → BitVec 32) = refOut X dest := by
  have key : ∀ (r : ℕ) (h : r < 65536) (c : Fin 256), X (tabIx (BitVec.toNat (line (F := F) dest (rowIx r h))) c) = refOut X dest (ix2 (⟨r, h⟩ : Fin 65536) c) := by
    intro r h c
    by_cases hlt : r < 32768
    · rw [line_lo dest r hlt h, refOut_lo X dest hd r hlt h, tabIx_eq _ (hd _)]
    · obtain ⟨r', rfl⟩ : ∃ r', r = 32768 + r' := ⟨r - 32768, by omega⟩
      rw [line_hi dest r' (by omega) h, refOut_hi X dest hd r' (by omega) h, tabIx_eq _ (hd _)]
  funext y
  have hy : y = ix2 (⟨(y 0).val, (y 0).isLt⟩ : Fin 65536) (y 1 : Fin 256) := by funext a; fin_cases a <;> rfl
  refine (key (y 0).val (y 0).isLt (y 1)).trans ?_
  exact congrArg (refOut X dest) hy.symm

/-- The reference's run. -/
theorem run_ref (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_v18)
          = refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0 :=
  (θ_run (Cert.ReferenceIdeal.defs (F := F)) _ _).mono (fun r h => ⟨fun c => ⟨(h c).1, (h c).2.1, (h c).2.2⟩, sem_eq_zero_of_no_sems rfl _⟩)
    (Cert.ReferenceIdeal.Value.run m ρ)

end Cert.Gather
-- ==== Proof.Claims.lean ====
module

public import proofs.«01_k».proof.Defs
public import proofs.«01_k».proof.Proof.Ref
public import proofs.«01_k».proof.Proof.Gen.Kernel
public import proofs.«01_k».proof.Proof.Gen.Reference

/-! The claims about the gather, from the kernel's run (`run_main`), the reference's (`run_ref`) and the equality of the two results
    (`out_eq_ref`). -/

@[expose] public section

noncomputable section

namespace Cert.Gather

open Idealize.ShloMosaic Idealize.SL.Sem

variable {F : FTy → Type} [FloatOps F]

/-- The precondition's one side condition. -/
theorem preFacts : Cert.Pre_rows_in_table.Facts := ⟨by decide⟩

attribute [local instance] preFacts

/-- `(dest >= 0) & (dest < 81920)`, all ones: every row number names a row of the table. -/
theorem dest_of_pre (X : IVec Cert.Pre_rows_in_table.S81920x256 32) (dest : IVec Cert.Pre_rows_in_table.S32768x2 32)
    (h : Cert.Pre_rows_in_table.fn (F := F) X dest = fun _ => 1#1) : DestOK dest := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  intro j
  have e := congrFun h j
  simp only [Cert.Pre_rows_in_table.fn, andi, cmpi, broadcastInDim, constantI, IntOp.cmpi, andi_ofBool, ofBool_eq_one, Bool.and_eq_true,
    BitVec.sle_eq_decide, BitVec.slt_eq_decide, decide_eq_true_eq, BitVec.toInt_eq_toNat_cond, BitVec.toNat_ofNat, Nat.reducePow,
    Nat.reduceMod] at e
  omega

/-- The kernel's launch memory under the precondition. -/
theorem preOK (m : (ℓ : Loc Cert.KernelIdeal.nD Cert.KernelIdeal.τ Cert.KernelIdeal.sig) → Buf (Elt F) ℓ)
    (h : ∀ c : Dev Cert.KernelIdeal.nD, DestOK (m (dLoc c))) : PreOK (F := F) m :=
  fun d => inTable_of_dest d _ (h d)

/-- What both runs end with: the rows the reference gathers, of a memory whose row numbers are in range. -/
theorem run_kernel [∀ e, Nonempty (Elt F e)] (m : (ℓ : Loc Cert.KernelIdeal.nD Cert.KernelIdeal.τ Cert.KernelIdeal.sig) → Buf (Elt F) ℓ)
    (ρ : Dev Cert.KernelIdeal.nD → PrngReg) (h : ∀ c : Dev Cert.KernelIdeal.nD, DestOK (m (dLoc c))) :
    θ_run (Cert.KernelIdeal.defs (F := F)) (Cert.KernelIdeal.threads (F := F)) ⟨m, fun _ => 0, ρ⟩ fun r =>
      (∀ c : Dev Cert.KernelIdeal.nD, r.2.mem (rLoc c) = refOut (m (tLoc c)) (m (dLoc c)) ∧ r.2.mem (tLoc c) = m (tLoc c) ∧ r.2.mem (dLoc c) = m (dLoc c))
      ∧ r.2.sem = fun _ => 0 :=
  (θ_run (Cert.KernelIdeal.defs (F := F)) _ _).mono
    (fun r hr => ⟨fun c => ⟨(hr.1 c).2.2.trans (out_eq_ref c _ _ (h c)), (hr.1 c).1, (hr.1 c).2.1⟩, hr.2⟩)
    (run_main m ρ (preOK m h))

theorem frame_kernel : Cert.quiescent_Kernel := fun m ρ hpre =>
  (θ_run (Cert.KernelIdeal.defs (F := Bits)) _ _).mono (fun r hr => ⟨fun c => (hr.1 c).2, hr.2⟩)
    (run_kernel (F := Bits) m ρ fun c => dest_of_pre _ _ (hpre c))
theorem frame_kernelIdeal : Cert.quiescent_KernelIdeal := fun m ρ hpre =>
  (θ_run (Cert.KernelIdeal.defs (F := Ideal)) _ _).mono (fun r hr => ⟨fun c => (hr.1 c).2, hr.2⟩)
    (run_kernel (F := Ideal) m ρ fun c => dest_of_pre _ _ (hpre c))
theorem frame_referenceIdeal : Cert.quiescent_ReferenceIdeal := fun m ρ _ =>
  (θ_run (Cert.ReferenceIdeal.defs (F := Ideal)) _ _).mono (fun r hr => ⟨fun c => (hr.1 c).2, hr.2⟩) (run_ref (F := Ideal) m ρ)
theorem frame_referenceIdeal_pre : Cert.quiescent_ReferenceIdeal_pre_rows_in_table := fun m ρ _ => frame_referenceIdeal m ρ trivial
theorem frame_reference : Cert.quiescent_Reference := fun m ρ _ =>
  (θ_run (Cert.ReferenceIdeal.defs (F := Bits)) _ _).mono (fun r hr => ⟨fun c => (hr.1 c).2, hr.2⟩) (run_ref (F := Bits) m ρ)

theorem algebraic : Cert.algebraic_KernelIdeal_ReferenceIdeal := fun m ρ m' ρ' hpre hag =>
  ⟨fun c => refOut (m (tLoc c)) (m (dLoc c)),
    (θ_run (Cert.KernelIdeal.defs (F := Ideal)) _ _).mono (fun r hr => hr.1) (run_kernel (F := Ideal) m ρ fun c => dest_of_pre _ _ (hpre c)),
    (θ_run (Cert.ReferenceIdeal.defs (F := Ideal)) _ _).mono
      (fun r hr c => ⟨(hr.1 c).1.trans (congrArg₂ refOut (hag c).1 (hag c).2), (hr.1 c).2⟩) (run_ref (F := Ideal) m' ρ')⟩
theorem bitexact : Cert.bitexact_Kernel_Reference := fun m ρ m' ρ' hpre hag =>
  ⟨fun c => refOut (m (tLoc c)) (m (dLoc c)),
    (θ_run (Cert.KernelIdeal.defs (F := Bits)) _ _).mono (fun r hr => hr.1) (run_kernel (F := Bits) m ρ fun c => dest_of_pre _ _ (hpre c)),
    (θ_run (Cert.ReferenceIdeal.defs (F := Bits)) _ _).mono
      (fun r hr c => ⟨(hr.1 c).1.trans (congrArg₂ refOut (hag c).1 (hag c).2), (hr.1 c).2⟩) (run_ref (F := Bits) m' ρ')⟩

end Cert.Gather
-- ==== Proof.Inproj.Names.lean ====
/- The input projection's kernel: the conditions of its body by the point's number, the windows' buffers at a point,
   and the invariant the launch hands the loop.  -/
module

public import proofs.«01_k».proof.Proof.Gen.InprojIdeal.Frame
public import proofs.«01_k».proof.Proof.Gen.InprojIdeal.Skeleton
public import proofs.«01_k».proof.Proof.Gen.InprojIdeal.Points
public import Idealize.ShloMosaic.Lib.Pipeline.FrameBody
public import Idealize.ShloMosaic.Lib.Pipeline.FrameSuffix
public import Idealize.ShloMosaic.Lib.Pipeline.TableIdle
public import Idealize.ShloMosaic.Lib.Tactic

@[expose] public section

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.InprojIdeal Cert.InprojIdeal.Gen

variable {F : FTy → Type} [FloatOps F]

local notation "𝕄" => MT nD τ sig Unit (Elt F) ℕ (UR sig nD τ) ℕ

/-- A column tile holds query or key heads when its number is 6 or 7. -/
def isRot (t : Fin cfg0.N) : Prop := t.val % 11 = 6 ∨ t.val % 11 = 7

instance (t : Fin cfg0.N) : Decidable (isRot t) := inferInstanceAs (Decidable (_ ∨ _))

theorem lt176 (t : Fin cfg0.N) : t.val < 176 := lt_of_lt_of_eq t.isLt (show cfg0.N = 176 from N_0)

theorem first_iff : ∀ t : Fin cfg0.N, k0_cond1 (grid0.coords t) = 1#1 ↔ t.val % 11 = 0 :=
  (by decide +kernel : ∀ t : Fin grid0.N, k0_cond1 (grid0.coords t) = 1#1 ↔ t.val % 11 = 0)

theorem rot_iff : ∀ t : Fin cfg0.N, k0_cond2 (grid0.coords t) = 1#1 ↔ isRot t :=
  (by decide +kernel : ∀ t : Fin grid0.N, k0_cond2 (grid0.coords t) = 1#1 ↔ (t.val % 11 = 6 ∨ t.val % 11 = 7))

theorem plain_iff : ∀ t : Fin cfg0.N, k0_cond3 (grid0.coords t) = 1#1 ↔ ¬ isRot t :=
  (by decide +kernel : ∀ t : Fin grid0.N, k0_cond3 (grid0.coords t) = 1#1 ↔ ¬ (t.val % 11 = 6 ∨ t.val % 11 = 7))

/-- Every point stores the projection's block. -/
theorem live7 : ∀ t : Fin cfg0.N, cfg0.idle 7 (grid0.coords t) = false :=
  (by decide +kernel : ∀ t : Fin grid0.N, cfg0.idle 7 (grid0.coords t) = false)

/-- The step sizes' block is stored at the first point of a row block and at no other. -/
theorem idle8 : ∀ t : Fin cfg0.N, cfg0.idle 8 (grid0.coords t) = !decide (t.val % 11 = 0) :=
  (by decide +kernel : ∀ t : Fin grid0.N, cfg0.idle 8 (grid0.coords t) = !decide (t.val % 11 = 0))

/-- Its buffer holds nothing of the body's exactly when a row block begins. -/
def newAt (n : ℕ) : Bool := decide (n % 11 = 0)

theorem newAt_step : ∀ t : Fin cfg0.N,
    newAt (t.val + 1) = ((cfg0.win 8).flush t || (cfg0.idle 8 (cfg0.grid.coords t) && newAt t.val)) :=
  (by decide +kernel : ∀ t : Fin grid0.N,
    newAt (t.val + 1) = ((cfg0.win 8).flush t || (cfg0.idle 8 (cfg0.grid.coords t) && newAt t.val)))

theorem fresh8 (t : Fin cfg0.N) : cfg0.fresh 8 t.val = newAt t.val :=
  Pipeline.Cfg.fresh_tab cfg0 8 newAt rfl newAt_step t.val (Nat.le_of_lt t.isLt)

/-! ## The buffers a point is given -/

abbrev b0 (t : Fin cfg0.N) : Memref sig .tc .vmem S2048x1024 .f32 := win0_0.stage (cfg0.slots t 0)
abbrev b1 (t : Fin cfg0.N) : Memref sig .tc .vmem S1x1024 .f32 := win0_1.stage (cfg0.slots t 1)
abbrev b2 (t : Fin cfg0.N) : Memref sig .tc .vmem S1024x1024 .bf16 := win0_2.stage (cfg0.slots t 2)
abbrev b3 (t : Fin cfg0.N) : Memref sig .tc .vmem S1024x128 .bf16 := win0_3.stage (cfg0.slots t 3)
abbrev b4 (t : Fin cfg0.N) : Memref sig .tc .vmem S1x128 .f32 := win0_4.stage (cfg0.slots t 4)
abbrev b5 (t : Fin cfg0.N) : Memref sig .tc .vmem S2048x128 .f32 := win0_5.stage (cfg0.slots t 5)
abbrev b6 (t : Fin cfg0.N) : Memref sig .tc .vmem S2048x128 .f32 := win0_6.stage (cfg0.slots t 6)
abbrev b7 (t : Fin cfg0.N) : Memref sig .tc .vmem S2048x1024 .bf16 := win0_7.stage (cfg0.slots t 7)
abbrev b8 (t : Fin cfg0.N) : Memref sig .tc .vmem S2048x128 .f32 := win0_8.stage (cfg0.slots t 8)
/-- The scratch that keeps a row block's normalised rows. -/
abbrev bs : Memref sig .tc .vmem S2048x1024 .bf16 := Memref.whole cc0_scratch0

/-- What the launch hands the loop: the scratch at any contents and the generator register at any state. -/
theorem handed_eq (c : Dev nD) :
    (Pipeline.ΦA spec0 c : sProp 𝕄)
      = iprop((∃ d, owns (c : Thread nD τ) bs fullShare d) ∗ (∃ r, prngReg c r)) := by
  unfold Pipeline.ΦA
  rw [scopedRest0_eq]
  simp only [bs, owns_whole]
  try rfl

end Cert.Inp

end
-- ==== Proof.Inproj.RunA.lean ====
/- The kernel's body at the first point of a row block. -/
module

public import proofs.«01_k».proof.Proof.Inproj.Names

@[expose] public section

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InprojIdeal Cert.InprojIdeal.Gen

variable {F : FTy → Type} [FloatOps F]

local notation "𝕄" => MT nD τ sig Unit (Elt F) ℕ (UR sig nD τ) ℕ

set_option maxHeartbeats 1000000 in
/-- The pieces the body writes into the projection's block, the step sizes' block and the scratch, from the rows `x`,
    the norm's weight `g`, the weight's tile `w`, the step sizes' weight `wd` and their bias `bd`, with the proof that it
    does so and leaves what it reads as it was. -/
noncomputable def runA (c : Dev nD) (i : grid0.Coords) (a2 : Memref sig .tc .vmem S2048x1024 .f32) (e2 : a2.IsWhole)
    (a3 : Memref sig .tc .vmem S1x1024 .f32) (e3 : a3.IsWhole) (a4 : Memref sig .tc .vmem S1024x1024 .bf16) (e4 : a4.IsWhole)
    (a5 : Memref sig .tc .vmem S1024x128 .bf16) (e5 : a5.IsWhole) (a6 : Memref sig .tc .vmem S1x128 .f32) (e6 : a6.IsWhole)
    (a7 : Memref sig .tc .vmem S2048x128 .f32) (e7 : a7.IsWhole) (a8 : Memref sig .tc .vmem S2048x128 .f32) (e8 : a8.IsWhole)
    (a9 : Memref sig .tc .vmem S2048x1024 .bf16) (e9 : a9.IsWhole) (a10 : Memref sig .tc .vmem S2048x128 .f32) (e10 : a10.IsWhole)
    (a11 : Memref sig .tc .vmem S2048x1024 .bf16) (e11 : a11.IsWhole)
    (y1 : k0_cond1 i = 1#1) (n2 : ¬ k0_cond2 i = 1#1) (y3 : k0_cond3 i = 1#1)
    (x : Vec F S2048x1024 .f32) (g : Vec F S1x1024 .f32) (w : Vec F S1024x1024 .bf16) (wd : Vec F S1024x128 .bf16)
    (bd : Vec F S1x128 .f32) :
    Σ' (L7 : List (View.Piece (Elt F) S2048x1024 .bf16)), Σ' (L8 : List (View.Piece (Elt F) S2048x128 .f32)),
    { LS : List (View.Piece (Elt F) S2048x1024 .bf16) // ∀ (E : Set ℕ) (K : PUnit → sProp 𝕄),
        iprop(owns (c : Thread nD τ) a2 fullShare x ∗ owns (c : Thread nD τ) a3 fullShare g ∗ owns (c : Thread nD τ) a4 fullShare w ∗ owns (c : Thread nD τ) a5 fullShare wd ∗ owns (c : Thread nD τ) a6 fullShare bd
            ∗ (∃ d, owns (c : Thread nD τ) a9 fullShare d) ∗ (∃ d, owns (c : Thread nD τ) a10 fullShare d)
            ∗ (∃ d, owns (c : Thread nD τ) a11 fullShare d)
            ∗ (iprop(owns (c : Thread nD τ) a2 fullShare x ∗ owns (c : Thread nD τ) a3 fullShare g ∗ owns (c : Thread nD τ) a4 fullShare w ∗ owns (c : Thread nD τ) a5 fullShare wd ∗ owns (c : Thread nD τ) a6 fullShare bd
                ∗ (∃ f, a9.view.loc (c : Thread nD τ) ↦[a9.view.set]{fullShare} a9.view.writes (Elt F) f L7)
                ∗ (∃ f, a10.view.loc (c : Thread nD τ) ↦[a10.view.set]{fullShare} a10.view.writes (Elt F) f L8)
                ∗ (∃ f, a11.view.loc (c : Thread nD τ) ↦[a11.view.set]{fullShare} a11.view.writes (Elt F) f LS)) -∗ K ⟨⟩))
          ⊢ wp frame (wpE (defs₀ (F := F)) Variants.none c none) E
              (cc0_inproj i a2 e2 a3 e3 a4 e4 a5 e5 a6 e6 a7 e7 a8 e8 a9 e9 a10 e10 a11 e11) K } := by
  refine ⟨?_, ?_, ?_, fun E K => ?go⟩
  case go =>
    simp only [cc0_inproj_eq_skeleton]; unfold cc0_inproj_skel
    simp only [k0_part17_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%d11, %f11, -, H11⟩, Hk⟩
    obtain rfl := e2.eq_unread hf2
    obtain rfl := e3.eq_unread hf3
    obtain rfl := e4.eq_unread hf4
    obtain rfl := e5.eq_unread hf5
    obtain rfl := e6.eq_unread hf6
    sl_exec (disch := first | sl_exact y1 | sl_exact n2 | sl_exact y3)
    sl_step
    iapply Hk
    isplitl [H2]
    · iexists _; isplitr
      · ipureintro; exact e2.read_unread _
      iexact H2
    isplitl [H3]
    · iexists _; isplitr
      · ipureintro; exact e3.read_unread _
      iexact H3
    isplitl [H4]
    · iexists _; isplitr
      · ipureintro; exact e4.read_unread _
      iexact H4
    isplitl [H5]
    · iexists _; isplitr
      · ipureintro; exact e5.read_unread _
      iexact H5
    isplitl [H6]
    · iexists _; isplitr
      · ipureintro; exact e6.read_unread _
      iexact H6
    isplitl [H9]
    · iexists _; iexact H9
    isplitl [H10]
    · iexists _; iexact H10
    iexists _; iexact H11

end Cert.Inp

end
-- ==== Proof.Inproj.RunB.lean ====
/- The kernel's body at a point that is neither the first of its row block nor one of the rotated column tiles. -/
module

public import proofs.«01_k».proof.Proof.Inproj.Names

@[expose] public section

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InprojIdeal Cert.InprojIdeal.Gen

variable {F : FTy → Type} [FloatOps F]

local notation "𝕄" => MT nD τ sig Unit (Elt F) ℕ (UR sig nD τ) ℕ

set_option maxHeartbeats 1000000 in
/-- The pieces the body writes into the projection's block when the scratch holds `h` and the weight's buffer `w`, with
    the proof that it does so and leaves both as they were. -/
noncomputable def runB (c : Dev nD) (i : grid0.Coords) (a2 : Memref sig .tc .vmem S2048x1024 .f32) (e2 : a2.IsWhole)
    (a3 : Memref sig .tc .vmem S1x1024 .f32) (e3 : a3.IsWhole) (a4 : Memref sig .tc .vmem S1024x1024 .bf16) (e4 : a4.IsWhole)
    (a5 : Memref sig .tc .vmem S1024x128 .bf16) (e5 : a5.IsWhole) (a6 : Memref sig .tc .vmem S1x128 .f32) (e6 : a6.IsWhole)
    (a7 : Memref sig .tc .vmem S2048x128 .f32) (e7 : a7.IsWhole) (a8 : Memref sig .tc .vmem S2048x128 .f32) (e8 : a8.IsWhole)
    (a9 : Memref sig .tc .vmem S2048x1024 .bf16) (e9 : a9.IsWhole) (a10 : Memref sig .tc .vmem S2048x128 .f32) (e10 : a10.IsWhole)
    (a11 : Memref sig .tc .vmem S2048x1024 .bf16) (e11 : a11.IsWhole)
    (n1 : ¬ k0_cond1 i = 1#1) (n2 : ¬ k0_cond2 i = 1#1) (y3 : k0_cond3 i = 1#1)
    (w : Vec F S1024x1024 .bf16) (h : Vec F S2048x1024 .bf16) :
    { L : List (View.Piece (Elt F) S2048x1024 .bf16) // ∀ (E : Set ℕ) (K : PUnit → sProp 𝕄),
        iprop(owns (c : Thread nD τ) a4 fullShare w ∗ (∃ d, owns (c : Thread nD τ) a9 fullShare d)
            ∗ owns (c : Thread nD τ) a11 fullShare h
            ∗ (iprop(owns (c : Thread nD τ) a4 fullShare w
                ∗ (∃ f, a9.view.loc (c : Thread nD τ) ↦[a9.view.set]{fullShare} a9.view.writes (Elt F) f L)
                ∗ owns (c : Thread nD τ) a11 fullShare h) -∗ K ⟨⟩))
          ⊢ wp frame (wpE (defs₀ (F := F)) Variants.none c none) E
              (cc0_inproj i a2 e2 a3 e3 a4 e4 a5 e5 a6 e6 a7 e7 a8 e8 a9 e9 a10 e10 a11 e11) K } := by
  refine ⟨?_, fun E K => ?go⟩
  case go =>
    simp only [cc0_inproj_eq_skeleton]; unfold cc0_inproj_skel
    simp only [k0_part17_eq_skeleton]
    unfold owns
    iintro ⟨⟨%f4, %hf4, H4⟩, ⟨%d9, %f9, -, H9⟩, ⟨%f11, %hf11, H11⟩, Hk⟩
    obtain rfl := e4.eq_unread hf4
    obtain rfl := e11.eq_unread hf11
    sl_exec (disch := first | sl_exact n1 | sl_exact n2 | sl_exact y3)
    sl_step
    iapply Hk
    isplitl [H4]
    · iexists _; isplitr
      · ipureintro; exact e4.read_unread _
      iexact H4
    isplitl [H9]
    · iexists _; iexact H9
    iexists _; isplitr
    · ipureintro; exact e11.read_unread _
    iexact H11

end Cert.Inp

end
-- ==== Proof.Inproj.RunC.lean ====
/- The kernel's body at a point of one of the rotated column tiles. -/
module

public import proofs.«01_k».proof.Proof.Inproj.Names

@[expose] public section

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InprojIdeal Cert.InprojIdeal.Gen

variable {F : FTy → Type} [FloatOps F]

local notation "𝕄" => MT nD τ sig Unit (Elt F) ℕ (UR sig nD τ) ℕ

set_option maxHeartbeats 1000000 in
/-- The pieces the body writes into the projection's block when the scratch holds `h`, the weight's buffer `w` and the
    two angle tables' buffers `p` and `q`, with the proof that it does so and leaves them as they were. -/
noncomputable def runC (c : Dev nD) (i : grid0.Coords) (a2 : Memref sig .tc .vmem S2048x1024 .f32) (e2 : a2.IsWhole)
    (a3 : Memref sig .tc .vmem S1x1024 .f32) (e3 : a3.IsWhole) (a4 : Memref sig .tc .vmem S1024x1024 .bf16) (e4 : a4.IsWhole)
    (a5 : Memref sig .tc .vmem S1024x128 .bf16) (e5 : a5.IsWhole) (a6 : Memref sig .tc .vmem S1x128 .f32) (e6 : a6.IsWhole)
    (a7 : Memref sig .tc .vmem S2048x128 .f32) (e7 : a7.IsWhole) (a8 : Memref sig .tc .vmem S2048x128 .f32) (e8 : a8.IsWhole)
    (a9 : Memref sig .tc .vmem S2048x1024 .bf16) (e9 : a9.IsWhole) (a10 : Memref sig .tc .vmem S2048x128 .f32) (e10 : a10.IsWhole)
    (a11 : Memref sig .tc .vmem S2048x1024 .bf16) (e11 : a11.IsWhole)
    (n1 : ¬ k0_cond1 i = 1#1) (y2 : k0_cond2 i = 1#1) (n3 : ¬ k0_cond3 i = 1#1)
    (w : Vec F S1024x1024 .bf16) (p q : Vec F S2048x128 .f32) (h : Vec F S2048x1024 .bf16) :
    { L : List (View.Piece (Elt F) S2048x1024 .bf16) // ∀ (E : Set ℕ) (K : PUnit → sProp 𝕄),
        iprop(owns (c : Thread nD τ) a4 fullShare w ∗ owns (c : Thread nD τ) a7 fullShare p ∗ owns (c : Thread nD τ) a8 fullShare q ∗ (∃ d, owns (c : Thread nD τ) a9 fullShare d)
            ∗ owns (c : Thread nD τ) a11 fullShare h
            ∗ (iprop(owns (c : Thread nD τ) a4 fullShare w ∗ owns (c : Thread nD τ) a7 fullShare p ∗ owns (c : Thread nD τ) a8 fullShare q
                ∗ (∃ f, a9.view.loc (c : Thread nD τ) ↦[a9.view.set]{fullShare} a9.view.writes (Elt F) f L)
                ∗ owns (c : Thread nD τ) a11 fullShare h) -∗ K ⟨⟩))
          ⊢ wp frame (wpE (defs₀ (F := F)) Variants.none c none) E
              (cc0_inproj i a2 e2 a3 e3 a4 e4 a5 e5 a6 e6 a7 e7 a8 e8 a9 e9 a10 e10 a11 e11) K } := by
  refine ⟨?_, fun E K => ?go⟩
  case go =>
    simp only [cc0_inproj_eq_skeleton]; unfold cc0_inproj_skel
    simp only [k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton]
    unfold owns
    iintro ⟨⟨%f4, %hf4, H4⟩, ⟨%f7, %hf7, H7⟩, ⟨%f8, %hf8, H8⟩, ⟨%d9, %f9, -, H9⟩, ⟨%f11, %hf11, H11⟩, Hk⟩
    obtain rfl := e4.eq_unread hf4
    obtain rfl := e7.eq_unread hf7
    obtain rfl := e8.eq_unread hf8
    obtain rfl := e11.eq_unread hf11
    sl_exec (disch := first | sl_exact n1 | sl_exact y2 | sl_exact n3)
    sl_step
    iapply Hk
    isplitl [H4]
    · iexists _; isplitr
      · ipureintro; exact e4.read_unread _
      iexact H4
    isplitl [H7]
    · iexists _; isplitr
      · ipureintro; exact e7.read_unread _
      iexact H7
    isplitl [H8]
    · iexists _; isplitr
      · ipureintro; exact e8.read_unread _
      iexact H8
    isplitl [H9]
    · iexists _; iexact H9
    iexists _; isplitr
    · ipureintro; exact e11.read_unread _
    iexact H11

end Cert.Inp

end
-- ==== Proof.Inproj.Blocks.lean ====
/- What the body leaves in its buffers, as functions of what it finds: the projection's block, row chunk by row chunk,
   the step sizes' block and the normalised rows. -/
module

public import proofs.«01_k».proof.Proof.Inproj.RunA
public import proofs.«01_k».proof.Proof.Inproj.RunB
public import proofs.«01_k».proof.Proof.Inproj.RunC
public import Idealize.ShloMosaic.Lib.Pipeline.ValueKit.Basic

@[expose] public section

set_option maxRecDepth 16384

noncomputable section

namespace Cert.Inp

open Idealize.ShloMosaic Idealize.ShloMosaic.TcCoe Idealize.ShloMosaic.Tactic
open Idealize.SL.Sem
open Cert.InprojIdeal Cert.InprojIdeal.Gen

variable {F : FTy → Type} [FloatOps F]

/-- The eight stores of a plain column tile, the last one first: 256 rows each, every one the product of the
    normalised rows `h` with the weight's tile `w`. -/
def pieces (h : Vec F S2048x1024 .bf16) (w : Vec F S1024x1024 .bf16) : List (View.Piece (Elt F) S2048x1024 .bf16) :=
  [⟨Rect.unit (s := S2048x1024) ![1792, 0] S256x1024.size inb_S2048x1024_S256x1024_1792_0, k0_pay8 (View.ld h (Rect.unit (s := S2048x1024) ![1792, 0] S256x1024.size inb_S2048x1024_S256x1024_1792_0)) w⟩,
   ⟨Rect.unit (s := S2048x1024) ![1536, 0] S256x1024.size inb_S2048x1024_S256x1024_1536_0, k0_pay7 (View.ld h (Rect.unit (s := S2048x1024) ![1536, 0] S256x1024.size inb_S2048x1024_S256x1024_1536_0)) w⟩,
   ⟨Rect.unit (s := S2048x1024) ![1280, 0] S256x1024.size inb_S2048x1024_S256x1024_1280_0, k0_pay6 (View.ld h (Rect.unit (s := S2048x1024) ![1280, 0] S256x1024.size inb_S2048x1024_S256x1024_1280_0)) w⟩,
   ⟨Rect.unit (s := S2048x1024) ![1024, 0] S256x1024.size inb_S2048x1024_S256x1024_1024_0, k0_pay5 (View.ld h (Rect.unit (s := S2048x1024) ![1024, 0] S256x1024.size inb_S2048x1024_S256x1024_1024_0)) w⟩,
   ⟨Rect.unit (s := S2048x1024) ![768, 0] S256x1024.size inb_S2048x1024_S256x1024_768_0, k0_pay120 (View.ld h (Rect.unit (s := S2048x1024) ![768, 0] S256x1024.size inb_S2048x1024_S256x1024_768_0)) w⟩,
   ⟨Rect.unit (s := S2048x1024) ![512, 0] S256x1024.size inb_S2048x1024_S256x1024_512_0, k0_pay119 (View.ld h (Rect.unit (s := S2048x1024) ![512, 0] S256x1024.size inb_S2048x1024_S256x1024_512_0)) w⟩,
   ⟨Rect.unit (s := S2048x1024) ![256, 0] S256x1024.size inb_S2048x1024_S256x1024_256_0, k0_pay118 (View.ld h (Rect.unit (s := S2048x1024) ![256, 0] S256x1024.size inb_S2048x1024_S256x1024_256_0)) w⟩,
   ⟨Rect.unit (s := S2048x1024) ![0, 0] S256x1024.size inb_S2048x1024_S256x1024_0_0, k0_pay117 (View.ld h (Rect.unit (s := S2048x1024) ![0, 0] S256x1024.size inb_S2048x1024_S256x1024_0_0)) w⟩]

/-- The block they leave. -/
def plain (h : Vec F S2048x1024 .bf16) (w : Vec F S1024x1024 .bf16) : Vec F S2048x1024 .bf16 := View.canon (pieces h w)

theorem pieces_cover (h : Vec F S2048x1024 .bf16) (w : Vec F S1024x1024 .bf16) :
    ∀ y : S2048x1024.Idx, ∃ p ∈ pieces h w, y ∈ p.1.set :=
  View.cover_of_tiled _ S256x1024.size rfl

theorem runB_eq (c : Dev nD) (i : grid0.Coords) (a2 : Memref sig .tc .vmem S2048x1024 .f32) (e2 : a2.IsWhole)
    (a3 : Memref sig .tc .vmem S1x1024 .f32) (e3 : a3.IsWhole) (a4 : Memref sig .tc .vmem S1024x1024 .bf16) (e4 : a4.IsWhole)
    (a5 : Memref sig .tc .vmem S1024x128 .bf16) (e5 : a5.IsWhole) (a6 : Memref sig .tc .vmem S1x128 .f32) (e6 : a6.IsWhole)
    (a7 : Memref sig .tc .vmem S2048x128 .f32) (e7 : a7.IsWhole) (a8 : Memref sig .tc .vmem S2048x128 .f32) (e8 : a8.IsWhole)
    (a9 : Memref sig .tc .vmem S2048x1024 .bf16) (e9 : a9.IsWhole) (a10 : Memref sig .tc .vmem S2048x128 .f32) (e10 : a10.IsWhole)
    (a11 : Memref sig .tc .vmem S2048x1024 .bf16) (e11 : a11.IsWhole)
    (n1 : ¬ k0_cond1 i = 1#1) (n2 : ¬ k0_cond2 i = 1#1) (y3 : k0_cond3 i = 1#1)
    (w : Vec F S1024x1024 .bf16) (h : Vec F S2048x1024 .bf16) :
    (runB c i a2 e2 a3 e3 a4 e4 a5 e5 a6 e6 a7 e7 a8 e8 a9 e9 a10 e10 a11 e11 n1 n2 y3 w h).1 = pieces h w := by
  dsimp only [runB, pieces]
  unfold runB.sl.r
  simp only [View.readAt_eq_ld, Memref.IsWhole.read_unread]
  rw [View.ld_unit_lit inb_S1024x1024_S1024x1024_0_0 w (by decide)]

/-- A load from a scratch wholly stored once reads what was stored. -/
theorem load_stored (v : View sig .tc .vmem S2048x1024 .bf16) (X : Vec F S2048x1024 .bf16) (r : Rect S2048x1024) :
    v.readCov [(⟨Rect.unit (s := S2048x1024) ![0, 0] ![2048, 1024] inb_S2048x1024_S2048x1024_0_0, X⟩ :
        View.Piece (Elt F) S2048x1024 .bf16)] r.toLoadRect = View.ld X r := by
  show v.readCov [(⟨Rect.unit (s := S2048x1024) ![0, 0] S2048x1024.size inb_S2048x1024_S2048x1024_0_0, X⟩ :
        View.Piece (Elt F) S2048x1024 .bf16)] r.toLoadRect = View.ld X r
  rw [View.readCov_eq_canon_ld _ _ _ (fun y => ⟨_, List.mem_singleton_self _,
    View.mem_set_unit_zero (by funext a; fin_cases a <;> rfl) inb_S2048x1024_S2048x1024_0_0 y⟩),
    View.canon_unit_zero (by funext a; fin_cases a <;> rfl)]

theorem runA_7 (c : Dev nD) (i : grid0.Coords) (a2 : Memref sig .tc .vmem S2048x1024 .f32) (e2 : a2.IsWhole)
    (a3 : Memref sig .tc .vmem S1x1024 .f32) (e3 : a3.IsWhole) (a4 : Memref sig .tc .vmem S1024x1024 .bf16) (e4 : a4.IsWhole)
    (a5 : Memref sig .tc .vmem S1024x128 .bf16) (e5 : a5.IsWhole) (a6 : Memref sig .tc .vmem S1x128 .f32) (e6 : a6.IsWhole)
    (a7 : Memref sig .tc .vmem S2048x128 .f32) (e7 : a7.IsWhole) (a8 : Memref sig .tc .vmem S2048x128 .f32) (e8 : a8.IsWhole)
    (a9 : Memref sig .tc .vmem S2048x1024 .bf16) (e9 : a9.IsWhole) (a10 : Memref sig .tc .vmem S2048x128 .f32) (e10 : a10.IsWhole)
    (a11 : Memref sig .tc .vmem S2048x1024 .bf16) (e11 : a11.IsWhole)
    (y1 : k0_cond1 i = 1#1) (n2 : ¬ k0_cond2 i = 1#1) (y3 : k0_cond3 i = 1#1)
    (x : Vec F S2048x1024 .f32) (g : Vec F S1x1024 .f32) (w : Vec F S1024x1024 .bf16) (wd : Vec F S1024x128 .bf16)
    (bd : Vec F S1x128 .f32) :
    (runA c i a2 e2 a3 e3 a4 e4 a5 e5 a6 e6 a7 e7 a8 e8 a9 e9 a10 e10 a11 e11 y1 n2 y3 x g w wd bd).1 = pieces (k0_pay2 x g) w := by
  dsimp only [runA, pieces]
  unfold runA.sl.v53 runA.sl.v47 runA.sl.v41 runA.sl.v35 runA.sl.v29 runA.sl.v23 runA.sl.v17 runA.sl.v11 runA.sl.H11_1
  simp only [View.readAt_eq_ld, Memref.IsWhole.read_unread]
  simp only [View.ld_unit_lit inb_S1024x1024_S1024x1024_0_0 w (by decide), View.ld_unit_lit inb_S2048x1024_S2048x1024_0_0 x (by decide),
    View.ld_unit_lit inb_S1x1024_S1x1024_0_0 g (by decide)]
  simp only [load_stored]

theorem runA_8 (c : Dev nD) (i : grid0.Coords) (a2 : Memref sig .tc .vmem S2048x1024 .f32) (e2 : a2.IsWhole)
    (a3 : Memref sig .tc .vmem S1x1024 .f32) (e3 : a3.IsWhole) (a4 : Memref sig .tc .vmem S1024x1024 .bf16) (e4 : a4.IsWhole)
    (a5 : Memref sig .tc .vmem S1024x128 .bf16) (e5 : a5.IsWhole) (a6 : Memref sig .tc .vmem S1x128 .f32) (e6 : a6.IsWhole)
    (a7 : Memref sig .tc .vmem S2048x128 .f32) (e7 : a7.IsWhole) (a8 : Memref sig .tc .vmem S2048x128 .f32) (e8 : a8.IsWhole)
    (a9 : Memref sig .tc .vmem S2048x1024 .bf16) (e9 : a9.IsWhole) (a10 : Memref sig .tc .vmem S2048x128 .f32) (e10 : a10.IsWhole)
    (a11 : Memref sig .tc .vmem S2048x1024 .bf16) (e11 : a11.IsWhole)
    (y1 : k0_cond1 i = 1#1) (n2 : ¬ k0_cond2 i = 1#1) (y3 : k0_cond3 i = 1#1)
    (x : Vec F S2048x1024 .f32) (g : Vec F S1x1024 .f32) (w : Vec F S1024x1024 .bf16) (wd : Vec F S1024x128 .bf16)
    (bd : Vec F S1x128 .f32) :
    (runA c i a2 e2 a3 e3 a4 e4 a5 e5 a6 e6 a7 e7 a8 e8 a9 e9 a10 e10 a11 e11 y1 n2 y3 x g w wd bd).2.1
      = [⟨Rect.unit (s := S2048x128) ![0, 0] S2048x128.size inb_S2048x128_S2048x128_0_0, k0_pay3 x g wd bd⟩] := by
  dsimp only [runA]
  simp only [View.readAt_eq_ld, Memref.IsWhole.read_unread]
  rw [View.ld_unit_lit inb_S2048x1024_S2048x1024_0_0 x (by decide), View.ld_unit_lit inb_S1x1024_S1x1024_0_0 g (by decide),
    View.ld_unit_lit inb_S1024x128_S1024x128_0_0 wd (by decide), View.ld_unit_lit inb_S1x128_S1x128_0_0 bd (by decide)]

theorem runA_s (c : Dev nD) (i : grid0.Coords) (a2 : Memref sig .tc .vmem S2048x1024 .f32) (e2 : a2.IsWhole)
    (a3 : Memref sig .tc .vmem S1x1024 .f32) (e3 : a3.IsWhole) (a4 : Memref sig .tc .vmem S1024x1024 .bf16) (e4 : a4.IsWhole)
    (a5 : Memref sig .tc .vmem S1024x128 .bf16) (e5 : a5.IsWhole) (a6 : Memref sig .tc .vmem S1x128 .f32) (e6 : a6.IsWhole)
    (a7 : Memref sig .tc .vmem S2048x128 .f32) (e7 : a7.IsWhole) (a8 : Memref sig .tc .vmem S2048x128 .f32) (e8 : a8.IsWhole)
    (a9 : Memref sig .tc .vmem S2048x1024 .bf16) (e9 : a9.IsWhole) (a10 : Memref sig .tc .vmem S2048x128 .f32) (e10 : a10.IsWhole)
    (a11 : Memref sig .tc .vmem S2048x1024 .bf16) (e11 : a11.IsWhole)
    (y1 : k0_cond1 i = 1#1) (n2 : ¬ k0_cond2 i = 1#1) (y3 : k0_cond3 i = 1#1)
    (x : Vec F S2048x1024 .f32) (g : Vec F S1x1024 .f32) (w : Vec F S1024x1024 .bf16) (wd : Vec F S1024x128 .bf16)
    (bd : Vec F S1x128 .f32) :
    (runA c i a2 e2 a3 e3 a4 e4 a5 e5 a6 e6 a7 e7 a8 e8 a9 e9 a10 e10 a11 e11 y1 n2 y3 x g w wd bd).2.2.1
      = [⟨Rect.unit (s := S2048x1024) ![0, 0] S2048x1024.size inb_S2048x1024_S2048x1024_0_0, k0_pay2 x g⟩] := by
  dsimp only [runA]
  unfold runA.sl.H11_1
  simp only [View.readAt_eq_ld, Memref.IsWhole.read_unread]
  rw [View.ld_unit_lit inb_S2048x1024_S2048x1024_0_0 x (by decide), View.ld_unit_lit inb_S1x1024_S1x1024_0_0 g (by decide)]

/-- The sixty-four stores of a rotated column tile cover its block. -/
theorem runC_cover (c : Dev nD) (i : grid0.Coords) (a2 : Memref sig .tc .vmem S2048x1024 .f32) (e2 : a2.IsWhole)
    (a3 : Memref sig .tc .vmem S1x1024 .f32) (e3 : a3.IsWhole) (a4 : Memref sig .tc .vmem S1024x1024 .bf16) (e4 : a4.IsWhole)
    (a5 : Memref sig .tc .vmem S1024x128 .bf16) (e5 : a5.IsWhole) (a6 : Memref sig .tc .vmem S1x128 .f32) (e6 : a6.IsWhole)
    (a7 : Memref sig .tc .vmem S2048x128 .f32) (e7 : a7.IsWhole) (a8 : Memref sig .tc .vmem S2048x128 .f32) (e8 : a8.IsWhole)
    (a9 : Memref sig .tc .vmem S2048x1024 .bf16) (e9 : a9.IsWhole) (a10 : Memref sig .tc .vmem S2048x128 .f32) (e10 : a10.IsWhole)
    (a11 : Memref sig .tc .vmem S2048x1024 .bf16) (e11 : a11.IsWhole)
    (n1 : ¬ k0_cond1 i = 1#1) (y2 : k0_cond2 i = 1#1) (n3 : ¬ k0_cond3 i = 1#1)
    (w : Vec F S1024x1024 .bf16) (p q : Vec F S2048x128 .f32) (h : Vec F S2048x1024 .bf16) :
    ∀ y : S2048x1024.Idx, ∃ z ∈ (runC c i a2 e2 a3 e3 a4 e4 a5 e5 a6 e6 a7 e7 a8 e8 a9 e9 a10 e10 a11 e11 n1 y2 n3 w p q h).1, y ∈ z.1.set :=
  View.cover_of_tiledL _ S256x128.size (by sl_kernel_rfl)

end Cert.Inp

end
-- ==== Proof.Inproj.Body.lean ====
/- The loop's proof data: what every buffer holds after each point, the body's triple at a point, and the run. -/
module

public import proofs.«01_k».proof.Proof.Inproj.Blocks

@[expose] public section

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.InprojIdeal Cert.InprojIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem w0 (t : Fin cfg0.N) : (b0 t).IsWhole := hstage0_0 ((cfg0.slots t 0).cast nbuf0_0)
theorem w1 (t : Fin cfg0.N) : (b1 t).IsWhole := hstage0_1 ((cfg0.slots t 1).cast nbuf0_1)
theorem w2 (t : Fin cfg0.N) : (b2 t).IsWhole := hstage0_2 ((cfg0.slots t 2).cast nbuf0_2)
theorem w3 (t : Fin cfg0.N) : (b3 t).IsWhole := hstage0_3 ((cfg0.slots t 3).cast nbuf0_3)
theorem w4 (t : Fin cfg0.N) : (b4 t).IsWhole := hstage0_4 ((cfg0.slots t 4).cast nbuf0_4)
theorem w5 (t : Fin cfg0.N) : (b5 t).IsWhole := hstage0_5 ((cfg0.slots t 5).cast nbuf0_5)
theorem w6 (t : Fin cfg0.N) : (b6 t).IsWhole := hstage0_6 ((cfg0.slots t 6).cast nbuf0_6)
theorem w7 (t : Fin cfg0.N) : (b7 t).IsWhole := hstage0_7 ((cfg0.slots t 7).cast nbuf0_7)
theorem w8 (t : Fin cfg0.N) : (b8 t).IsWhole := hstage0_8 ((cfg0.slots t 8).cast nbuf0_8)

/-- The first point of a point's row block. -/
def base (t : Fin cfg0.N) : Fin cfg0.N := ⟨t.val - t.val % 11, Nat.lt_of_le_of_lt (Nat.sub_le _ _) t.isLt⟩

theorem base_of_first (t : Fin cfg0.N) (h : t.val % 11 = 0) : base t = t := Fin.ext (by simp only [base]; omega)

theorem base_pred (t : Fin cfg0.N) (h : ¬ t.val % 11 = 0) (hp : t.val - 1 < cfg0.N) : base ⟨t.val - 1, hp⟩ = base t :=
  Fin.ext (by simp only [base]; omega)

/-- The normalised rows of a point's row block. -/
def hAt (c : Dev nD) (t : Fin cfg0.N) : Vec F S2048x1024 .bf16 := k0_pay2 (iblk m c 0 (base t)) (iblk m c 1 (base t))

/-- Its step sizes. -/
def dtAt (c : Dev nD) (t : Fin cfg0.N) : Vec F S2048x128 .f32 :=
  k0_pay3 (iblk m c 0 (base t)) (iblk m c 1 (base t)) (iblk m c 3 (base t)) (iblk m c 4 (base t))

theorem not_first_of_rot (t : Fin cfg0.N) (h : isRot t) : ¬ t.val % 11 = 0 := by
  rcases h with h | h <;> omega

/-- A point's block of the projection. -/
def oAt (c : Dev nD) (t : Fin cfg0.N) : Vec F S2048x1024 .bf16 :=
  if hr : isRot t then
    View.canon (runC c (grid0.coords t) (b0 t) (w0 t) (b1 t) (w1 t) (b2 t) (w2 t) (b3 t) (w3 t) (b4 t) (w4 t) (b5 t) (w5 t) (b6 t) (w6 t) (b7 t) (w7 t) (b8 t) (w8 t) bs (Memref.isWhole_whole _)
      (fun h => not_first_of_rot t hr ((first_iff t).mp h)) ((rot_iff t).mpr hr) (fun h => (plain_iff t).mp h hr)
      (iblk m c 2 t) (iblk m c 5 t) (iblk m c 6 t) (hAt m c t)).1
  else plain (hAt m c t) (iblk m c 2 t)

/-- The invariant before position `n`: the scratch at anything before the first point, at the row block's normalised rows
    after any; the generator register at some state. -/
def inv (c : Dev nD) : (n : ℕ) → n ≤ cfg0.N → sProp 𝕄
  | 0, _ => Pipeline.ΦA spec0 c
  | n + 1, hn => iprop(owns (c : Thread nD τ) bs fullShare (hAt m c ⟨n, hn⟩) ∗ (∃ r, prngReg c r))

theorem inv_any (c : Dev nD) (n : ℕ) (hn : n ≤ cfg0.N) :
    inv m c n hn ⊢ (iprop((∃ d, owns (c : Thread nD τ) bs fullShare d) ∗ (∃ r, prngReg c r)) : sProp 𝕄) := by
  cases n with
  | zero =>
    show Pipeline.ΦA spec0 c ⊢ _
    rw [handed_eq]
  | succ n =>
    show iprop(owns (c : Thread nD τ) bs fullShare (hAt m c ⟨n, hn⟩) ∗ (∃ r, prngReg c r)) ⊢ _
    iintro ⟨H, Hg⟩
    isplitl [H]
    · iexists _; iexact H
    iexact Hg

theorem inv_later (c : Dev nD) (t : Fin cfg0.N) (h : ¬ t.val % 11 = 0) :
    inv m c t.val (Nat.le_of_lt t.isLt) = iprop(owns (c : Thread nD τ) bs fullShare (hAt m c t) ∗ (∃ r, prngReg c r)) := by
  obtain ⟨n, hn⟩ := t
  cases n with
  | zero => exact absurd (Nat.zero_mod _) h
  | succ n =>
    show iprop(owns (c : Thread nD τ) bs fullShare (hAt m c ⟨n, Nat.lt_of_succ_lt hn⟩) ∗ (∃ r, prngReg c r)) = _
    have e : base (⟨n, Nat.lt_of_succ_lt hn⟩ : Fin cfg0.N) = base ⟨n + 1, hn⟩ := base_pred ⟨n + 1, hn⟩ h _
    unfold hAt
    rw [e]

/-- The proof data: every input's buffer keeps its block, the two outputs' hold the blocks named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t
    | ⟨8, _⟩ => dtAt m c t
  Φ t := inv m c t.val (Nat.le_of_lt_succ t.isLt)
  q _ := fullShare
  owed _ := 0

theorem entry_eq (c : Dev nD) (w : Fin cfg0.W) : (dats m 0 c).A w = V m c (Pipeline.arrRef spec0 w) := by
  dsimp only [dats]

theorem inv_before (c : Dev nD) (t : Fin cfg0.N) : (dats m 0 c).Φ t.castSucc = inv m c t.val (Nat.le_of_lt t.isLt) := by
  dsimp only [dats]; exact Pipeline.Dat.Φ_castSucc (inv m c) t

theorem inv_after (c : Dev nD) (t : Fin cfg0.N) :
    (dats m 0 c).Φ t.succ = iprop(owns (c : Thread nD τ) bs fullShare (hAt m c t) ∗ (∃ r, prngReg c r)) := rfl

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = oAt m c t := by dsimp only [dats]
theorem left8 (c : Dev nD) (t : Fin cfg0.N) : (dats m 0 c).after 8 t = dtAt m c t := by dsimp only [dats]

theorem found0 (c : Dev nD) (t : Fin cfg0.N) (d) : (dats m 0 c).before 0 t d = iblk m c 0 t :=
  before0_0_of m (dats m 0 c) (entry_eq m c 0) (left0 m c) t d
theorem found1 (c : Dev nD) (t : Fin cfg0.N) (d) : (dats m 0 c).before 1 t d = iblk m c 1 t :=
  before0_1_of m (dats m 0 c) (entry_eq m c 1) (left1 m c) t d
theorem found2 (c : Dev nD) (t : Fin cfg0.N) (d) : (dats m 0 c).before 2 t d = iblk m c 2 t :=
  before0_2_of m (dats m 0 c) (entry_eq m c 2) (left2 m c) t d
theorem found3 (c : Dev nD) (t : Fin cfg0.N) (d) : (dats m 0 c).before 3 t d = iblk m c 3 t :=
  before0_3_of m (dats m 0 c) (entry_eq m c 3) (left3 m c) t d
theorem found4 (c : Dev nD) (t : Fin cfg0.N) (d) : (dats m 0 c).before 4 t d = iblk m c 4 t :=
  before0_4_of m (dats m 0 c) (entry_eq m c 4) (left4 m c) t d
theorem found5 (c : Dev nD) (t : Fin cfg0.N) (d) : (dats m 0 c).before 5 t d = iblk m c 5 t :=
  before0_5_of m (dats m 0 c) (entry_eq m c 5) (left5 m c) t d
theorem found6 (c : Dev nD) (t : Fin cfg0.N) (d) : (dats m 0 c).before 6 t d = iblk m c 6 t :=
  before0_6_of m (dats m 0 c) (entry_eq m c 6) (left6 m c) t d

/-- At a point that is not the first of its row block the step sizes' buffer still holds the row block's. -/
theorem found8 (c : Dev nD) (t : Fin cfg0.N) (h : ¬ t.val % 11 = 0) (d) : (dats m 0 c).before 8 t d = dtAt m c t := by
  have hp : t.val - 1 < cfg0.N := Nat.lt_of_le_of_lt (Nat.sub_le _ _) t.isLt
  have carry : ∀ (u : Fin cfg0.N) (_ : u.val ≠ 0), cfg0.idle 8 (grid0.coords u) = true → cfg0.fresh 8 u.val = false →
      (dats m 0 c).after 8 u = (dats m 0 c).after 8 ⟨u.val - 1, by omega⟩ := by
    intro u _ _ hf
    rw [fresh8] at hf
    have hu : ¬ u.val % 11 = 0 := of_decide_eq_false hf
    rw [left8, left8]
    unfold dtAt
    rw [base_pred u hu]
  rw [Dat.before_out_traj _ 8 rfl (fun _ _ => rfl) carry t.val t rfl d, if_neg (by
    rw [fresh8]
    unfold newAt
    rw [decide_eq_false h]
    exact Bool.false_ne_true), left8]
  unfold dtAt
  rw [base_pred t h]

/-! ## The body at a point -/

/-- What the body is handed at a point, window by window, -/
def bodyPre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem gives0 (c : Dev nD) (t : Fin cfg0.N) :
    (dats m 0 c).leavesExact 0 t = owns (c : Thread nD τ) (b0 t) fullShare (iblk m c 0 t) := by
  unfold Dat.leavesExact; rw [show cfg0.idle 0 (cfg0.grid.coords t) = false from rfl, left0]
theorem gives1 (c : Dev nD) (t : Fin cfg0.N) :
    (dats m 0 c).leavesExact 1 t = owns (c : Thread nD τ) (b1 t) fullShare (iblk m c 1 t) := by
  unfold Dat.leavesExact; rw [show cfg0.idle 1 (cfg0.grid.coords t) = false from rfl, left1]
theorem gives2 (c : Dev nD) (t : Fin cfg0.N) :
    (dats m 0 c).leavesExact 2 t = owns (c : Thread nD τ) (b2 t) fullShare (iblk m c 2 t) := by
  unfold Dat.leavesExact; rw [show cfg0.idle 2 (cfg0.grid.coords t) = false from rfl, left2]
theorem gives3 (c : Dev nD) (t : Fin cfg0.N) :
    (dats m 0 c).leavesExact 3 t = owns (c : Thread nD τ) (b3 t) fullShare (iblk m c 3 t) := by
  unfold Dat.leavesExact; rw [show cfg0.idle 3 (cfg0.grid.coords t) = false from rfl, left3]
theorem gives4 (c : Dev nD) (t : Fin cfg0.N) :
    (dats m 0 c).leavesExact 4 t = owns (c : Thread nD τ) (b4 t) fullShare (iblk m c 4 t) := by
  unfold Dat.leavesExact; rw [show cfg0.idle 4 (cfg0.grid.coords t) = false from rfl, left4]
theorem gives5 (c : Dev nD) (t : Fin cfg0.N) :
    (dats m 0 c).leavesExact 5 t = owns (c : Thread nD τ) (b5 t) fullShare (iblk m c 5 t) := by
  unfold Dat.leavesExact; rw [show cfg0.idle 5 (cfg0.grid.coords t) = false from rfl, left5]
theorem gives6 (c : Dev nD) (t : Fin cfg0.N) :
    (dats m 0 c).leavesExact 6 t = owns (c : Thread nD τ) (b6 t) fullShare (iblk m c 6 t) := by
  unfold Dat.leavesExact; rw [show cfg0.idle 6 (cfg0.grid.coords t) = false from rfl, left6]
theorem gives7 (c : Dev nD) (t : Fin cfg0.N) :
    (dats m 0 c).leavesExact 7 t = owns (c : Thread nD τ) (b7 t) fullShare (oAt m c t) := by
  unfold Dat.leavesExact; rw [show cfg0.idle 7 (cfg0.grid.coords t) = false from live7 t, left7]
theorem gives8_first (c : Dev nD) (t : Fin cfg0.N) (h : t.val % 11 = 0) :
    (dats m 0 c).leavesExact 8 t = owns (c : Thread nD τ) (b8 t) fullShare (dtAt m c t) := by
  unfold Dat.leavesExact
  rw [show cfg0.idle 8 (cfg0.grid.coords t) = false from (idle8 t).trans (by rw [decide_eq_true h]; rfl), left8]
theorem gives8_later (c : Dev nD) (t : Fin cfg0.N) (h : ¬ t.val % 11 = 0) :
    owns (c : Thread nD τ) (b8 t) fullShare (dtAt m c t) ⊢ ((dats m 0 c).leavesExact 8 t : sProp 𝕄) := by
  unfold Dat.leavesExact
  rw [show cfg0.idle 8 (cfg0.grid.coords t) = true from (idle8 t).trans (by rw [decide_eq_false h]; rfl)]
  cases hf : (cfg0.win 8).flush t
  · show _ ⊢ (iprop(∃ d, owns (c : Thread nD τ) (b8 t) fullShare ((dats m 0 c).before 8 t d)) : sProp 𝕄)
    simp only [found8 m c t h]
    iintro H
    iexists (dtAt m c t)
    iexact H
  · show _ ⊢ (owns (c : Thread nD τ) (b8 t) fullShare ((dats m 0 c).after 8 t) : sProp 𝕄)
    rw [left8]

set_option maxHeartbeats 4000000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, gives0, gives1, gives2, gives3, gives4, gives5, gives6, gives7]
  rw [show (dats m 0 c).owesAt () t.succ = (dats m 0 c).owesAt () t.castSucc from rfl, inv_after, inv_before]
  by_cases h0 : t.val % 11 = 0
  · have hr : ¬ isRot t := fun h => not_first_of_rot t h h0
    have y1 := (first_iff t).mpr h0
    have n2 : ¬ k0_cond2 (grid0.coords t) = 1#1 := fun h => hr ((rot_iff t).mp h)
    have y3 := (plain_iff t).mpr hr
    rw [gives8_first m c t h0]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP' := (inv_any m c t.val (Nat.le_of_lt t.isLt)) $$ HP
    icases HP' with ⟨HS, Hg⟩
    iapply ((runA c (grid0.coords t) (b0 t) (w0 t) (b1 t) (w1 t) (b2 t) (w2 t) (b3 t) (w3 t) (b4 t) (w4 t) (b5 t) (w5 t) (b6 t) (w6 t) (b7 t) (w7 t) (b8 t) (w8 t) bs (Memref.isWhole_whole _) y1 n2 y3 (iblk m c 0 t) (iblk m c 1 t) (iblk m c 2 t) (iblk m c 3 t) (iblk m c 4 t)).2.2.2 Set.univ _)
    isplitl [H0]; · iexact H0
    isplitl [H1]; · iexact H1
    isplitl [H2]; · iexact H2
    isplitl [H3]; · iexact H3
    isplitl [H4]; · iexact H4
    isplitl [H7]; · iexists _; iexact H7
    isplitl [H8]; · iexists _; iexact H8
    isplitl [HS]; · iexact HS
    iintro ⟨H0, H1, H2, H3, H4, ⟨%u7, H7⟩, ⟨%u8, H8⟩, ⟨%us, HS⟩⟩
    isplitl [HS Hg]
    · isplitl [HS]
      · unfold owns; iexists _; isplitr
        swap; · iexact HS
        ipureintro
        rw [runA_s, View.read_writes_eq_canon _ _ _ (View.cover_of_tiledL _ S2048x1024.size (by sl_kernel_rfl)),
          View.canon_unit_zero (by funext a; fin_cases a <;> rfl)]
        unfold hAt; rw [base_of_first t h0]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      rw [runA_7, View.read_writes_eq_canon _ _ _ (pieces_cover _ _)]
      unfold oAt; rw [dif_neg hr]
      unfold hAt; rw [base_of_first t h0]
      rfl
    unfold owns; iexists _; isplitr
    swap; · iexact H8
    ipureintro
    rw [runA_8, View.read_writes_eq_canon _ _ _ (View.cover_of_tiledL _ S2048x128.size (by sl_kernel_rfl)),
      View.canon_unit_zero (by funext a; fin_cases a <;> rfl)]
    unfold dtAt; rw [base_of_first t h0]
  · rw [inv_later m c t h0]
    simp only [found8 m c t h0]
    have n1 : ¬ k0_cond1 (grid0.coords t) = 1#1 := fun h => h0 ((first_iff t).mp h)
    by_cases hr : isRot t
    · have y2 := (rot_iff t).mpr hr
      have n3 : ¬ k0_cond3 (grid0.coords t) = 1#1 := fun h => (plain_iff t).mp h hr
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC c (grid0.coords t) (b0 t) (w0 t) (b1 t) (w1 t) (b2 t) (w2 t) (b3 t) (w3 t) (b4 t) (w4 t) (b5 t) (w5 t) (b6 t) (w6 t) (b7 t) (w7 t) (b8 t) (w8 t) bs (Memref.isWhole_whole _) n1 y2 n3 (iblk m c 2 t) (iblk m c 5 t) (iblk m c 6 t) (hAt m c t)).2 Set.univ _)
      isplitl [H2]; · iexact H2
      isplitl [H5]; · iexact H5
      isplitl [H6]; · iexact H6
      isplitl [H7]; · iexists _; iexact H7
      isplitl [HS]; · iexact HS
      iintro ⟨H2, H5, H6, ⟨%u7, H7⟩, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro
        rw [View.read_writes_eq_canon _ _ _ (runC_cover c _ _ _ _ _ _ _ _ _ _ _ _ _ _ _ _ _ _ _ _ _ _ _ _ _ _ _ _)]
        unfold oAt; rw [dif_pos hr]
      iapply (gives8_later m c t h0)
      iexact H8
    · have n2 : ¬ k0_cond2 (grid0.coords t) = 1#1 := fun h => hr ((rot_iff t).mp h)
      have y3 := (plain_iff t).mpr hr
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) (b0 t) (w0 t) (b1 t) (w1 t) (b2 t) (w2 t) (b3 t) (w3 t) (b4 t) (w4 t) (b5 t) (w5 t) (b6 t) (w6 t) (b7 t) (w7 t) (b8 t) (w8 t) bs (Memref.isWhole_whole _) n1 n2 y3 (iblk m c 2 t) (hAt m c t)).2 Set.univ _)
      isplitl [H2]; · iexact H2
      isplitl [H7]; · iexists _; iexact H7
      isplitl [HS]; · iexact HS
      iintro ⟨H2, ⟨%u7, H7⟩, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro
        rw [runB_eq, View.read_writes_eq_canon _ _ _ (pieces_cover _ _)]
        unfold oAt; rw [dif_neg hr]
        rfl
      iapply (gives8_later m c t h0)
      iexact H8

theorem row_at (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row_at]
  exact triple_restated (body_sound m c t) rfl .rfl fun _ => .rfl

theorem inv_in (c : Dev nD) : Pipeline.ΦA spec0 c ⊢ (dats (F := F) m 0 c).Φ 0 := by
  rw [show (dats (F := F) m 0 c).Φ 0 = Pipeline.ΦA spec0 c from rfl]

theorem inv_out (c : Dev nD) : (dats (F := F) m 0 c).Φ (Fin.last cfg0.N) ⊢ Pipeline.ΦA spec0 c := by
  rw [handed_eq]
  exact inv_any m c (Fin.last cfg0.N).val (Nat.le_of_lt_succ (Fin.last cfg0.N).isLt)

set_option backward.isDefEq.respectTransparency.types false in
set_option maxHeartbeats 800000 in
/-- From any memory with the counters at zero, @main ends with every array at what the proof data say and the other
    buffers as the lines around the kernel leave them, the counters again at zero. -/
theorem run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := entry_eq m) (hin := inv_in m) (hout := inv_out m)

end Cert.Inp

end
-- ==== Proof.Inproj.Arrays.lean ====
/- A window's block read at an index, and the two arrays the loop leaves, at an index. -/
module

public import proofs.«01_k».proof.Proof.Inproj.Body
public import Idealize.ShloMosaic.Lib.Pointwise
public import Idealize.ShloMosaic.Lib.Pipeline.ValueKit

@[expose] public section

set_option maxRecDepth 16384

noncomputable section

namespace Cert.Inp

open Idealize.ShloMosaic Idealize.ShloMosaic.TcCoe Idealize.ShloMosaic.Tactic
open Idealize.ShloMosaic.Pipeline (Dat Cfg Window)
open Cert.InprojIdeal Cert.InprojIdeal.Gen

variable {F : FTy → Type} [FloatOps F]
variable (m : (ℓ : Loc nD τ sig) → Buf (Elt F) ℓ)

theorem ix_0 : ∀ t : Fin cfg0.N, (cfg0.win 0).index t = ![t.val / 11, 0] :=
  (by decide +kernel : ∀ t : Fin grid0.N, (cfg0.win 0).index t = ![t.val / 11, 0])
theorem ix_1 : ∀ t : Fin cfg0.N, (cfg0.win 1).index t = ![0, 0] :=
  (by decide +kernel : ∀ t : Fin grid0.N, (cfg0.win 1).index t = ![0, 0])
theorem ix_2 : ∀ t : Fin cfg0.N, (cfg0.win 2).index t = ![0, t.val % 11] :=
  (by decide +kernel : ∀ t : Fin grid0.N, (cfg0.win 2).index t = ![0, t.val % 11])
theorem ix_3 : ∀ t : Fin cfg0.N, (cfg0.win 3).index t = ![0, 0] :=
  (by decide +kernel : ∀ t : Fin grid0.N, (cfg0.win 3).index t = ![0, 0])
theorem ix_4 : ∀ t : Fin cfg0.N, (cfg0.win 4).index t = ![0, 0] :=
  (by decide +kernel : ∀ t : Fin grid0.N, (cfg0.win 4).index t = ![0, 0])
theorem ix_5 : ∀ t : Fin cfg0.N, (cfg0.win 5).index t = ![t.val / 11, 0] :=
  (by decide +kernel : ∀ t : Fin grid0.N, (cfg0.win 5).index t = ![t.val / 11, 0])
theorem ix_6 : ∀ t : Fin cfg0.N, (cfg0.win 6).index t = ![t.val / 11, 0] :=
  (by decide +kernel : ∀ t : Fin grid0.N, (cfg0.win 6).index t = ![t.val / 11, 0])
theorem ix_7 : ∀ t : Fin cfg0.N, (cfg0.win 7).index t = ![t.val / 11, t.val % 11] :=
  (by decide +kernel : ∀ t : Fin grid0.N, (cfg0.win 7).index t = ![t.val / 11, t.val % 11])
theorem ix_8 : ∀ t : Fin cfg0.N, (cfg0.win 8).index t = ![t.val / 11, 0] :=
  (by decide +kernel : ∀ t : Fin grid0.N, (cfg0.win 8).index t = ![t.val / 11, 0])

theorem row_lt (t : Fin cfg0.N) (r : Fin 2048) : t.val / 11 * 2048 + r.val < 32768 := by
  have := lt176 t; omega
theorem col_lt (t : Fin cfg0.N) (j : Fin 1024) : t.val % 11 * 1024 + j.val < 11264 := by omega

/-- The rows a point sees. -/
theorem blk_0 (c : Dev nD) (t : Fin cfg0.N) (r : Fin 2048) (k : Fin 1024) :
    iblk m c 0 t (ix2 r k) = V m c main_v52 (ix2 (⟨t.val / 11 * 2048 + r.val, row_lt t r⟩ : Fin 32768) k) := by
  show V m c main_v52 (((cfg0.win 0).rect t).emb (ix2 r k)) = _
  refine congrArg (V m c main_v52) (funext fun a => Fin.ext ?_)
  refine (((cfg0.win 0).rect_emb_val t _ a).trans ?_)
  rw [ix_0]
  fin_cases a
  · rfl
  · show 0 * 1024 + k.val = k.val; omega

theorem blk_1 (c : Dev nD) (t : Fin cfg0.N) (r : Fin 1) (k : Fin 1024) :
    iblk m c 1 t (ix2 r k) = V m c main_v84 (ix2 r k) := by
  show V m c main_v84 (((cfg0.win 1).rect t).emb (ix2 r k)) = _
  refine congrArg (V m c main_v84) (funext fun a => Fin.ext ?_)
  refine (((cfg0.win 1).rect_emb_val t _ a).trans ?_)
  rw [ix_1]
  fin_cases a
  · show 0 * 1 + r.val = r.val; omega
  · show 0 * 1024 + k.val = k.val; omega

theorem blk_2 (c : Dev nD) (t : Fin cfg0.N) (k : Fin 1024) (j : Fin 1024) :
    iblk m c 2 t (ix2 k j) = V m c main_v76 (ix2 k (⟨t.val % 11 * 1024 + j.val, col_lt t j⟩ : Fin 11264)) := by
  show V m c main_v76 (((cfg0.win 2).rect t).emb (ix2 k j)) = _
  refine congrArg (V m c main_v76) (funext fun a => Fin.ext ?_)
  refine (((cfg0.win 2).rect_emb_val t _ a).trans ?_)
  rw [ix_2]
  fin_cases a
  · show 0 * 1024 + k.val = k.val; omega
  · rfl

theorem blk_3 (c : Dev nD) (t : Fin cfg0.N) (k : Fin 1024) (j : Fin 128) :
    iblk m c 3 t (ix2 k j) = V m c main_v79 (ix2 k j) := by
  show V m c main_v79 (((cfg0.win 3).rect t).emb (ix2 k j)) = _
  refine congrArg (V m c main_v79) (funext fun a => Fin.ext ?_)
  refine (((cfg0.win 3).rect_emb_val t _ a).trans ?_)
  rw [ix_3]
  fin_cases a
  · show 0 * 1024 + k.val = k.val; omega
  · show 0 * 128 + j.val = j.val; omega

theorem blk_4 (c : Dev nD) (t : Fin cfg0.N) (r : Fin 1) (j : Fin 128) :
    iblk m c 4 t (ix2 r j) = V m c main_v82 (ix2 r j) := by
  show V m c main_v82 (((cfg0.win 4).rect t).emb (ix2 r j)) = _
  refine congrArg (V m c main_v82) (funext fun a => Fin.ext ?_)
  refine (((cfg0.win 4).rect_emb_val t _ a).trans ?_)
  rw [ix_4]
  fin_cases a
  · show 0 * 1 + r.val = r.val; omega
  · show 0 * 128 + j.val = j.val; omega

theorem blk_5 (c : Dev nD) (t : Fin cfg0.N) (r : Fin 2048) (k : Fin 128) :
    iblk m c 5 t (ix2 r k) = V m c main_v20 (ix2 (⟨t.val / 11 * 2048 + r.val, row_lt t r⟩ : Fin 32768) k) := by
  show V m c main_v20 (((cfg0.win 5).rect t).emb (ix2 r k)) = _
  refine congrArg (V m c main_v20) (funext fun a => Fin.ext ?_)
  refine (((cfg0.win 5).rect_emb_val t _ a).trans ?_)
  rw [ix_5]
  fin_cases a
  · rfl
  · show 0 * 128 + k.val = k.val; omega

theorem blk_6 (c : Dev nD) (t : Fin cfg0.N) (r : Fin 2048) (k : Fin 128) :
    iblk m c 6 t (ix2 r k) = V m c main_v31 (ix2 (⟨t.val / 11 * 2048 + r.val, row_lt t r⟩ : Fin 32768) k) := by
  show V m c main_v31 (((cfg0.win 6).rect t).emb (ix2 r k)) = _
  refine congrArg (V m c main_v31) (funext fun a => Fin.ext ?_)
  refine (((cfg0.win 6).rect_emb_val t _ a).trans ?_)
  rw [ix_6]
  fin_cases a
  · rfl
  · show 0 * 128 + k.val = k.val; omega

theorem base_row (t : Fin cfg0.N) : (base t).val / 11 = t.val / 11 := by simp only [base]; omega

/-- The projection's array after the loop, at an index of a point's block. -/
theorem out_7 (c : Dev nD) (t : Fin cfg0.N) (r : Fin 2048) (j : Fin 1024) :
    (dats m 0 c).arrAt 7 cfg0.N (ix2 (⟨t.val / 11 * 2048 + r.val, row_lt t r⟩ : Fin 32768) (⟨t.val % 11 * 1024 + j.val, col_lt t j⟩ : Fin 11264) : S32768x11264.Idx)
      = oAt m c t (ix2 r j) := by
  have h := (dats m 0 c).arrAt_emb_eq_flushed 7 (Window.hdisj_of_index_inj (cfg0.win 7) (fun t t' _ _ e => by
    rw [ix_7, ix_7] at e
    have h0 := congrFun e 0; have h1 := congrFun e 1
    simp only [Matrix.cons_val_zero, Matrix.cons_val_one] at h0 h1
    exact Fin.ext (by omega))) t (flush0_7 t) (ix2 r j : S2048x1024.Idx)
  refine Eq.trans (congrArg ((dats m 0 c).arrAt 7 cfg0.N) (funext fun a => Fin.ext ?_)) (h.trans ?_)
  · refine Eq.trans ?_ ((cfg0.win 7).rect_emb_val t (ix2 r j : S2048x1024.Idx) a).symm
    rw [ix_7]
    fin_cases a <;> rfl
  · show (dats m 0 c).after 7 t (ix2 r j) = _
    rw [left7]

/-- The step sizes' array after the loop. -/
theorem out_8 (c : Dev nD) (t : Fin cfg0.N) (ht : t.val % 11 = 10) (r : Fin 2048) (j : Fin 128) :
    (dats m 0 c).arrAt 8 cfg0.N (ix2 (⟨t.val / 11 * 2048 + r.val, row_lt t r⟩ : Fin 32768) j : S32768x128.Idx)
      = dtAt m c t (ix2 r j) := by
  have h := (dats m 0 c).arrAt_emb_eq_flushed 8 (Window.hdisj_of_index_inj (cfg0.win 8) (fun t t' hf hf' e => by
    rw [ix_8, ix_8] at e
    have h0 := congrFun e 0
    have a := (flush0_8 t).mp hf; have b := (flush0_8 t').mp hf'
    simp only [Matrix.cons_val_zero] at h0
    exact Fin.ext (by omega))) t ((flush0_8 t).mpr ht) (ix2 r j : S2048x128.Idx)
  refine Eq.trans (congrArg ((dats m 0 c).arrAt 8 cfg0.N) (funext fun a => Fin.ext ?_)) (h.trans ?_)
  · refine Eq.trans ?_ ((cfg0.win 8).rect_emb_val t (ix2 r j : S2048x128.Idx) a).symm
    rw [ix_8]
    fin_cases a
    · rfl
    · show j.val = 0 * 128 + j.val; omega
  · show (dats m 0 c).after 8 t (ix2 r j) = _
    rw [left8]

end Cert.Inp

end
-- ==== Proof.Inproj.Entry.lean ====
/- The arrays as the loop finds them, in terms of the arguments. -/
module

public import proofs.«01_k».proof.Proof.Gen.InprojIdeal.Frame
public import Idealize.ShloMosaic.Lib.Pointwise

@[expose] public section

set_option maxRecDepth 16384
set_option maxHeartbeats 4000000

noncomputable section

namespace Cert.Inp

open Idealize.ShloMosaic Idealize.ShloMosaic.TcCoe Idealize.ShloMosaic.Tactic Idealize.ShloMosaic.StableHlo
open Cert.InprojIdeal Cert.InprojIdeal.Gen

variable {F : FTy → Type} [FloatOps F]
variable (m : (ℓ : Loc nD τ sig) → Buf (Elt F) ℓ)

/-- The weight matrix without its leading axis. -/
def wmat (c : Dev nD) : Vec F S1024x11296 .f32 := shapeCast S1024x11296 (m ((c.tc : Thread nD τ).loc main_arg3)) shapeCasts_S1x1024x11296_S1024x11296

theorem entry_x (c : Dev nD) : V m c main_v52 = shapeCast S32768x1024 (m ((c.tc : Thread nD τ).loc main_arg0)) shapeCasts_S16x2048x1024_S32768x1024 := by
  show StableHlo.after (List.flatten _) _ (Proc.devRef .tc main_v52) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_g (c : Dev nD) : V m c main_v84 = shapeCast S1x1024 (shapeCast S1024 (m ((c.tc : Thread nD τ).loc main_arg2)) shapeCasts_S1x1024_S1024) shapeCasts_S1024_S1x1024 := by
  show StableHlo.after (List.flatten _) _ (Proc.devRef .tc main_v84) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_wd (c : Dev nD) : ∃ z : S_.Idx → Elt F .f32, V m c main_v79 = truncf .bf16 (pad S1024x128 ![0, 0] ![0, 96] ![0, 0] (extractStridedSlice S1024x32 ![0, 9216] (wmat m c) slices_S1024x11296_S1024x32_0_9216) z pads_S1024x32_S1024x128_000_0960 h_S_) bitsLt_bf16_f32 := by
  apply Exists.intro
  show StableHlo.after (List.flatten _) _ (Proc.devRef .tc main_v79) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_bd (c : Dev nD) : ∃ z : S_.Idx → Elt F .f32, V m c main_v82 = shapeCast S1x128 (pad S128 ![0] ![96] ![0] (shapeCast S32 (m ((c.tc : Thread nD τ).loc main_arg4)) shapeCasts_S1x32_S32) z pads_S32_S128_0960 h_S_) shapeCasts_S128_S1x128 := by
  apply Exists.intro
  show StableHlo.after (List.flatten _) _ (Proc.devRef .tc main_v82) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_w (c : Dev nD) : ∃ q k : S1024x1024.Idx → Elt F .f32, V m c main_v76 = truncf .bf16 (concatenate S1024x11264 1 [
    ⟨S1024x4096, extractStridedSlice S1024x4096 ![0, 5120] (wmat m c) slices_S1024x11296_S1024x4096_0_5120⟩,
    ⟨S1024x2048, extractStridedSlice S1024x2048 ![0, 3072] (wmat m c) slices_S1024x11296_S1024x2048_0_3072⟩,
    ⟨S1024x1024, q⟩, ⟨S1024x1024, k⟩,
    ⟨S1024x1024, extractStridedSlice S1024x1024 ![0, 2048] (wmat m c) slices_S1024x11296_S1024x1024_0_2048⟩,
    ⟨S1024x1024, extractStridedSlice S1024x1024 ![0, 9248] (wmat m c) slices_S1024x11296_S1024x1024_0_9248⟩,
    ⟨S1024x1024, extractStridedSlice S1024x1024 ![0, 10272] (wmat m c) slices_S1024x11296_S1024x1024_0_10272⟩] concatenates_S1024x4096_S1024x2048_S1024x1024_S1024x1024_S1024x1024_S1024x1024_S1024x1024_S1024x11264_d1) bitsLt_bf16_f32 := by
  apply Exists.intro; apply Exists.intro
  show StableHlo.after (List.flatten _) _ (Proc.devRef .tc main_v76) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

end Cert.Inp

end
-- ==== Proof.Inproj.EntryAt.lean ====
/- The arrays as the loop finds them, at an index over the extended reals. -/
module

public import proofs.«01_k».proof.Proof.Inproj.Entry

@[expose] public section

set_option maxRecDepth 16384
set_option maxHeartbeats 1000000

noncomputable section

namespace Cert.Inp

open Idealize.ShloMosaic Idealize.ShloMosaic.TcCoe Idealize.ShloMosaic.Tactic
open Cert.InprojIdeal Cert.InprojIdeal.Gen

variable (m : (ℓ : Loc nD τ sig) → Buf (Elt Ideal) ℓ)

/-- The activations, the norm's weight, the weight matrix and the step sizes' bias the program is launched on. -/
abbrev argX (c : Dev nD) : FVec Ideal S16x2048x1024 .f32 := m ((c.tc : Thread nD τ).loc main_arg0)
abbrev argG (c : Dev nD) : FVec Ideal S1x1024 .f32 := m ((c.tc : Thread nD τ).loc main_arg2)
abbrev argW (c : Dev nD) : FVec Ideal S1x1024x11296 .f32 := m ((c.tc : Thread nD τ).loc main_arg3)
abbrev argB (c : Dev nD) : FVec Ideal S1x32 .f32 := m ((c.tc : Thread nD τ).loc main_arg4)

theorem cast_x (x : FVec Ideal S16x2048x1024 .f32) (h : S16x2048x1024.ShapeCasts S32768x1024) (r : Fin 32768) (k : Fin 1024) :
    shapeCast S32768x1024 x h (ix2 r k) = x (ix3 (⟨r.val / 2048, by omega⟩ : Fin 16) (⟨r.val % 2048, by omega⟩ : Fin 2048) k) := by
  pointwise []

theorem cast_w (x : FVec Ideal S1x1024x11296 .f32) (h : S1x1024x11296.ShapeCasts S1024x11296) (k : Fin 1024) (n : Fin 11296) :
    shapeCast S1024x11296 x h (ix2 k n) = x (ix3 0 k n) := by
  pointwise []

theorem x_at (c : Dev nD) (r : Fin 32768) (k : Fin 1024) :
    V m c main_v52 (ix2 r k) = argX m c (ix3 (⟨r.val / 2048, by omega⟩ : Fin 16) (⟨r.val % 2048, by omega⟩ : Fin 2048) k) := by
  rw [entry_x]
  exact cast_x (argX m c) _ r k

theorem g_at (c : Dev nD) (k : Fin 1024) : V m c main_v84 (ix2 (0 : Fin 1) k) = argG m c (ix2 0 k) := by
  rw [entry_g]
  pointwise []

theorem wmat_at (c : Dev nD) (k : Fin 1024) (n : Fin 11296) : wmat m c (ix2 k n) = argW m c (ix3 0 k n) := by
  exact cast_w (argW m c) _ k n

theorem wd_at (c : Dev nD) (k : Fin 1024) (j : Fin 128) (h : j.val < 32) :
    V m c main_v79 (ix2 k j) = argW m c (ix3 0 k (⟨9216 + j.val, by omega⟩ : Fin 11296)) := by
  obtain ⟨z, e⟩ := entry_wd m c
  rw [e, ← wmat_at]
  generalize wmat m c = w
  pointwise []
  exact dif_pos h

theorem bd_at (c : Dev nD) (j : Fin 128) (h : j.val < 32) :
    V m c main_v82 (ix2 (0 : Fin 1) j) = argB m c (ix2 0 (⟨j.val, h⟩ : Fin 32)) := by
  obtain ⟨z, e⟩ := entry_bd m c
  rw [e]
  pointwise []
  exact dif_pos h

/-- The column of the weight matrix that the kernel's column `n` is the product with, away from the rotated ones. -/
def col (n : ℕ) : ℕ := if n < 4096 then 5120 + n else if n < 6144 then 3072 + (n - 4096) else if n < 9216 then 2048 + (n - 8192) else 9248 + (n - 9216)

theorem col_lt' (n : ℕ) (h : n < 11264) (h' : n < 6144 ∨ 8192 ≤ n) : col n < 11296 := by
  unfold col; split_ifs <;> omega

theorem w_at (c : Dev nD) (k : Fin 1024) (n : Fin 11264) (h : n.val < 6144 ∨ 8192 ≤ n.val) :
    V m c main_v76 (ix2 k n) = argW m c (ix3 0 k (⟨col n.val, col_lt' n.val n.isLt h⟩ : Fin 11296)) := by
  obtain ⟨p, q, e⟩ := entry_w m c
  rw [e, ← wmat_at]
  generalize wmat m c = w
  pointwise []
  have ew : ∀ (a b : ℕ) (ha : a < 11296) (hb : b < 11296), a = b → w (ix2 k (⟨a, ha⟩ : Fin 11296)) = w (ix2 k (⟨b, hb⟩ : Fin 11296)) := by
    rintro a _ ha hb rfl; rfl
  split
  · exact ew _ _ _ _ (by unfold col; split_ifs <;> omega)
  split
  · exact ew _ _ _ _ (by unfold col; split_ifs <;> omega)
  split
  · omega
  split
  · omega
  split
  · exact ew _ _ _ _ (by unfold col; split_ifs <;> omega)
  split
  · exact ew _ _ _ _ (by unfold col; split_ifs <;> omega)
  · exact ew _ _ _ _ (by unfold col; split_ifs <;> omega)

end Cert.Inp

end
-- ==== Proof.Inproj.Payloads.lean ====
/- The blocks the body leaves, read at an index over the extended reals. -/
module

public import proofs.«01_k».proof.Proof.Inproj.Blocks
public import Idealize.ShloMosaic.Lib.Pointwise
public import Idealize.ShloMosaic.Lib.Pipeline.ValueKit.Tiles

@[expose] public section

set_option maxRecDepth 16384

noncomputable section

namespace Cert.Inp

open Idealize.ShloMosaic Idealize.ShloMosaic.TcCoe Idealize.ShloMosaic.Tactic
open Cert.InprojIdeal Cert.InprojIdeal.Gen

/-- A row divided by the root of its mean square, times the weight, at one column. -/
def normed (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The product of the normalised row with a column. -/
def proj (x g w : Fin 1024 → EReal) : EReal := ∑ k : Fin 1024, normed x g k * w k

/-- The softplus as the kernel takes it. -/
def sp (z : EReal) : EReal := max z 0 + Ideal.log1p (Ideal.exp (0 - max z (-z)))

theorem pay2_at (x : Vec Ideal S2048x1024 .f32) (g : Vec Ideal S1x1024 .f32) (r : Fin 2048) (k : Fin 1024) :
    k0_pay2 x g (ix2 r k) = normed (fun j => x (ix2 r j)) (fun j => g (ix2 0 j)) k := by
  pointwise [k0_pay2, k0_pay1, normed]

theorem pay3_at (x : Vec Ideal S2048x1024 .f32) (g : Vec Ideal S1x1024 .f32) (wd : Vec Ideal S1024x128 .bf16) (bd : Vec Ideal S1x128 .f32)
    (r : Fin 2048) (j : Fin 128) :
    k0_pay3 x g wd bd (ix2 r j) = sp (proj (fun j => x (ix2 r j)) (fun j => g (ix2 0 j)) (fun k => wd (ix2 k j)) + bd (ix2 0 j)) := by
  pointwise [k0_pay3, k0_pay1, normed, proj, sp]
  rfl

theorem prod8_at (h : Vec Ideal S256x1024 .bf16) (w : Vec Ideal S1024x1024 .bf16) (r : Fin 256) (j : Fin 1024) :
    k0_pay8 h w (ix2 r j) = ∑ k : Fin 1024, h (ix2 r k) * w (ix2 k j) := by
  pointwise [k0_pay8]
theorem prod7_at (h : Vec Ideal S256x1024 .bf16) (w : Vec Ideal S1024x1024 .bf16) (r : Fin 256) (j : Fin 1024) :
    k0_pay7 h w (ix2 r j) = ∑ k : Fin 1024, h (ix2 r k) * w (ix2 k j) := by
  pointwise [k0_pay7]
theorem prod6_at (h : Vec Ideal S256x1024 .bf16) (w : Vec Ideal S1024x1024 .bf16) (r : Fin 256) (j : Fin 1024) :
    k0_pay6 h w (ix2 r j) = ∑ k : Fin 1024, h (ix2 r k) * w (ix2 k j) := by
  pointwise [k0_pay6]
theorem prod5_at (h : Vec Ideal S256x1024 .bf16) (w : Vec Ideal S1024x1024 .bf16) (r : Fin 256) (j : Fin 1024) :
    k0_pay5 h w (ix2 r j) = ∑ k : Fin 1024, h (ix2 r k) * w (ix2 k j) := by
  pointwise [k0_pay5]
theorem prod120_at (h : Vec Ideal S256x1024 .bf16) (w : Vec Ideal S1024x1024 .bf16) (r : Fin 256) (j : Fin 1024) :
    k0_pay120 h w (ix2 r j) = ∑ k : Fin 1024, h (ix2 r k) * w (ix2 k j) := by
  pointwise [k0_pay120]
theorem prod119_at (h : Vec Ideal S256x1024 .bf16) (w : Vec Ideal S1024x1024 .bf16) (r : Fin 256) (j : Fin 1024) :
    k0_pay119 h w (ix2 r j) = ∑ k : Fin 1024, h (ix2 r k) * w (ix2 k j) := by
  pointwise [k0_pay119]
theorem prod118_at (h : Vec Ideal S256x1024 .bf16) (w : Vec Ideal S1024x1024 .bf16) (r : Fin 256) (j : Fin 1024) :
    k0_pay118 h w (ix2 r j) = ∑ k : Fin 1024, h (ix2 r k) * w (ix2 k j) := by
  pointwise [k0_pay118]
theorem prod117_at (h : Vec Ideal S256x1024 .bf16) (w : Vec Ideal S1024x1024 .bf16) (r : Fin 256) (j : Fin 1024) :
    k0_pay117 h w (ix2 r j) = ∑ k : Fin 1024, h (ix2 r k) * w (ix2 k j) := by
  pointwise [k0_pay117]

/-- The product of the rows with a column, at an index of the block. -/
def prodAt (h : Vec Ideal S2048x1024 .bf16) (w : Vec Ideal S1024x1024 .bf16) (y : S2048x1024.Idx) : EReal :=
  ∑ k : Fin 1024, h (ix2 (y 0) k) * w (ix2 k (y 1))

theorem rows_at (h : Vec Ideal S2048x1024 .bf16) (w : Vec Ideal S1024x1024 .bf16) (o : ℕ)
    (v : Vec Ideal S256x1024 .bf16 → Vec Ideal S1024x1024 .bf16 → Vec Ideal S256x1024 .bf16)
    (hv : ∀ h' w' (r : Fin 256) (j : Fin 1024), v h' w' (ix2 r j) = ∑ k : Fin 1024, h' (ix2 r k) * w' (ix2 k j))
    (inb' : ∀ a : Fin 2, (![o, 0] : Fin 2 → ℕ) a + S256x1024.size a ≤ S2048x1024.size a)
    (x : (Rect.unit (s := S2048x1024) ![o, 0] S256x1024.size inb').shape.Idx) :
    v (View.ld h (Rect.unit (s := S2048x1024) ![o, 0] S256x1024.size inb')) w x
      = prodAt h w ((Rect.unit (s := S2048x1024) ![o, 0] S256x1024.size inb').emb x) := by
  have hx : (x : S256x1024.Idx) = ix2 (x 0 : Fin 256) (x 1 : Fin 1024) := by funext a; fin_cases a <;> rfl
  have e := hv (View.ld h (Rect.unit (s := S2048x1024) ![o, 0] S256x1024.size inb')) w (x 0) (x 1)
  refine (congrArg (v (View.ld h (Rect.unit (s := S2048x1024) ![o, 0] S256x1024.size inb')) w) hx).trans (e.trans ?_)
  unfold prodAt
  refine Finset.sum_congr rfl fun k _ => ?_
  congr 1
  · refine View.ld_unit_apply_of h _ _ _ _ _ fun a => ?_
    fin_cases a
    · exact (Rect.idx_unit_val _ _ _ x 0)
    · show k.val = 0 + k.val; omega
  · refine congrArg w (funext fun a => Fin.ext ?_)
    fin_cases a
    · rfl
    · exact ((Rect.idx_unit_val _ _ _ x 1).trans (Nat.zero_add _)).symm

theorem plain_at (h : Vec Ideal S2048x1024 .bf16) (w : Vec Ideal S1024x1024 .bf16) (r : Fin 2048) (j : Fin 1024) :
    plain h w (ix2 r j) = ∑ k : Fin 1024, h (ix2 r k) * w (ix2 k j) := by
  refine View.canon_apply_of_pieces (prodAt h w) (pieces h w) ?_ (ix2 r j) (pieces_cover h w _)
  intro p hp x
  simp only [pieces, List.mem_cons, List.not_mem_nil, or_false] at hp
  rcases hp with rfl | rfl | rfl | rfl | rfl | rfl | rfl | rfl
  · exact rows_at h w 1792 k0_pay8 prod8_at _ x
  · exact rows_at h w 1536 k0_pay7 prod7_at _ x
  · exact rows_at h w 1280 k0_pay6 prod6_at _ x
  · exact rows_at h w 1024 k0_pay5 prod5_at _ x
  · exact rows_at h w 768 k0_pay120 prod120_at _ x
  · exact rows_at h w 512 k0_pay119 prod119_at _ x
  · exact rows_at h w 256 k0_pay118 prod118_at _ x
  · exact rows_at h w 0 k0_pay117 prod117_at _ x

end Cert.Inp

end
-- ==== Proof.Inproj.RefValue.lean ====
/- The reference's results at an index over the extended reals. -/
module

public import proofs.«01_k».proof.Proof.Inproj.Payloads
public import proofs.«01_k».proof.Proof.Gen.InprojRefIdeal.Run

@[expose] public section

set_option maxRecDepth 16384
set_option maxHeartbeats 4000000

noncomputable section

namespace Cert.Inp.Ref

open Idealize.ShloMosaic Idealize.ShloMosaic.TcCoe Idealize.ShloMosaic.Tactic
open Idealize.SL.Sem
open Cert.InprojRefIdeal Cert.InprojRefIdeal.Gen

/-- The column a column is turned with: the one 32 away in its 64. -/
def mate (j : ℕ) : ℕ := j / 64 * 64 + (j % 64 + 32) % 64

/-- A row's columns turned by the angles whose cosines and sines are given. -/
def turn (x : Fin 1024 → EReal) (p q : Fin 32 → EReal) (j : Fin 1024) : EReal :=
  if j.val % 64 < 32 then x j * p ⟨j.val % 32, by omega⟩ - x ⟨mate j.val, by unfold mate; omega⟩ * q ⟨j.val % 32, by omega⟩
  else x j * p ⟨j.val % 32, by omega⟩ + x ⟨mate j.val, by unfold mate; omega⟩ * q ⟨j.val % 32, by omega⟩

/-- The reference's product of the normalised activations with the whole weight matrix. -/
def dots (x : FVec Ideal S16x2048x1024 .f32) (g : FVec Ideal S1x1024 .f32) (w : FVec Ideal S1x1024x11296 .f32) : FVec Ideal S16x2048x11296 .f32 :=
  Host.dotGeneral dot_S16x2048x1024_S1024x11296_S16x2048x11296_2_0_01_1_n_n none (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ g shapeCasts_S1x1024_S1024)))) (shapeCast _ w shapeCasts_S1x1024x11296_S1024x11296)

theorem dots_at (x : FVec Ideal S16x2048x1024 .f32) (g : FVec Ideal S1x1024 .f32) (w : FVec Ideal S1x1024x11296 .f32) (b : Fin 16) (s : Fin 2048) (n : Fin 11296) :
    dots x g w (ix3 b s n) = proj (fun j => x (ix3 b s j)) (fun j => g (ix2 0 j)) (fun k => w (ix3 0 k n)) := by
  pointwise [dots, proj, normed]

/-- The first result. -/
def out0 (d : FVec Ideal S16x2048x11296 .f32) : FVec Ideal S32768x6144 .bf16 :=
  truncf .bf16 (shapeCast _ (concatenate S16x2048x6144 2 [⟨S16x2048x4096, (extractStridedSlice S16x2048x4096 ![0, 0, 5120] d slices_S16x2048x11296_S16x2048x4096_0_0_5120)⟩, ⟨S16x2048x2048, (extractStridedSlice S16x2048x2048 ![0, 0, 3072] d slices_S16x2048x11296_S16x2048x2048_0_0_3072)⟩] concatenates_S16x2048x4096_S16x2048x2048_S16x2048x6144_d2) shapeCasts_S16x2048x6144_S32768x6144) bitsLt_bf16_f32

/-- The second result. -/
def out1 (d : FVec Ideal S16x2048x11296 .f32) : FVec Ideal S32768x3072 .bf16 :=
  truncf .bf16 (shapeCast _ (concatenate S16x2048x3072 2 [⟨S16x2048x1024, (extractStridedSlice S16x2048x1024 ![0, 0, 2048] d slices_S16x2048x11296_S16x2048x1024_0_0_2048)⟩, ⟨S16x2048x1024, (extractStridedSlice S16x2048x1024 ![0, 0, 9248] d slices_S16x2048x11296_S16x2048x1024_0_0_9248)⟩, ⟨S16x2048x1024, (extractStridedSlice S16x2048x1024 ![0, 0, 10272] d slices_S16x2048x11296_S16x2048x1024_0_0_10272)⟩] concatenates_S16x2048x1024_S16x2048x1024_S16x2048x1024_S16x2048x3072_d2) shapeCasts_S16x2048x3072_S32768x3072) bitsLt_bf16_f32

theorem out0_at (d : FVec Ideal S16x2048x11296 .f32) (r : Fin 32768) (j : Fin 6144) :
    out0 d (ix2 r j) = d (ix3 (⟨r.val / 2048, by omega⟩ : Fin 16) (⟨r.val % 2048, by omega⟩ : Fin 2048)
      (⟨if j.val < 4096 then 5120 + j.val else 3072 + (j.val - 4096), by split <;> omega⟩ : Fin 11296)) := by
  pointwise [out0]
  split
  · rename_i h; simp only [if_pos h]
  · rename_i h; simp only [if_neg h]

theorem out1_at (d : FVec Ideal S16x2048x11296 .f32) (r : Fin 32768) (j : Fin 3072) :
    out1 d (ix2 r j) = d (ix3 (⟨r.val / 2048, by omega⟩ : Fin 16) (⟨r.val % 2048, by omega⟩ : Fin 2048)
      (⟨if j.val < 1024 then 2048 + j.val else 9248 + (j.val - 1024), by split <;> omega⟩ : Fin 11296)) := by
  pointwise [out1]
  split
  · rename_i h; simp only [if_pos h]
  · rename_i h
    split
    · simp only [if_neg h]
    · rename_i h'
      have e : 10272 + (j.val - 1024 - 1024) = 9248 + (j.val - 1024) := by omega
      simp only [if_neg h, e]

/-- The third result. -/
def out2 (d : FVec Ideal S16x2048x11296 .f32) (b : FVec Ideal S1x32 .f32) : FVec Ideal S32768x32 .f32 :=
  shapeCast _ (select (cmpf .une (subf (addf (extractStridedSlice S16x2048x32 ![0, 0, 9216] d slices_S16x2048x11296_S16x2048x32_0_0_9216) (broadcastInDim S16x2048x32 ![0, 1, 2] bcast_S1x1x32_S16x2048x32_0_1_2 (broadcastInDim S1x1x32 ![2] bcast_S32_S1x1x32_2 (shapeCast _ b shapeCasts_S1x32_S32)))) (broadcastInDim S16x2048x32 ![] bcast_S_S16x2048x32 (constant S_ .f32 0x00000000#32))) (subf (addf (extractStridedSlice S16x2048x32 ![0, 0, 9216] d slices_S16x2048x11296_S16x2048x32_0_0_9216) (broadcastInDim S16x2048x32 ![0, 1, 2] bcast_S1x1x32_S16x2048x32_0_1_2 (broadcastInDim S1x1x32 ![2] bcast_S32_S1x1x32_2 (shapeCast _ b shapeCasts_S1x32_S32)))) (broadcastInDim S16x2048x32 ![] bcast_S_S16x2048x32 (constant S_ .f32 0x00000000#32)))) (addf (addf (extractStridedSlice S16x2048x32 ![0, 0, 9216] d slices_S16x2048x11296_S16x2048x32_0_0_9216) (broadcastInDim S16x2048x32 ![0, 1, 2] bcast_S1x1x32_S16x2048x32_0_1_2 (broadcastInDim S1x1x32 ![2] bcast_S32_S1x1x32_2 (shapeCast _ b shapeCasts_S1x32_S32)))) (broadcastInDim S16x2048x32 ![] bcast_S_S16x2048x32 (constant S_ .f32 0x00000000#32))) (addf (maximumf (addf (extractStridedSlice S16x2048x32 ![0, 0, 9216] d slices_S16x2048x11296_S16x2048x32_0_0_9216) (broadcastInDim S16x2048x32 ![0, 1, 2] bcast_S1x1x32_S16x2048x32_0_1_2 (broadcastInDim S1x1x32 ![2] bcast_S32_S1x1x32_2 (shapeCast _ b shapeCasts_S1x32_S32)))) (broadcastInDim S16x2048x32 ![] bcast_S_S16x2048x32 (constant S_ .f32 0x00000000#32))) (Host.log1p (Host.exp (Host.negf (Host.absf (subf (addf (extractStridedSlice S16x2048x32 ![0, 0, 9216] d slices_S16x2048x11296_S16x2048x32_0_0_9216) (broadcastInDim S16x2048x32 ![0, 1, 2] bcast_S1x1x32_S16x2048x32_0_1_2 (broadcastInDim S1x1x32 ![2] bcast_S32_S1x1x32_2 (shapeCast _ b shapeCasts_S1x32_S32)))) (broadcastInDim S16x2048x32 ![] bcast_S_S16x2048x32 (constant S_ .f32 0x00000000#32))))))))) shapeCasts_S16x2048x32_S32768x32

theorem softplus_eq (z : EReal) : max z 0 + Ideal.log1p (Ideal.exp (-FloatOps.absf (F := Ideal) (φ := .f32) z)) = sp z := by
  unfold sp
  rw [sub_eq_add_neg, zero_add]
  rfl

theorem out2_at (d : FVec Ideal S16x2048x11296 .f32) (b : FVec Ideal S1x32 .f32) (r : Fin 32768) (j : Fin 32) :
    out2 d b (ix2 r j) = sp (d (ix3 (⟨r.val / 2048, by omega⟩ : Fin 16) (⟨r.val % 2048, by omega⟩ : Fin 2048)
      (⟨9216 + j.val, by omega⟩ : Fin 11296)) + b (ix2 0 j)) := by
  pointwise [out2]
  rw [if_neg (not_not.mpr rfl)]
  exact softplus_eq _

/-- The angles of the rotary embedding. -/
def angles (n : IVec S16x2048 32) : FVec Ideal S16x2048x32 .f32 :=
  mulf (broadcastInDim S16x2048x32 ![0, 1, 2] bcast_S16x2048x1_S16x2048x32_0_1_2 (broadcastInDim S16x2048x1 ![0, 1] bcast_S16x2048_S16x2048x1_0_1 (sitofp .f32 n))) (broadcastInDim S16x2048x32 ![0, 1, 2] bcast_S1x1x32_S16x2048x32_0_1_2 (broadcastInDim S1x1x32 ![2] bcast_S32_S1x1x32_2 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The fourth result: the queries, rotated and scaled. -/
def out3 (d : FVec Ideal S16x2048x11296 .f32) (p q : FVec Ideal S16x2048x32 .f32) : FVec Ideal S32768x1024 .bf16 :=
  truncf .bf16 (shapeCast _ (mulf (concatenate S16x2048x8x2x64 4 [⟨S16x2048x8x2x32, (subf (mulf (extractStridedSlice S16x2048x8x2x32 ![0, 0, 0, 0, 0] (shapeCast _ (extractStridedSlice S16x2048x1024 ![0, 0, 0] d slices_S16x2048x11296_S16x2048x1024_0_0_0) shapeCasts_S16x2048x1024_S16x2048x8x2x64) slices_S16x2048x8x2x64_S16x2048x8x2x32_0_0_0_0_0) (broadcastInDim S16x2048x8x2x32 ![0, 1, 2, 3, 4] bcast_S16x2048x1x1x32_S16x2048x8x2x32_0_1_2_3_4 (broadcastInDim S16x2048x1x1x32 ![0, 1, 4] bcast_S16x2048x32_S16x2048x1x1x32_0_1_4 p))) (mulf (extractStridedSlice S16x2048x8x2x32 ![0, 0, 0, 0, 32] (shapeCast _ (extractStridedSlice S16x2048x1024 ![0, 0, 0] d slices_S16x2048x11296_S16x2048x1024_0_0_0) shapeCasts_S16x2048x1024_S16x2048x8x2x64) slices_S16x2048x8x2x64_S16x2048x8x2x32_0_0_0_0_32) (broadcastInDim S16x2048x8x2x32 ![0, 1, 2, 3, 4] bcast_S16x2048x1x1x32_S16x2048x8x2x32_0_1_2_3_4 (broadcastInDim S16x2048x1x1x32 ![0, 1, 4] bcast_S16x2048x32_S16x2048x1x1x32_0_1_4 q))))⟩, ⟨S16x2048x8x2x32, (addf (mulf (extractStridedSlice S16x2048x8x2x32 ![0, 0, 0, 0, 32] (shapeCast _ (extractStridedSlice S16x2048x1024 ![0, 0, 0] d slices_S16x2048x11296_S16x2048x1024_0_0_0) shapeCasts_S16x2048x1024_S16x2048x8x2x64) slices_S16x2048x8x2x64_S16x2048x8x2x32_0_0_0_0_32) (broadcastInDim S16x2048x8x2x32 ![0, 1, 2, 3, 4] bcast_S16x2048x1x1x32_S16x2048x8x2x32_0_1_2_3_4 (broadcastInDim S16x2048x1x1x32 ![0, 1, 4] bcast_S16x2048x32_S16x2048x1x1x32_0_1_4 p))) (mulf (extractStridedSlice S16x2048x8x2x32 ![0, 0, 0, 0, 0] (shapeCast _ (extractStridedSlice S16x2048x1024 ![0, 0, 0] d slices_S16x2048x11296_S16x2048x1024_0_0_0) shapeCasts_S16x2048x1024_S16x2048x8x2x64) slices_S16x2048x8x2x64_S16x2048x8x2x32_0_0_0_0_0) (broadcastInDim S16x2048x8x2x32 ![0, 1, 2, 3, 4] bcast_S16x2048x1x1x32_S16x2048x8x2x32_0_1_2_3_4 (broadcastInDim S16x2048x1x1x32 ![0, 1, 4] bcast_S16x2048x32_S16x2048x1x1x32_0_1_4 q))))⟩] concatenates_S16x2048x8x2x32_S16x2048x8x2x32_S16x2048x8x2x64_d4) (broadcastInDim S16x2048x8x2x64 ![] bcast_S_S16x2048x8x2x64 (constant S_ .f32 0x3E38AA3B#32))) shapeCasts_S16x2048x8x2x64_S32768x1024) bitsLt_bf16_f32

/-- The fifth result: the keys, rotated. -/
def out4 (d : FVec Ideal S16x2048x11296 .f32) (p q : FVec Ideal S16x2048x32 .f32) : FVec Ideal S32768x1024 .bf16 :=
  truncf .bf16 (shapeCast _ (concatenate S16x2048x8x2x64 4 [⟨S16x2048x8x2x32, (subf (mulf (extractStridedSlice S16x2048x8x2x32 ![0, 0, 0, 0, 0] (shapeCast _ (extractStridedSlice S16x2048x1024 ![0, 0, 1024] d slices_S16x2048x11296_S16x2048x1024_0_0_1024) shapeCasts_S16x2048x1024_S16x2048x8x2x64) slices_S16x2048x8x2x64_S16x2048x8x2x32_0_0_0_0_0) (broadcastInDim S16x2048x8x2x32 ![0, 1, 2, 3, 4] bcast_S16x2048x1x1x32_S16x2048x8x2x32_0_1_2_3_4 (broadcastInDim S16x2048x1x1x32 ![0, 1, 4] bcast_S16x2048x32_S16x2048x1x1x32_0_1_4 p))) (mulf (extractStridedSlice S16x2048x8x2x32 ![0, 0, 0, 0, 32] (shapeCast _ (extractStridedSlice S16x2048x1024 ![0, 0, 1024] d slices_S16x2048x11296_S16x2048x1024_0_0_1024) shapeCasts_S16x2048x1024_S16x2048x8x2x64) slices_S16x2048x8x2x64_S16x2048x8x2x32_0_0_0_0_32) (broadcastInDim S16x2048x8x2x32 ![0, 1, 2, 3, 4] bcast_S16x2048x1x1x32_S16x2048x8x2x32_0_1_2_3_4 (broadcastInDim S16x2048x1x1x32 ![0, 1, 4] bcast_S16x2048x32_S16x2048x1x1x32_0_1_4 q))))⟩, ⟨S16x2048x8x2x32, (addf (mulf (extractStridedSlice S16x2048x8x2x32 ![0, 0, 0, 0, 32] (shapeCast _ (extractStridedSlice S16x2048x1024 ![0, 0, 1024] d slices_S16x2048x11296_S16x2048x1024_0_0_1024) shapeCasts_S16x2048x1024_S16x2048x8x2x64) slices_S16x2048x8x2x64_S16x2048x8x2x32_0_0_0_0_32) (broadcastInDim S16x2048x8x2x32 ![0, 1, 2, 3, 4] bcast_S16x2048x1x1x32_S16x2048x8x2x32_0_1_2_3_4 (broadcastInDim S16x2048x1x1x32 ![0, 1, 4] bcast_S16x2048x32_S16x2048x1x1x32_0_1_4 p))) (mulf (extractStridedSlice S16x2048x8x2x32 ![0, 0, 0, 0, 0] (shapeCast _ (extractStridedSlice S16x2048x1024 ![0, 0, 1024] d slices_S16x2048x11296_S16x2048x1024_0_0_1024) shapeCasts_S16x2048x1024_S16x2048x8x2x64) slices_S16x2048x8x2x64_S16x2048x8x2x32_0_0_0_0_0) (broadcastInDim S16x2048x8x2x32 ![0, 1, 2, 3, 4] bcast_S16x2048x1x1x32_S16x2048x8x2x32_0_1_2_3_4 (broadcastInDim S16x2048x1x1x32 ![0, 1, 4] bcast_S16x2048x32_S16x2048x1x1x32_0_1_4 q))))⟩] concatenates_S16x2048x8x2x32_S16x2048x8x2x32_S16x2048x8x2x64_d4) shapeCasts_S16x2048x8x2x64_S32768x1024) bitsLt_bf16_f32

theorem out3_at (d : FVec Ideal S16x2048x11296 .f32) (p q : FVec Ideal S16x2048x32 .f32) (r : Fin 32768) (j : Fin 1024) :
    out3 d p q (ix2 r j) = turn (fun n => d (ix3 (⟨r.val / 2048, by omega⟩ : Fin 16) (⟨r.val % 2048, by omega⟩ : Fin 2048) (⟨n.val, by omega⟩ : Fin 11296)))
      (fun i => p (ix3 (⟨r.val / 2048, by omega⟩ : Fin 16) (⟨r.val % 2048, by omega⟩ : Fin 2048) i))
      (fun i => q (ix3 (⟨r.val / 2048, by omega⟩ : Fin 16) (⟨r.val % 2048, by omega⟩ : Fin 2048) i)) j * Ideal.ofBits .f32 0x3E38AA3B#32 := by
  pointwise [out3]
  have ed : ∀ (a b : ℕ) (ha : a < 11296) (hb : b < 11296), a = b → d (ix3 (⟨r.val / 2048, by omega⟩ : Fin 16) (⟨r.val % 2048, by omega⟩ : Fin 2048) (⟨a, ha⟩ : Fin 11296)) = d (ix3 (⟨r.val / 2048, by omega⟩ : Fin 16) (⟨r.val % 2048, by omega⟩ : Fin 2048) (⟨b, hb⟩ : Fin 11296)) := by
    rintro a _ ha hb rfl; rfl
  have ep : ∀ (t : FVec Ideal S16x2048x32 .f32) (a b : ℕ) (ha : a < 32) (hb : b < 32), a = b → t (ix3 (⟨r.val / 2048, by omega⟩ : Fin 16) (⟨r.val % 2048, by omega⟩ : Fin 2048) (⟨a, ha⟩ : Fin 32)) = t (ix3 (⟨r.val / 2048, by omega⟩ : Fin 16) (⟨r.val % 2048, by omega⟩ : Fin 2048) (⟨b, hb⟩ : Fin 32)) := by
    rintro t a _ ha hb rfl; rfl
  have hj := j.isLt
  refine congrArg (· * Ideal.ofBits .f32 0x3E38AA3B#32) ?_
  unfold turn
  split
  · rename_i h
    beta_reduce
    exact congrArg₂ (· - ·) (congrArg₂ (· * ·) (ed _ _ _ _ (by omega)) (ep p _ _ _ _ (by omega))) (congrArg₂ (· * ·) (ed _ _ _ _ (by unfold mate; dsimp only; omega)) (ep q _ _ _ _ (by omega)))
  · rename_i h
    beta_reduce
    exact congrArg₂ (· + ·) (congrArg₂ (· * ·) (ed _ _ _ _ (by omega)) (ep p _ _ _ _ (by omega))) (congrArg₂ (· * ·) (ed _ _ _ _ (by unfold mate; dsimp only; omega)) (ep q _ _ _ _ (by omega)))

theorem out4_at (d : FVec Ideal S16x2048x11296 .f32) (p q : FVec Ideal S16x2048x32 .f32) (r : Fin 32768) (j : Fin 1024) :
    out4 d p q (ix2 r j) = turn (fun n => d (ix3 (⟨r.val / 2048, by omega⟩ : Fin 16) (⟨r.val % 2048, by omega⟩ : Fin 2048) (⟨1024 + n.val, by omega⟩ : Fin 11296)))
      (fun i => p (ix3 (⟨r.val / 2048, by omega⟩ : Fin 16) (⟨r.val % 2048, by omega⟩ : Fin 2048) i))
      (fun i => q (ix3 (⟨r.val / 2048, by omega⟩ : Fin 16) (⟨r.val % 2048, by omega⟩ : Fin 2048) i)) j := by
  pointwise [out4]
  have ed : ∀ (a b : ℕ) (ha : a < 11296) (hb : b < 11296), a = b → d (ix3 (⟨r.val / 2048, by omega⟩ : Fin 16) (⟨r.val % 2048, by omega⟩ : Fin 2048) (⟨a, ha⟩ : Fin 11296)) = d (ix3 (⟨r.val / 2048, by omega⟩ : Fin 16) (⟨r.val % 2048, by omega⟩ : Fin 2048) (⟨b, hb⟩ : Fin 11296)) := by
    rintro a _ ha hb rfl; rfl
  have ep : ∀ (t : FVec Ideal S16x2048x32 .f32) (a b : ℕ) (ha : a < 32) (hb : b < 32), a = b → t (ix3 (⟨r.val / 2048, by omega⟩ : Fin 16) (⟨r.val % 2048, by omega⟩ : Fin 2048) (⟨a, ha⟩ : Fin 32)) = t (ix3 (⟨r.val / 2048, by omega⟩ : Fin 16) (⟨r.val % 2048, by omega⟩ : Fin 2048) (⟨b, hb⟩ : Fin 32)) := by
    rintro t a _ ha hb rfl; rfl
  have hj := j.isLt
  unfold turn
  split
  · rename_i h
    beta_reduce
    exact congrArg₂ (· - ·) (congrArg₂ (· * ·) (ed _ _ _ _ (by omega)) (ep p _ _ _ _ (by omega))) (congrArg₂ (· * ·) (ed _ _ _ _ (by unfold mate; dsimp only; omega)) (ep q _ _ _ _ (by omega)))
  · rename_i h
    beta_reduce
    exact congrArg₂ (· + ·) (congrArg₂ (· * ·) (ed _ _ _ _ (by omega)) (ep p _ _ _ _ (by omega))) (congrArg₂ (· * ·) (ed _ _ _ _ (by unfold mate; dsimp only; omega)) (ep q _ _ _ _ (by omega)))

theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v84) = out0 (dots (m ((c.tc : Thread nD τ).loc main_arg0)) (m ((c.tc : Thread nD τ).loc main_arg2)) (m ((c.tc : Thread nD τ).loc main_arg3)))
      ∧ r.2.mem ((c.tc : Thread nD τ).loc main_v87) = out1 (dots (m ((c.tc : Thread nD τ).loc main_arg0)) (m ((c.tc : Thread nD τ).loc main_arg2)) (m ((c.tc : Thread nD τ).loc main_arg3)))
      ∧ r.2.mem ((c.tc : Thread nD τ).loc main_v88) = out2 (dots (m ((c.tc : Thread nD τ).loc main_arg0)) (m ((c.tc : Thread nD τ).loc main_arg2)) (m ((c.tc : Thread nD τ).loc main_arg3))) (m ((c.tc : Thread nD τ).loc main_arg4))
      ∧ r.2.mem ((c.tc : Thread nD τ).loc main_v90) = out3 (dots (m ((c.tc : Thread nD τ).loc main_arg0)) (m ((c.tc : Thread nD τ).loc main_arg2)) (m ((c.tc : Thread nD τ).loc main_arg3))) (Host.cos (angles (m ((c.tc : Thread nD τ).loc main_arg1)))) (Host.sin (angles (m ((c.tc : Thread nD τ).loc main_arg1))))
      ∧ r.2.mem ((c.tc : Thread nD τ).loc main_v92) = out4 (dots (m ((c.tc : Thread nD τ).loc main_arg0)) (m ((c.tc : Thread nD τ).loc main_arg2)) (m ((c.tc : Thread nD τ).loc main_arg3))) (Host.cos (angles (m ((c.tc : Thread nD τ).loc main_arg1)))) (Host.sin (angles (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.InprojRefIdeal.Value.run m ρ

end Cert.Inp.Ref

end
-- ==== Proof.Inproj.KernelValue.lean ====
/- The kernel's results at an index over the extended reals, and that they are the reference's. -/
module

public import proofs.«01_k».proof.Proof.Inproj.Arrays
public import proofs.«01_k».proof.Proof.Inproj.EntryAt
public import proofs.«01_k».proof.Proof.Inproj.RefValue

@[expose] public section

set_option maxRecDepth 16384
set_option maxHeartbeats 1000000

noncomputable section

namespace Cert.Inp

open Idealize.ShloMosaic Idealize.ShloMosaic.TcCoe Idealize.ShloMosaic.Tactic
open Cert.InprojIdeal Cert.InprojIdeal.Gen

section AnyFloat

variable {F : FTy → Type} [FloatOps F]
variable (m : (ℓ : Loc nD τ sig) → Buf (Elt F) ℓ)

theorem arr_inj : Function.Injective (Pipeline.arrRef spec0) := by
  have h : ∀ w w' : Fin 9, Pipeline.arrRef spec0 w = Pipeline.arrRef spec0 w' → w = w' := by decide
  exact fun w w' => h w w'

theorem tail_86 (c : Dev nD) : Pipeline.afterTail₀ cfgs (dats m) 0 (V0 m) [hostOps1] c main_v86
    = extractStridedSlice S32768x6144 ![0, 0] ((dats m 0 c).arrAt 7 cfg0.N : FVec F S32768x11264 .bf16) slices_S32768x11264_S32768x6144_0_0 := by
  unfold Pipeline.afterTail₀
  simp only [hostOps1, List.flatten_cons, List.flatten_nil, List.append_nil, List.cons_append, List.nil_append]
  after_results_simp
  exact congrArg (fun X : FVec F S32768x11264 .bf16 => extractStridedSlice S32768x6144 ![0, 0] X slices_S32768x11264_S32768x6144_0_0)
    (Pipeline.withArrays_arr spec0 arr_inj c (V0 m c) (fun w => (dats m 0 c).arrAt w cfg0.N) 7)

theorem tail_87 (c : Dev nD) : Pipeline.afterTail₀ cfgs (dats m) 0 (V0 m) [hostOps1] c main_v87
    = extractStridedSlice S32768x3072 ![0, 8192] ((dats m 0 c).arrAt 7 cfg0.N : FVec F S32768x11264 .bf16) slices_S32768x11264_S32768x3072_0_8192 := by
  unfold Pipeline.afterTail₀
  simp only [hostOps1, List.flatten_cons, List.flatten_nil, List.append_nil, List.cons_append, List.nil_append]
  after_results_simp
  exact congrArg (fun X : FVec F S32768x11264 .bf16 => extractStridedSlice S32768x3072 ![0, 8192] X slices_S32768x11264_S32768x3072_0_8192)
    (Pipeline.withArrays_arr spec0 arr_inj c (V0 m c) (fun w => (dats m 0 c).arrAt w cfg0.N) 7)

theorem tail_88 (c : Dev nD) : Pipeline.afterTail₀ cfgs (dats m) 0 (V0 m) [hostOps1] c main_v88
    = extractStridedSlice S32768x32 ![0, 0] ((dats m 0 c).arrAt 8 cfg0.N : FVec F S32768x128 .f32) slices_S32768x128_S32768x32_0_0 := by
  unfold Pipeline.afterTail₀
  simp only [hostOps1, List.flatten_cons, List.flatten_nil, List.append_nil, List.cons_append, List.nil_append]
  after_results_simp
  exact congrArg (fun X : FVec F S32768x128 .f32 => extractStridedSlice S32768x32 ![0, 0] X slices_S32768x128_S32768x32_0_0)
    (Pipeline.withArrays_arr spec0 arr_inj c (V0 m c) (fun w => (dats m 0 c).arrAt w cfg0.N) 8)

end AnyFloat

variable (m : (ℓ : Loc nD τ sig) → Buf (Elt Ideal) ℓ)

/-- The point whose block holds a row and a column of the projection. -/
def ptOf (r : Fin 32768) (n : Fin 11264) : Fin cfg0.N :=
  ⟨r.val / 2048 * 11 + n.val / 1024, lt_of_lt_of_eq (by omega) (show 176 = cfg0.N from N_0.symm)⟩

/-- A row of the activations. -/
def rowX (c : Dev nD) (r : Fin 32768) (k : Fin 1024) : EReal :=
  argX m c (ix3 (⟨r.val / 2048, by omega⟩ : Fin 16) (⟨r.val % 2048, by omega⟩ : Fin 2048) k)

/-- The norm's weight. -/
def rowG (c : Dev nD) (k : Fin 1024) : EReal := argG m c (ix2 0 k)

/-- A column of the weight matrix. -/
def colW (c : Dev nD) (n : Fin 11296) (k : Fin 1024) : EReal := argW m c (ix3 0 k n)

theorem row_blk (c : Dev nD) (t : Fin cfg0.N) (r : Fin 2048) (R : Fin 32768) (h : R.val = t.val / 11 * 2048 + r.val) :
    (fun k : Fin 1024 => (iblk m c 0 (base t) (ix2 r k) : EReal)) = rowX m c R := by
  funext k
  refine (blk_0 m c (base t) r k).trans ?_
  have e : (⟨(base t).val / 11 * 2048 + r.val, row_lt (base t) r⟩ : Fin 32768) = R := Fin.ext (by rw [h, ← base_row t])
  rw [e]
  exact x_at m c R k

theorem g_blk (c : Dev nD) (t : Fin cfg0.N) : (fun k : Fin 1024 => (iblk m c 1 (base t) (ix2 (0 : Fin 1) k) : EReal)) = rowG m c := by
  funext k
  exact (blk_1 m c (base t) 0 k).trans (g_at m c k)

theorem h_at (c : Dev nD) (t : Fin cfg0.N) (r : Fin 2048) (R : Fin 32768) (h : R.val = t.val / 11 * 2048 + r.val) (k : Fin 1024) :
    hAt m c t (ix2 r k) = normed (rowX m c R) (rowG m c) k := by
  unfold hAt
  refine (pay2_at _ _ r k).trans ?_
  rw [row_blk m c t r R h, g_blk]

theorem proj_at (c : Dev nD) (r : Fin 32768) (n : Fin 11264) (hn : n.val < 6144 ∨ 8192 ≤ n.val) :
    (dats m 0 c).arrAt 7 cfg0.N (ix2 r n : S32768x11264.Idx)
      = proj (rowX m c r) (rowG m c) (colW m c (⟨col n.val, col_lt' n.val n.isLt hn⟩ : Fin 11296)) := by
  have hd : (ptOf r n).val / 11 = r.val / 2048 := by simp only [ptOf]; omega
  have hm : (ptOf r n).val % 11 = n.val / 1024 := by simp only [ptOf]; omega
  have e := out_7 m c (ptOf r n) (⟨r.val % 2048, by omega⟩ : Fin 2048) (⟨n.val % 1024, by omega⟩ : Fin 1024)
  have er : (⟨(ptOf r n).val / 11 * 2048 + r.val % 2048, row_lt (ptOf r n) ⟨r.val % 2048, by omega⟩⟩ : Fin 32768) = r := Fin.ext (by simp only [hd]; omega)
  have en : (⟨(ptOf r n).val % 11 * 1024 + n.val % 1024, col_lt (ptOf r n) ⟨n.val % 1024, by omega⟩⟩ : Fin 11264) = n := Fin.ext (by simp only [hm]; omega)
  rw [er, en] at e
  rw [e]
  have hp : ¬ isRot (ptOf r n) := by unfold isRot; rw [hm]; omega
  unfold oAt
  rw [dif_neg hp]
  refine (plain_at _ _ _ _).trans ?_
  unfold proj
  refine Finset.sum_congr rfl fun k _ => ?_
  rw [h_at m c (ptOf r n) _ r (by simp only [hd]; omega) k]
  refine congrArg (normed (rowX m c r) (rowG m c) k * ·) ?_
  refine (blk_2 m c (ptOf r n) k _).trans ?_
  rw [en]
  exact w_at m c k n hn

theorem dt_at (c : Dev nD) (r : Fin 32768) (j : Fin 128) (hj : j.val < 32) :
    (dats m 0 c).arrAt 8 cfg0.N (ix2 r j : S32768x128.Idx)
      = sp (proj (rowX m c r) (rowG m c) (colW m c (⟨9216 + j.val, by omega⟩ : Fin 11296)) + argB m c (ix2 0 (⟨j.val, hj⟩ : Fin 32))) := by
  have hd : (ptOf r ⟨10240, by decide⟩).val / 11 = r.val / 2048 := by simp only [ptOf]; omega
  have hm : (ptOf r ⟨10240, by decide⟩).val % 11 = 10 := by simp only [ptOf]; omega
  have e := out_8 m c (ptOf r ⟨10240, by decide⟩) hm (⟨r.val % 2048, by omega⟩ : Fin 2048) j
  have er : (⟨(ptOf r ⟨10240, by decide⟩).val / 11 * 2048 + r.val % 2048, row_lt (ptOf r ⟨10240, by decide⟩) ⟨r.val % 2048, by omega⟩⟩ : Fin 32768) = r := Fin.ext (by simp only [hd]; omega)
  rw [er] at e
  rw [e]
  unfold dtAt
  refine (pay3_at _ _ _ _ _ _).trans ?_
  rw [row_blk m c _ _ r (by simp only [hd]; omega), g_blk]
  congr 2
  · refine congrArg (proj (rowX m c r) (rowG m c)) (funext fun k => ?_)
    exact (blk_3 m c _ k j).trans (wd_at m c k j hj)
  · exact (blk_4 m c _ 0 j).trans (bd_at m c j hj)

/-! ## The results are the reference's -/

theorem dots_row (c : Dev nD) (r : Fin 32768) (n : Fin 11296) :
    Ref.dots (argX m c) (argG m c) (argW m c) (ix3 (⟨r.val / 2048, by omega⟩ : Fin 16) (⟨r.val % 2048, by omega⟩ : Fin 2048) n)
      = proj (rowX m c r) (rowG m c) (colW m c n) := Ref.dots_at _ _ _ _ _ n

theorem ext2 {a b : ℕ} {α : Type} (f g : (⟨2, ![a, b]⟩ : Shape).Idx → α) (h : ∀ (r : Fin a) (j : Fin b), f (ix2 r j) = g (ix2 r j)) : f = g := by
  funext y
  have hy : y = ix2 (y 0) (y 1) := by funext a; fin_cases a <;> rfl
  rw [hy]; exact h _ _

theorem res_86 (c : Dev nD) : Pipeline.afterTail₀ cfgs (dats m) 0 (V0 m) [hostOps1] c main_v86 = Ref.out0 (Ref.dots (argX m c) (argG m c) (argW m c)) := by
  rw [tail_86]
  have key : ∀ (X : FVec Ideal S32768x11264 .bf16) (r : Fin 32768) (j : Fin 6144),
      extractStridedSlice S32768x6144 ![0, 0] X slices_S32768x11264_S32768x6144_0_0 (ix2 r j) = X (ix2 r (⟨j.val, by omega⟩ : Fin 11264)) := by
    intro X r j; pointwise []
  refine ext2 _ _ fun r j => ?_
  refine (key _ r j).trans ((proj_at m c r _ (Or.inl j.isLt)).trans ?_)
  refine Eq.trans ?_ (Ref.out0_at _ r j).symm
  refine Eq.trans ?_ (dots_row m c r _).symm
  refine congrArg (fun n => proj (rowX m c r) (rowG m c) (colW m c n)) (Fin.ext ?_)
  show col j.val = _
  have := j.isLt
  unfold col; dsimp only; split_ifs <;> omega

theorem res_87 (c : Dev nD) : Pipeline.afterTail₀ cfgs (dats m) 0 (V0 m) [hostOps1] c main_v87 = Ref.out1 (Ref.dots (argX m c) (argG m c) (argW m c)) := by
  rw [tail_87]
  have key : ∀ (X : FVec Ideal S32768x11264 .bf16) (r : Fin 32768) (j : Fin 3072),
      extractStridedSlice S32768x3072 ![0, 8192] X slices_S32768x11264_S32768x3072_0_8192 (ix2 r j) = X (ix2 r (⟨8192 + j.val, by omega⟩ : Fin 11264)) := by
    intro X r j; pointwise []
  refine ext2 _ _ fun r j => ?_
  refine (key _ r j).trans ((proj_at m c r _ (Or.inr (Nat.le_add_right _ _))).trans ?_)
  refine Eq.trans ?_ (Ref.out1_at _ r j).symm
  refine Eq.trans ?_ (dots_row m c r _).symm
  refine congrArg (fun n => proj (rowX m c r) (rowG m c) (colW m c n)) (Fin.ext ?_)
  show col (8192 + j.val) = _
  have := j.isLt
  unfold col; dsimp only; split_ifs <;> omega

theorem res_88 (c : Dev nD) : Pipeline.afterTail₀ cfgs (dats m) 0 (V0 m) [hostOps1] c main_v88
    = Ref.out2 (Ref.dots (argX m c) (argG m c) (argW m c)) (argB m c) := by
  rw [tail_88]
  have key : ∀ (X : FVec Ideal S32768x128 .f32) (r : Fin 32768) (j : Fin 32),
      extractStridedSlice S32768x32 ![0, 0] X slices_S32768x128_S32768x32_0_0 (ix2 r j) = X (ix2 r (⟨j.val, by omega⟩ : Fin 128)) := by
    intro X r j; pointwise []
  refine ext2 _ _ fun r j => ?_
  refine (key _ r j).trans ((dt_at m c r _ j.isLt).trans ?_)
  refine Eq.trans ?_ (Ref.out2_at _ _ r j).symm
  exact congrArg (fun z => sp (z + argB m c (ix2 0 j))) (dots_row m c r _).symm

end Cert.Inp

end
-- ==== Proof.Inproj.Cols.lean ====
/- Where the query and key columns of the weights come from: the program's index arithmetic, and the gather read at an index. -/
module

public import proofs.«01_k».proof.Proof.Gen.InprojIdeal.Frame
public import Idealize.ShloMosaic.Lib.Pointwise

@[expose] public section

set_option maxRecDepth 16384
set_option maxHeartbeats 1000000

noncomputable section

namespace Cert.Inp

open Idealize.ShloMosaic Idealize.ShloMosaic.TcCoe Idealize.ShloMosaic.Tactic Idealize.ShloMosaic.StableHlo
open Cert.InprojIdeal Cert.InprojIdeal.Gen

/-! ## The order of the columns: the program's own index arithmetic -/

/-- The remainder by `k`, with the divisor's sign. -/
def remBy (x : IVec S128 32) (k : BitVec 32) : IVec S128 32 :=
  select (andi (cmpi .ne (cmpi .slt (Host.remsi x (broadcastInDim S128 ![] bcast_S_S128 (select (cmpi .eq (constantI S_ 32 k) (constantI S_ 32 0#32)) (constantI S_ 32 1#32) (constantI S_ 32 k)))) (broadcastInDim S128 ![] bcast_S_S128 (constantI S_ 32 0#32)))
      (broadcastInDim S128 ![] bcast_S_S128 (cmpi .slt (select (cmpi .eq (constantI S_ 32 k) (constantI S_ 32 0#32)) (constantI S_ 32 1#32) (constantI S_ 32 k)) (constantI S_ 32 0#32))))
      (cmpi .ne (Host.remsi x (broadcastInDim S128 ![] bcast_S_S128 (select (cmpi .eq (constantI S_ 32 k) (constantI S_ 32 0#32)) (constantI S_ 32 1#32) (constantI S_ 32 k)))) (broadcastInDim S128 ![] bcast_S_S128 (constantI S_ 32 0#32))))
    (addi (Host.remsi x (broadcastInDim S128 ![] bcast_S_S128 (select (cmpi .eq (constantI S_ 32 k) (constantI S_ 32 0#32)) (constantI S_ 32 1#32) (constantI S_ 32 k)))) (broadcastInDim S128 ![] bcast_S_S128 (select (cmpi .eq (constantI S_ 32 k) (constantI S_ 32 0#32)) (constantI S_ 32 1#32) (constantI S_ 32 k))))
    (Host.remsi x (broadcastInDim S128 ![] bcast_S_S128 (select (cmpi .eq (constantI S_ 32 k) (constantI S_ 32 0#32)) (constantI S_ 32 1#32) (constantI S_ 32 k))))

/-- The quotient by `k`, rounded down. -/
def divBy (x : IVec S128 32) (k : BitVec 32) : IVec S128 32 :=
  select (andi (cmpi .ne (signi x) (broadcastInDim S128 ![] bcast_S_S128 (signi (constantI S_ 32 k)))) (cmpi .ne (Host.remsi x (broadcastInDim S128 ![] bcast_S_S128 (constantI S_ 32 k))) (broadcastInDim S128 ![] bcast_S_S128 (constantI S_ 32 0#32))))
    (subi (Host.divsi x (broadcastInDim S128 ![] bcast_S_S128 (constantI S_ 32 k))) (broadcastInDim S128 ![] bcast_S_S128 (constantI S_ 32 1#32)))
    (Host.divsi x (broadcastInDim S128 ![] bcast_S_S128 (constantI S_ 32 k)))

/-- Where a head's columns come from. -/
def headIx : IVec S128 32 :=
  addi (addi (muli (divBy (remBy (iotaInDim S128 32 0) 64#32) 32#32) (broadcastInDim S128 ![] bcast_S_S128 (constantI S_ 32 64#32)))
    (muli (divBy (iotaInDim S128 32 0) 64#32) (broadcastInDim S128 ![] bcast_S_S128 (constantI S_ 32 32#32)))) (remBy (iotaInDim S128 32 0) 32#32)

/-- Where the columns come from, before the wrap of negative indices. -/
def flatIx : IVec S1024 32 :=
  shapeCast S1024 (addi (broadcastInDim S8x128 ![0, 1] bcast_S8x1_S8x128_0_1 (muli (broadcastInDim S8x1 ![0] bcast_S8_S8x1_0 (iotaInDim S8 32 0)) (broadcastInDim S8x1 ![] bcast_S_S8x1 (constantI S_ 32 128#32))))
    (broadcastInDim S8x128 ![0, 1] bcast_S1x128_S8x128_0_1 (broadcastInDim S1x128 ![1] bcast_S128_S1x128_1 headIx))) shapeCasts_S8x128_S1024

/-- Where the columns come from. -/
def colIx : IVec S1024x1 32 :=
  broadcastInDim S1024x1 ![0] bcast_S1024_S1024x1_0 (select (cmpi .slt flatIx (broadcastInDim S1024 ![] bcast_S_S1024 (constantI S_ 32 0#32))) (addi flatIx (broadcastInDim S1024 ![] bcast_S_S1024 (constantI S_ 32 1024#32))) flatIx)

/-- The column with the half and the map exchanged. -/
def src (n : ℕ) : ℕ := n / 128 * 128 + n / 32 % 2 * 64 + n / 64 % 2 * 32 + n % 32

theorem src_lt (n : ℕ) (h : n < 1024) : src n < 1024 := by unfold src; omega

theorem src_parts (a b h i : ℕ) (hb : b < 2) (hh : h < 2) (hi : i < 32) : src (a * 128 + b * 64 + h * 32 + i) = a * 128 + h * 64 + b * 32 + i := by
  have e0 : (a * 128 + b * 64 + h * 32 + i) / 128 = a := by omega
  have e1 : (a * 128 + b * 64 + h * 32 + i) / 32 % 2 = h := by omega
  have e2 : (a * 128 + b * 64 + h * 32 + i) / 64 % 2 = b := by omega
  have e3 : (a * 128 + b * 64 + h * 32 + i) % 32 = i := by omega
  unfold src
  rw [e0, e1, e2, e3]

/-- A number by its block of 128, its 64, its 32 and its place there. -/
theorem parts (n : ℕ) : ∃ a b h i : ℕ, b < 2 ∧ h < 2 ∧ i < 32 ∧ n = a * 128 + b * 64 + h * 32 + i :=
  ⟨n / 128, n / 64 % 2, n / 32 % 2, n % 32, by omega, by omega, by omega, by omega⟩

theorem colIx_at : ∀ j : Fin 1024, colIx (ix2 j 0) = BitVec.ofNat 32 (src j.val) := by
  decide +kernel

theorem colIx_nat (j : Fin 1024) : (colIx (ix2 j 0)).toInt.toNat = src j.val := by
  rw [colIx_at]
  have h := src_lt j.val j.isLt
  generalize src j.val = a at h
  have e : (BitVec.ofNat 32 a).toNat = a := by rw [BitVec.toNat_ofNat]; omega
  rw [BitVec.toInt_eq_toNat_of_lt (by rw [e]; omega), e]
  rfl

section
variable {α : Type}

/-- The columns taken where the index vector says. -/
theorem gather_at (x : S1024x1024.Idx → α) (n : IVec S1024x1 32) (k j : Fin 1024) :
    Host.gather gather_S1024x1024_S1024x1_S1024x1024_0_1_n_n_1_1_10241 x n (ix2 k j) = x (ix2 k (⟨min (n (ix2 j 0)).toInt.toNat 1023, by omega⟩ : Fin 1024)) := by
  unfold Host.gather
  congr 1
  funext a
  refine Fin.ext ?_
  show GatherDims.start _ (ix2 k j) n a + GatherDims.batchCoord _ (ix2 k j) a + GatherDims.offCoord _ (ix2 k j) a = _
  rw [GatherDims.batchCoord_eq_zero _ _ _ List.not_mem_nil]
  fin_cases a
  · unfold GatherDims.start
    rw [dif_neg (by decide)]
    show 0 + 0 + _ = k.val
    rw [Nat.add_zero, Nat.zero_add]
    rfl
  · rw [GatherDims.offCoord_eq_zero _ _ _ (fun h => ((GatherDims.mem_sKept _ _).mp h).1 (by decide))]
    unfold GatherDims.start
    rw [dif_pos (by decide)]
    have hs : GatherDims.siIdx gather_S1024x1024_S1024x1_S1024x1024_0_1_n_n_1_1_10241 (ix2 k j) ⟨0, by decide⟩ = ix2 j (0 : Fin 1) := by
      funext b; refine Fin.ext ?_
      fin_cases b <;> rfl
    show min (n (GatherDims.siIdx gather_S1024x1024_S1024x1_S1024x1024_0_1_n_n_1_1_10241 (ix2 k j) ⟨0, by decide⟩)).toInt.toNat 1023 + 0 + 0 = _
    rw [hs]
    rfl

end

end Cert.Inp

end
-- ==== Proof.Inproj.EntryIx.lean ====
/- The index vectors of the query and key columns as the program computes them before the loop. -/
module

public import proofs.«01_k».proof.Proof.Inproj.Entry
public import proofs.«01_k».proof.Proof.Inproj.Cols

@[expose] public section

set_option maxRecDepth 16384
set_option maxHeartbeats 400000

noncomputable section

namespace Cert.Inp

open Idealize.ShloMosaic Idealize.ShloMosaic.TcCoe Idealize.ShloMosaic.Tactic Idealize.ShloMosaic.StableHlo
open Cert.InprojIdeal Cert.InprojIdeal.Gen

section AnyFloat

variable {F : FTy → Type} [FloatOps F]
variable (m : (ℓ : Loc nD τ sig) → Buf (Elt F) ℓ)

theorem entry_v33 (c : Dev nD) : V m c main_v33 = remBy (iotaInDim S128 32 0) 64#32 := by
  show StableHlo.after (List.flatten _) _ (Proc.devRef .tc main_v33) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v34 (c : Dev nD) : V m c main_v34 = divBy (V m c main_v33) 32#32 := by
  show StableHlo.after (List.flatten _) _ (Proc.devRef .tc main_v34) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v37 (c : Dev nD) : V m c main_v37 = divBy (iotaInDim S128 32 0) 64#32 := by
  show StableHlo.after (List.flatten _) _ (Proc.devRef .tc main_v37) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v41 (c : Dev nD) : V m c main_v41 = remBy (iotaInDim S128 32 0) 32#32 := by
  show StableHlo.after (List.flatten _) _ (Proc.devRef .tc main_v41) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v36 (c : Dev nD) : V m c main_v36 = muli (V m c main_v34) (broadcastInDim S128 ![] bcast_S_S128 (constantI S_ 32 64#32)) := by
  show StableHlo.after (List.flatten _) _ (Proc.devRef .tc main_v36) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v39 (c : Dev nD) : V m c main_v39 = muli (V m c main_v37) (broadcastInDim S128 ![] bcast_S_S128 (constantI S_ 32 32#32)) := by
  show StableHlo.after (List.flatten _) _ (Proc.devRef .tc main_v39) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v40 (c : Dev nD) : V m c main_v40 = addi (V m c main_v36) (V m c main_v39) := by
  show StableHlo.after (List.flatten _) _ (Proc.devRef .tc main_v40) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v42 (c : Dev nD) : V m c main_v42 = addi (V m c main_v40) (V m c main_v41) := by
  show StableHlo.after (List.flatten _) _ (Proc.devRef .tc main_v42) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v51 (c : Dev nD) : V m c main_v51 = shapeCast S1024 (addi (broadcastInDim S8x128 ![0, 1] bcast_S8x1_S8x128_0_1 (muli (broadcastInDim S8x1 ![0] bcast_S8_S8x1_0 (iotaInDim S8 32 0)) (broadcastInDim S8x1 ![] bcast_S_S8x1 (constantI S_ 32 128#32)))) (broadcastInDim S8x128 ![0, 1] bcast_S1x128_S8x128_0_1 (broadcastInDim S1x128 ![1] bcast_S128_S1x128_1 (V m c main_v42)))) shapeCasts_S8x128_S1024 := by
  show StableHlo.after (List.flatten _) _ (Proc.devRef .tc main_v51) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v62 (c : Dev nD) : V m c main_v62 = broadcastInDim S1024x1 ![0] bcast_S1024_S1024x1_0 (select (cmpi .slt (V m c main_v51) (broadcastInDim S1024 ![] bcast_S_S1024 (constantI S_ 32 0#32))) (addi (V m c main_v51) (broadcastInDim S1024 ![] bcast_S_S1024 (constantI S_ 32 1024#32))) (V m c main_v51)) := by
  show StableHlo.after (List.flatten _) _ (Proc.devRef .tc main_v62) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_v70 (c : Dev nD) : V m c main_v70 = broadcastInDim S1024x1 ![0] bcast_S1024_S1024x1_0 (select (cmpi .slt (V m c main_v51) (broadcastInDim S1024 ![] bcast_S_S1024 (constantI S_ 32 0#32))) (addi (V m c main_v51) (broadcastInDim S1024 ![] bcast_S_S1024 (constantI S_ 32 1024#32))) (V m c main_v51)) := by
  show StableHlo.after (List.flatten _) _ (Proc.devRef .tc main_v70) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_flat (c : Dev nD) : V m c main_v51 = flatIx := by
  rw [entry_v51, entry_v42, entry_v40, entry_v36, entry_v39, entry_v34, entry_v33, entry_v37, entry_v41]
  rfl

theorem entry_q_ix (c : Dev nD) : V m c main_v62 = colIx := by
  rw [entry_v62, entry_flat]
  rfl

theorem entry_k_ix (c : Dev nD) : V m c main_v70 = colIx := by
  rw [entry_v70, entry_flat]
  rfl

end AnyFloat

end Cert.Inp

end
-- ==== Proof.Inproj.EntryRot.lean ====
/- The angle tables and the query and key columns of the weights as the loop finds them. -/
module

public import proofs.«01_k».proof.Proof.Inproj.EntryAt
public import proofs.«01_k».proof.Proof.Inproj.EntryIx

@[expose] public section

set_option maxRecDepth 16384
set_option maxHeartbeats 1000000

noncomputable section

namespace Cert.Inp

open Idealize.ShloMosaic Idealize.ShloMosaic.TcCoe Idealize.ShloMosaic.Tactic Idealize.ShloMosaic.StableHlo
open Cert.InprojIdeal Cert.InprojIdeal.Gen

section AnyFloat

variable {F : FTy → Type} [FloatOps F]
variable (m : (ℓ : Loc nD τ sig) → Buf (Elt F) ℓ)

/-- The angles, a row per token. -/
def rowAngles (n : IVec S16x2048 32) : FVec F S32768x32 .f32 :=
  mulf (broadcastInDim S32768x32 ![0, 1] bcast_S32768x1_S32768x32_0_1 (shapeCast S32768x1 (sitofp .f32 n : FVec F S16x2048 .f32) shapeCasts_S16x2048_S32768x1))
    (broadcastInDim S32768x32 ![0, 1] bcast_S1x32_S32768x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- A row's 32 values laid out four times. -/
def four (x : FVec F S32768x32 .f32) : FVec F S32768x128 .f32 :=
  shapeCast S32768x128 (broadcastInDim S1x32768x4x32 ![0, 1, 2, 3] bcast_S1x32768x1x32_S1x32768x4x32_0_1_2_3 (shapeCast S1x32768x1x32 x shapeCasts_S32768x32_S1x32768x1x32)) shapeCasts_S1x32768x4x32_S32768x128

/-- Minus one on the first half of a head's columns, one on the second. -/
def signs : FVec F S32768x128 .f32 :=
  broadcastInDim S32768x128 ![0, 1] bcast_S1x128_S32768x128_0_1 (broadcastInDim S1x128 ![1] bcast_S128_S1x128_1 (concatenate S128 0 [⟨S64, Host.negf (broadcastInDim S64 ![] bcast_S_S64 (constant S_ .f32 0x3F800000#32))⟩, ⟨S64, broadcastInDim S64 ![] bcast_S_S64 (constant S_ .f32 0x3F800000#32)⟩] concatenates_S64_S64_S128_d0))

theorem entry_p (c : Dev nD) : V m c main_v20 = four (Host.cos (rowAngles (m ((c.tc : Thread nD τ).loc main_arg1)))) := by
  show StableHlo.after (List.flatten _) _ (Proc.devRef .tc main_v20) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_q (c : Dev nD) : V m c main_v31 = mulf (four (Host.sin (rowAngles (m ((c.tc : Thread nD τ).loc main_arg1))))) signs := by
  show StableHlo.after (List.flatten _) _ (Proc.devRef .tc main_v31) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_qk (c : Dev nD) : V m c main_v76 = truncf .bf16 (concatenate S1024x11264 1 [
    ⟨S1024x4096, extractStridedSlice S1024x4096 ![0, 5120] (wmat m c) slices_S1024x11296_S1024x4096_0_5120⟩,
    ⟨S1024x2048, extractStridedSlice S1024x2048 ![0, 3072] (wmat m c) slices_S1024x11296_S1024x2048_0_3072⟩,
    ⟨S1024x1024, Host.gather gather_S1024x1024_S1024x1_S1024x1024_0_1_n_n_1_1_10241 (extractStridedSlice S1024x1024 ![0, 0] (wmat m c) slices_S1024x11296_S1024x1024_0_0) (V m c main_v62)⟩,
    ⟨S1024x1024, Host.gather gather_S1024x1024_S1024x1_S1024x1024_0_1_n_n_1_1_10241 (extractStridedSlice S1024x1024 ![0, 1024] (wmat m c) slices_S1024x11296_S1024x1024_0_1024) (V m c main_v70)⟩,
    ⟨S1024x1024, extractStridedSlice S1024x1024 ![0, 2048] (wmat m c) slices_S1024x11296_S1024x1024_0_2048⟩,
    ⟨S1024x1024, extractStridedSlice S1024x1024 ![0, 9248] (wmat m c) slices_S1024x11296_S1024x1024_0_9248⟩,
    ⟨S1024x1024, extractStridedSlice S1024x1024 ![0, 10272] (wmat m c) slices_S1024x11296_S1024x1024_0_10272⟩] concatenates_S1024x4096_S1024x2048_S1024x1024_S1024x1024_S1024x1024_S1024x1024_S1024x1024_S1024x11264_d1) bitsLt_bf16_f32 := by
  show StableHlo.after (List.flatten _) _ (Proc.devRef .tc main_v76) = _
  simp only [V, V0, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

end AnyFloat

variable (m : (ℓ : Loc nD τ sig) → Buf (Elt Ideal) ℓ)

/-- The positions the program is launched on. -/
abbrev argP (c : Dev nD) : IVec S16x2048 32 := m ((c.tc : Thread nD τ).loc main_arg1)

theorem four_at (x : FVec Ideal S32768x32 .f32) (r : Fin 32768) (l : Fin 128) :
    four x (ix2 r l) = x (ix2 r (⟨l.val % 32, by omega⟩ : Fin 32)) := by
  pointwise [four]

theorem signs_at (r : Fin 32768) (l : Fin 128) : (signs (F := Ideal)) (ix2 r l) = if l.val < 64 then (-1 : EReal) else 1 := by
  pointwise [signs]
  rfl

theorem p_at (c : Dev nD) (r : Fin 32768) (l : Fin 128) :
    V m c main_v20 (ix2 r l) = (Host.cos (rowAngles (argP m c)) : FVec Ideal S32768x32 .f32) (ix2 r (⟨l.val % 32, by omega⟩ : Fin 32)) := by
  rw [entry_p]
  exact four_at _ r l

theorem q_at (c : Dev nD) (r : Fin 32768) (l : Fin 128) :
    V m c main_v31 (ix2 r l) = (Host.sin (rowAngles (argP m c)) : FVec Ideal S32768x32 .f32) (ix2 r (⟨l.val % 32, by omega⟩ : Fin 32)) * (if l.val < 64 then (-1 : EReal) else 1) := by
  rw [entry_q]
  exact congrArg₂ (· * ·) (four_at _ r l) (signs_at r l)

theorem taken_at (w : FVec Ideal S1024x1024 .f32) (k j : Fin 1024) :
    Host.gather gather_S1024x1024_S1024x1_S1024x1024_0_1_n_n_1_1_10241 w colIx (ix2 k j) = w (ix2 k (⟨src j.val, src_lt j.val j.isLt⟩ : Fin 1024)) := by
  refine (gather_at w colIx k j).trans (congrArg (fun z => w (ix2 k z)) (Fin.ext ?_))
  show min (colIx (ix2 j 0)).toInt.toNat 1023 = _
  have := src_lt j.val j.isLt
  rw [colIx_nat]
  exact min_eq_left (by omega)

theorem w_rot (c : Dev nD) (k j : Fin 1024) :
    V m c main_v76 (ix2 k (⟨6144 + j.val, by omega⟩ : Fin 11264)) = argW m c (ix3 0 k (⟨src j.val, by have := src_lt j.val j.isLt; omega⟩ : Fin 11296))
    ∧ V m c main_v76 (ix2 k (⟨7168 + j.val, by omega⟩ : Fin 11264)) = argW m c (ix3 0 k (⟨1024 + src j.val, by have := src_lt j.val j.isLt; omega⟩ : Fin 11296)) := by
  rw [entry_qk, entry_q_ix, entry_k_ix, ← wmat_at, ← wmat_at]
  have h0 := taken_at (extractStridedSlice S1024x1024 ![0, 0] (wmat m c) slices_S1024x11296_S1024x1024_0_0) k j
  have h1 := taken_at (extractStridedSlice S1024x1024 ![0, 1024] (wmat m c) slices_S1024x11296_S1024x1024_0_1024) k j
  revert h0 h1
  generalize Host.gather gather_S1024x1024_S1024x1_S1024x1024_0_1_n_n_1_1_10241 (extractStridedSlice S1024x1024 ![0, 0] (wmat m c) slices_S1024x11296_S1024x1024_0_0) colIx = g0
  generalize Host.gather gather_S1024x1024_S1024x1_S1024x1024_0_1_n_n_1_1_10241 (extractStridedSlice S1024x1024 ![0, 1024] (wmat m c) slices_S1024x11296_S1024x1024_0_1024) colIx = g1
  generalize wmat m c = w
  intro h0 h1
  refine ⟨Eq.trans (b := g0 (ix2 k j)) ?_ (h0.trans ?_), Eq.trans (b := g1 (ix2 k j)) ?_ (h1.trans ?_)⟩
  · pointwise []
    rw [dif_neg (by omega), dif_neg (by omega), dif_pos (by omega)]
    exact congrArg (fun z => g0 (ix2 k z)) (Fin.ext (by show 6144 + j.val - 4096 - 2048 = j.val; omega))
  · pointwise []
  · pointwise []
    rw [dif_neg (by omega), dif_neg (by omega), dif_neg (by omega), dif_pos (by omega)]
    exact congrArg (fun z => g1 (ix2 k z)) (Fin.ext (by show 7168 + j.val - 4096 - 2048 - 1024 = j.val; omega))
  · pointwise []

end Cert.Inp

end
-- ==== Proof.Inproj.Rot.lean ====
/- The block the body leaves at a rotated column tile. -/
module

public import proofs.«01_k».proof.Proof.Inproj.Payloads

@[expose] public section

set_option maxRecDepth 16384

noncomputable section

namespace Cert.Inp

open Idealize.ShloMosaic Idealize.ShloMosaic.TcCoe Idealize.ShloMosaic.Tactic
open Cert.InprojIdeal Cert.InprojIdeal.Gen

section AnyFloat

variable {F : FTy → Type} [FloatOps F]

/-- A 256-row, 128-column tile of the rotated block: the product's columns from `o` times the first table, plus the same
    columns with their halves exchanged times the second, times the scale. -/
def tile (o : ℕ) (hs : S256x1024.Slices ![0, o] S256x128) (s : F .f32) (h : Vec F S256x1024 .bf16) (w : Vec F S1024x1024 .bf16)
    (p q : Vec F S256x128 .f32) : FVec F S256x128 .bf16 :=
  truncf .bf16 (mulf (addf (mulf (extractStridedSlice S256x128 ![0, o] (k0_pay10 h w) hs) (k0_pay11 p))
      (mulf (dynamicRotate 1 64#32 none (extractStridedSlice S256x128 ![0, o] (k0_pay10 h w) hs) rotates_S256x128_d1) (k0_pay12 q)))
    (broadcast S256x128 s)) bitsLt_bf16_f32

/-- The sixty-four stores of a rotated column tile. -/
def rotPieces (s : F .f32) (w : Vec F S1024x1024 .bf16) (p q : Vec F S2048x128 .f32) (h : Vec F S2048x1024 .bf16) :
    List (View.Piece (Elt F) S2048x1024 .bf16) := [
    ⟨Rect.unit (s := S2048x1024) ![1792, 896] S256x128.size inb_S2048x1024_S256x128_1792_896, tile 896 slices_S256x1024_o0_896_S256x128 s (View.ld h (Rect.unit (s := S2048x1024) ![1792, 0] S256x1024.size inb_S2048x1024_S256x1024_1792_0)) w (View.ld p (Rect.unit (s := S2048x128) ![1792, 0] S256x128.size inb_S2048x128_S256x128_1792_0)) (View.ld q (Rect.unit (s := S2048x128) ![1792, 0] S256x128.size inb_S2048x128_S256x128_1792_0))⟩,
    ⟨Rect.unit (s := S2048x1024) ![1792, 768] S256x128.size inb_S2048x1024_S256x128_1792_768, tile 768 slices_S256x1024_o0_768_S256x128 s (View.ld h (Rect.unit (s := S2048x1024) ![1792, 0] S256x1024.size inb_S2048x1024_S256x1024_1792_0)) w (View.ld p (Rect.unit (s := S2048x128) ![1792, 0] S256x128.size inb_S2048x128_S256x128_1792_0)) (View.ld q (Rect.unit (s := S2048x128) ![1792, 0] S256x128.size inb_S2048x128_S256x128_1792_0))⟩,
    ⟨Rect.unit (s := S2048x1024) ![1792, 640] S256x128.size inb_S2048x1024_S256x128_1792_640, tile 640 slices_S256x1024_o0_640_S256x128 s (View.ld h (Rect.unit (s := S2048x1024) ![1792, 0] S256x1024.size inb_S2048x1024_S256x1024_1792_0)) w (View.ld p (Rect.unit (s := S2048x128) ![1792, 0] S256x128.size inb_S2048x128_S256x128_1792_0)) (View.ld q (Rect.unit (s := S2048x128) ![1792, 0] S256x128.size inb_S2048x128_S256x128_1792_0))⟩,
    ⟨Rect.unit (s := S2048x1024) ![1792, 512] S256x128.size inb_S2048x1024_S256x128_1792_512, tile 512 slices_S256x1024_o0_512_S256x128 s (View.ld h (Rect.unit (s := S2048x1024) ![1792, 0] S256x1024.size inb_S2048x1024_S256x1024_1792_0)) w (View.ld p (Rect.unit (s := S2048x128) ![1792, 0] S256x128.size inb_S2048x128_S256x128_1792_0)) (View.ld q (Rect.unit (s := S2048x128) ![1792, 0] S256x128.size inb_S2048x128_S256x128_1792_0))⟩,
    ⟨Rect.unit (s := S2048x1024) ![1792, 384] S256x128.size inb_S2048x1024_S256x128_1792_384, tile 384 slices_S256x1024_o0_384_S256x128 s (View.ld h (Rect.unit (s := S2048x1024) ![1792, 0] S256x1024.size inb_S2048x1024_S256x1024_1792_0)) w (View.ld p (Rect.unit (s := S2048x128) ![1792, 0] S256x128.size inb_S2048x128_S256x128_1792_0)) (View.ld q (Rect.unit (s := S2048x128) ![1792, 0] S256x128.size inb_S2048x128_S256x128_1792_0))⟩,
    ⟨Rect.unit (s := S2048x1024) ![1792, 256] S256x128.size inb_S2048x1024_S256x128_1792_256, tile 256 slices_S256x1024_o0_256_S256x128 s (View.ld h (Rect.unit (s := S2048x1024) ![1792, 0] S256x1024.size inb_S2048x1024_S256x1024_1792_0)) w (View.ld p (Rect.unit (s := S2048x128) ![1792, 0] S256x128.size inb_S2048x128_S256x128_1792_0)) (View.ld q (Rect.unit (s := S2048x128) ![1792, 0] S256x128.size inb_S2048x128_S256x128_1792_0))⟩,
    ⟨Rect.unit (s := S2048x1024) ![1792, 128] S256x128.size inb_S2048x1024_S256x128_1792_128, tile 128 slices_S256x1024_o0_128_S256x128 s (View.ld h (Rect.unit (s := S2048x1024) ![1792, 0] S256x1024.size inb_S2048x1024_S256x1024_1792_0)) w (View.ld p (Rect.unit (s := S2048x128) ![1792, 0] S256x128.size inb_S2048x128_S256x128_1792_0)) (View.ld q (Rect.unit (s := S2048x128) ![1792, 0] S256x128.size inb_S2048x128_S256x128_1792_0))⟩,
    ⟨Rect.unit (s := S2048x1024) ![1792, 0] S256x128.size inb_S2048x1024_S256x128_1792_0, tile 0 slices_S256x1024_o0_0_S256x128 s (View.ld h (Rect.unit (s := S2048x1024) ![1792, 0] S256x1024.size inb_S2048x1024_S256x1024_1792_0)) w (View.ld p (Rect.unit (s := S2048x128) ![1792, 0] S256x128.size inb_S2048x128_S256x128_1792_0)) (View.ld q (Rect.unit (s := S2048x128) ![1792, 0] S256x128.size inb_S2048x128_S256x128_1792_0))⟩,
    ⟨Rect.unit (s := S2048x1024) ![1536, 896] S256x128.size inb_S2048x1024_S256x128_1536_896, tile 896 slices_S256x1024_o0_896_S256x128 s (View.ld h (Rect.unit (s := S2048x1024) ![1536, 0] S256x1024.size inb_S2048x1024_S256x1024_1536_0)) w (View.ld p (Rect.unit (s := S2048x128) ![1536, 0] S256x128.size inb_S2048x128_S256x128_1536_0)) (View.ld q (Rect.unit (s := S2048x128) ![1536, 0] S256x128.size inb_S2048x128_S256x128_1536_0))⟩,
    ⟨Rect.unit (s := S2048x1024) ![1536, 768] S256x128.size inb_S2048x1024_S256x128_1536_768, tile 768 slices_S256x1024_o0_768_S256x128 s (View.ld h (Rect.unit (s := S2048x1024) ![1536, 0] S256x1024.size inb_S2048x1024_S256x1024_1536_0)) w (View.ld p (Rect.unit (s := S2048x128) ![1536, 0] S256x128.size inb_S2048x128_S256x128_1536_0)) (View.ld q (Rect.unit (s := S2048x128) ![1536, 0] S256x128.size inb_S2048x128_S256x128_1536_0))⟩,
    ⟨Rect.unit (s := S2048x1024) ![1536, 640] S256x128.size inb_S2048x1024_S256x128_1536_640, tile 640 slices_S256x1024_o0_640_S256x128 s (View.ld h (Rect.unit (s := S2048x1024) ![1536, 0] S256x1024.size inb_S2048x1024_S256x1024_1536_0)) w (View.ld p (Rect.unit (s := S2048x128) ![1536, 0] S256x128.size inb_S2048x128_S256x128_1536_0)) (View.ld q (Rect.unit (s := S2048x128) ![1536, 0] S256x128.size inb_S2048x128_S256x128_1536_0))⟩,
    ⟨Rect.unit (s := S2048x1024) ![1536, 512] S256x128.size inb_S2048x1024_S256x128_1536_512, tile 512 slices_S256x1024_o0_512_S256x128 s (View.ld h (Rect.unit (s := S2048x1024) ![1536, 0] S256x1024.size inb_S2048x1024_S256x1024_1536_0)) w (View.ld p (Rect.unit (s := S2048x128) ![1536, 0] S256x128.size inb_S2048x128_S256x128_1536_0)) (View.ld q (Rect.unit (s := S2048x128) ![1536, 0] S256x128.size inb_S2048x128_S256x128_1536_0))⟩,
    ⟨Rect.unit (s := S2048x1024) ![1536, 384] S256x128.size inb_S2048x1024_S256x128_1536_384, tile 384 slices_S256x1024_o0_384_S256x128 s (View.ld h (Rect.unit (s := S2048x1024) ![1536, 0] S256x1024.size inb_S2048x1024_S256x1024_1536_0)) w (View.ld p (Rect.unit (s := S2048x128) ![1536, 0] S256x128.size inb_S2048x128_S256x128_1536_0)) (View.ld q (Rect.unit (s := S2048x128) ![1536, 0] S256x128.size inb_S2048x128_S256x128_1536_0))⟩,
    ⟨Rect.unit (s := S2048x1024) ![1536, 256] S256x128.size inb_S2048x1024_S256x128_1536_256, tile 256 slices_S256x1024_o0_256_S256x128 s (View.ld h (Rect.unit (s := S2048x1024) ![1536, 0] S256x1024.size inb_S2048x1024_S256x1024_1536_0)) w (View.ld p (Rect.unit (s := S2048x128) ![1536, 0] S256x128.size inb_S2048x128_S256x128_1536_0)) (View.ld q (Rect.unit (s := S2048x128) ![1536, 0] S256x128.size inb_S2048x128_S256x128_1536_0))⟩,
    ⟨Rect.unit (s := S2048x1024) ![1536, 128] S256x128.size inb_S2048x1024_S256x128_1536_128, tile 128 slices_S256x1024_o0_128_S256x128 s (View.ld h (Rect.unit (s := S2048x1024) ![1536, 0] S256x1024.size inb_S2048x1024_S256x1024_1536_0)) w (View.ld p (Rect.unit (s := S2048x128) ![1536, 0] S256x128.size inb_S2048x128_S256x128_1536_0)) (View.ld q (Rect.unit (s := S2048x128) ![1536, 0] S256x128.size inb_S2048x128_S256x128_1536_0))⟩,
    ⟨Rect.unit (s := S2048x1024) ![1536, 0] S256x128.size inb_S2048x1024_S256x128_1536_0, tile 0 slices_S256x1024_o0_0_S256x128 s (View.ld h (Rect.unit (s := S2048x1024) ![1536, 0] S256x1024.size inb_S2048x1024_S256x1024_1536_0)) w (View.ld p (Rect.unit (s := S2048x128) ![1536, 0] S256x128.size inb_S2048x128_S256x128_1536_0)) (View.ld q (Rect.unit (s := S2048x128) ![1536, 0] S256x128.size inb_S2048x128_S256x128_1536_0))⟩,
    ⟨Rect.unit (s := S2048x1024) ![1280, 896] S256x128.size inb_S2048x1024_S256x128_1280_896, tile 896 slices_S256x1024_o0_896_S256x128 s (View.ld h (Rect.unit (s := S2048x1024) ![1280, 0] S256x1024.size inb_S2048x1024_S256x1024_1280_0)) w (View.ld p (Rect.unit (s := S2048x128) ![1280, 0] S256x128.size inb_S2048x128_S256x128_1280_0)) (View.ld q (Rect.unit (s := S2048x128) ![1280, 0] S256x128.size inb_S2048x128_S256x128_1280_0))⟩,
    ⟨Rect.unit (s := S2048x1024) ![1280, 768] S256x128.size inb_S2048x1024_S256x128_1280_768, tile 768 slices_S256x1024_o0_768_S256x128 s (View.ld h (Rect.unit (s := S2048x1024) ![1280, 0] S256x1024.size inb_S2048x1024_S256x1024_1280_0)) w (View.ld p (Rect.unit (s := S2048x128) ![1280, 0] S256x128.size inb_S2048x128_S256x128_1280_0)) (View.ld q (Rect.unit (s := S2048x128) ![1280, 0] S256x128.size inb_S2048x128_S256x128_1280_0))⟩,
    ⟨Rect.unit (s := S2048x1024) ![1280, 640] S256x128.size inb_S2048x1024_S256x128_1280_640, tile 640 slices_S256x1024_o0_640_S256x128 s (View.ld h (Rect.unit (s := S2048x1024) ![1280, 0] S256x1024.size inb_S2048x1024_S256x1024_1280_0)) w (View.ld p (Rect.unit (s := S2048x128) ![1280, 0] S256x128.size inb_S2048x128_S256x128_1280_0)) (View.ld q (Rect.unit (s := S2048x128) ![1280, 0] S256x128.size inb_S2048x128_S256x128_1280_0))⟩,
    ⟨Rect.unit (s := S2048x1024) ![1280, 512] S256x128.size inb_S2048x1024_S256x128_1280_512, tile 512 slices_S256x1024_o0_512_S256x128 s (View.ld h (Rect.unit (s := S2048x1024) ![1280, 0] S256x1024.size inb_S2048x1024_S256x1024_1280_0)) w (View.ld p (Rect.unit (s := S2048x128) ![1280, 0] S256x128.size inb_S2048x128_S256x128_1280_0)) (View.ld q (Rect.unit (s := S2048x128) ![1280, 0] S256x128.size inb_S2048x128_S256x128_1280_0))⟩,
    ⟨Rect.unit (s := S2048x1024) ![1280, 384] S256x128.size inb_S2048x1024_S256x128_1280_384, tile 384 slices_S256x1024_o0_384_S256x128 s (View.ld h (Rect.unit (s := S2048x1024) ![1280, 0] S256x1024.size inb_S2048x1024_S256x1024_1280_0)) w (View.ld p (Rect.unit (s := S2048x128) ![1280, 0] S256x128.size inb_S2048x128_S256x128_1280_0)) (View.ld q (Rect.unit (s := S2048x128) ![1280, 0] S256x128.size inb_S2048x128_S256x128_1280_0))⟩,
    ⟨Rect.unit (s := S2048x1024) ![1280, 256] S256x128.size inb_S2048x1024_S256x128_1280_256, tile 256 slices_S256x1024_o0_256_S256x128 s (View.ld h (Rect.unit (s := S2048x1024) ![1280, 0] S256x1024.size inb_S2048x1024_S256x1024_1280_0)) w (View.ld p (Rect.unit (s := S2048x128) ![1280, 0] S256x128.size inb_S2048x128_S256x128_1280_0)) (View.ld q (Rect.unit (s := S2048x128) ![1280, 0] S256x128.size inb_S2048x128_S256x128_1280_0))⟩,
    ⟨Rect.unit (s := S2048x1024) ![1280, 128] S256x128.size inb_S2048x1024_S256x128_1280_128, tile 128 slices_S256x1024_o0_128_S256x128 s (View.ld h (Rect.unit (s := S2048x1024) ![1280, 0] S256x1024.size inb_S2048x1024_S256x1024_1280_0)) w (View.ld p (Rect.unit (s := S2048x128) ![1280, 0] S256x128.size inb_S2048x128_S256x128_1280_0)) (View.ld q (Rect.unit (s := S2048x128) ![1280, 0] S256x128.size inb_S2048x128_S256x128_1280_0))⟩,
    ⟨Rect.unit (s := S2048x1024) ![1280, 0] S256x128.size inb_S2048x1024_S256x128_1280_0, tile 0 slices_S256x1024_o0_0_S256x128 s (View.ld h (Rect.unit (s := S2048x1024) ![1280, 0] S256x1024.size inb_S2048x1024_S256x1024_1280_0)) w (View.ld p (Rect.unit (s := S2048x128) ![1280, 0] S256x128.size inb_S2048x128_S256x128_1280_0)) (View.ld q (Rect.unit (s := S2048x128) ![1280, 0] S256x128.size inb_S2048x128_S256x128_1280_0))⟩,
    ⟨Rect.unit (s := S2048x1024) ![1024, 896] S256x128.size inb_S2048x1024_S256x128_1024_896, tile 896 slices_S256x1024_o0_896_S256x128 s (View.ld h (Rect.unit (s := S2048x1024) ![1024, 0] S256x1024.size inb_S2048x1024_S256x1024_1024_0)) w (View.ld p (Rect.unit (s := S2048x128) ![1024, 0] S256x128.size inb_S2048x128_S256x128_1024_0)) (View.ld q (Rect.unit (s := S2048x128) ![1024, 0] S256x128.size inb_S2048x128_S256x128_1024_0))⟩,
    ⟨Rect.unit (s := S2048x1024) ![1024, 768] S256x128.size inb_S2048x1024_S256x128_1024_768, tile 768 slices_S256x1024_o0_768_S256x128 s (View.ld h (Rect.unit (s := S2048x1024) ![1024, 0] S256x1024.size inb_S2048x1024_S256x1024_1024_0)) w (View.ld p (Rect.unit (s := S2048x128) ![1024, 0] S256x128.size inb_S2048x128_S256x128_1024_0)) (View.ld q (Rect.unit (s := S2048x128) ![1024, 0] S256x128.size inb_S2048x128_S256x128_1024_0))⟩,
    ⟨Rect.unit (s := S2048x1024) ![1024, 640] S256x128.size inb_S2048x1024_S256x128_1024_640, tile 640 slices_S256x1024_o0_640_S256x128 s (View.ld h (Rect.unit (s := S2048x1024) ![1024, 0] S256x1024.size inb_S2048x1024_S256x1024_1024_0)) w (View.ld p (Rect.unit (s := S2048x128) ![1024, 0] S256x128.size inb_S2048x128_S256x128_1024_0)) (View.ld q (Rect.unit (s := S2048x128) ![1024, 0] S256x128.size inb_S2048x128_S256x128_1024_0))⟩,
    ⟨Rect.unit (s := S2048x1024) ![1024, 512] S256x128.size inb_S2048x1024_S256x128_1024_512, tile 512 slices_S256x1024_o0_512_S256x128 s (View.ld h (Rect.unit (s := S2048x1024) ![1024, 0] S256x1024.size inb_S2048x1024_S256x1024_1024_0)) w (View.ld p (Rect.unit (s := S2048x128) ![1024, 0] S256x128.size inb_S2048x128_S256x128_1024_0)) (View.ld q (Rect.unit (s := S2048x128) ![1024, 0] S256x128.size inb_S2048x128_S256x128_1024_0))⟩,
    ⟨Rect.unit (s := S2048x1024) ![1024, 384] S256x128.size inb_S2048x1024_S256x128_1024_384, tile 384 slices_S256x1024_o0_384_S256x128 s (View.ld h (Rect.unit (s := S2048x1024) ![1024, 0] S256x1024.size inb_S2048x1024_S256x1024_1024_0)) w (View.ld p (Rect.unit (s := S2048x128) ![1024, 0] S256x128.size inb_S2048x128_S256x128_1024_0)) (View.ld q (Rect.unit (s := S2048x128) ![1024, 0] S256x128.size inb_S2048x128_S256x128_1024_0))⟩,
    ⟨Rect.unit (s := S2048x1024) ![1024, 256] S256x128.size inb_S2048x1024_S256x128_1024_256, tile 256 slices_S256x1024_o0_256_S256x128 s (View.ld h (Rect.unit (s := S2048x1024) ![1024, 0] S256x1024.size inb_S2048x1024_S256x1024_1024_0)) w (View.ld p (Rect.unit (s := S2048x128) ![1024, 0] S256x128.size inb_S2048x128_S256x128_1024_0)) (View.ld q (Rect.unit (s := S2048x128) ![1024, 0] S256x128.size inb_S2048x128_S256x128_1024_0))⟩,
    ⟨Rect.unit (s := S2048x1024) ![1024, 128] S256x128.size inb_S2048x1024_S256x128_1024_128, tile 128 slices_S256x1024_o0_128_S256x128 s (View.ld h (Rect.unit (s := S2048x1024) ![1024, 0] S256x1024.size inb_S2048x1024_S256x1024_1024_0)) w (View.ld p (Rect.unit (s := S2048x128) ![1024, 0] S256x128.size inb_S2048x128_S256x128_1024_0)) (View.ld q (Rect.unit (s := S2048x128) ![1024, 0] S256x128.size inb_S2048x128_S256x128_1024_0))⟩,
    ⟨Rect.unit (s := S2048x1024) ![1024, 0] S256x128.size inb_S2048x1024_S256x128_1024_0, tile 0 slices_S256x1024_o0_0_S256x128 s (View.ld h (Rect.unit (s := S2048x1024) ![1024, 0] S256x1024.size inb_S2048x1024_S256x1024_1024_0)) w (View.ld p (Rect.unit (s := S2048x128) ![1024, 0] S256x128.size inb_S2048x128_S256x128_1024_0)) (View.ld q (Rect.unit (s := S2048x128) ![1024, 0] S256x128.size inb_S2048x128_S256x128_1024_0))⟩,
    ⟨Rect.unit (s := S2048x1024) ![768, 896] S256x128.size inb_S2048x1024_S256x128_768_896, tile 896 slices_S256x1024_o0_896_S256x128 s (View.ld h (Rect.unit (s := S2048x1024) ![768, 0] S256x1024.size inb_S2048x1024_S256x1024_768_0)) w (View.ld p (Rect.unit (s := S2048x128) ![768, 0] S256x128.size inb_S2048x128_S256x128_768_0)) (View.ld q (Rect.unit (s := S2048x128) ![768, 0] S256x128.size inb_S2048x128_S256x128_768_0))⟩,
    ⟨Rect.unit (s := S2048x1024) ![768, 768] S256x128.size inb_S2048x1024_S256x128_768_768, tile 768 slices_S256x1024_o0_768_S256x128 s (View.ld h (Rect.unit (s := S2048x1024) ![768, 0] S256x1024.size inb_S2048x1024_S256x1024_768_0)) w (View.ld p (Rect.unit (s := S2048x128) ![768, 0] S256x128.size inb_S2048x128_S256x128_768_0)) (View.ld q (Rect.unit (s := S2048x128) ![768, 0] S256x128.size inb_S2048x128_S256x128_768_0))⟩,
    ⟨Rect.unit (s := S2048x1024) ![768, 640] S256x128.size inb_S2048x1024_S256x128_768_640, tile 640 slices_S256x1024_o0_640_S256x128 s (View.ld h (Rect.unit (s := S2048x1024) ![768, 0] S256x1024.size inb_S2048x1024_S256x1024_768_0)) w (View.ld p (Rect.unit (s := S2048x128) ![768, 0] S256x128.size inb_S2048x128_S256x128_768_0)) (View.ld q (Rect.unit (s := S2048x128) ![768, 0] S256x128.size inb_S2048x128_S256x128_768_0))⟩,
    ⟨Rect.unit (s := S2048x1024) ![768, 512] S256x128.size inb_S2048x1024_S256x128_768_512, tile 512 slices_S256x1024_o0_512_S256x128 s (View.ld h (Rect.unit (s := S2048x1024) ![768, 0] S256x1024.size inb_S2048x1024_S256x1024_768_0)) w (View.ld p (Rect.unit (s := S2048x128) ![768, 0] S256x128.size inb_S2048x128_S256x128_768_0)) (View.ld q (Rect.unit (s := S2048x128) ![768, 0] S256x128.size inb_S2048x128_S256x128_768_0))⟩,
    ⟨Rect.unit (s := S2048x1024) ![768, 384] S256x128.size inb_S2048x1024_S256x128_768_384, tile 384 slices_S256x1024_o0_384_S256x128 s (View.ld h (Rect.unit (s := S2048x1024) ![768, 0] S256x1024.size inb_S2048x1024_S256x1024_768_0)) w (View.ld p (Rect.unit (s := S2048x128) ![768, 0] S256x128.size inb_S2048x128_S256x128_768_0)) (View.ld q (Rect.unit (s := S2048x128) ![768, 0] S256x128.size inb_S2048x128_S256x128_768_0))⟩,
    ⟨Rect.unit (s := S2048x1024) ![768, 256] S256x128.size inb_S2048x1024_S256x128_768_256, tile 256 slices_S256x1024_o0_256_S256x128 s (View.ld h (Rect.unit (s := S2048x1024) ![768, 0] S256x1024.size inb_S2048x1024_S256x1024_768_0)) w (View.ld p (Rect.unit (s := S2048x128) ![768, 0] S256x128.size inb_S2048x128_S256x128_768_0)) (View.ld q (Rect.unit (s := S2048x128) ![768, 0] S256x128.size inb_S2048x128_S256x128_768_0))⟩,
    ⟨Rect.unit (s := S2048x1024) ![768, 128] S256x128.size inb_S2048x1024_S256x128_768_128, tile 128 slices_S256x1024_o0_128_S256x128 s (View.ld h (Rect.unit (s := S2048x1024) ![768, 0] S256x1024.size inb_S2048x1024_S256x1024_768_0)) w (View.ld p (Rect.unit (s := S2048x128) ![768, 0] S256x128.size inb_S2048x128_S256x128_768_0)) (View.ld q (Rect.unit (s := S2048x128) ![768, 0] S256x128.size inb_S2048x128_S256x128_768_0))⟩,
    ⟨Rect.unit (s := S2048x1024) ![768, 0] S256x128.size inb_S2048x1024_S256x128_768_0, tile 0 slices_S256x1024_o0_0_S256x128 s (View.ld h (Rect.unit (s := S2048x1024) ![768, 0] S256x1024.size inb_S2048x1024_S256x1024_768_0)) w (View.ld p (Rect.unit (s := S2048x128) ![768, 0] S256x128.size inb_S2048x128_S256x128_768_0)) (View.ld q (Rect.unit (s := S2048x128) ![768, 0] S256x128.size inb_S2048x128_S256x128_768_0))⟩,
    ⟨Rect.unit (s := S2048x1024) ![512, 896] S256x128.size inb_S2048x1024_S256x128_512_896, tile 896 slices_S256x1024_o0_896_S256x128 s (View.ld h (Rect.unit (s := S2048x1024) ![512, 0] S256x1024.size inb_S2048x1024_S256x1024_512_0)) w (View.ld p (Rect.unit (s := S2048x128) ![512, 0] S256x128.size inb_S2048x128_S256x128_512_0)) (View.ld q (Rect.unit (s := S2048x128) ![512, 0] S256x128.size inb_S2048x128_S256x128_512_0))⟩,
    ⟨Rect.unit (s := S2048x1024) ![512, 768] S256x128.size inb_S2048x1024_S256x128_512_768, tile 768 slices_S256x1024_o0_768_S256x128 s (View.ld h (Rect.unit (s := S2048x1024) ![512, 0] S256x1024.size inb_S2048x1024_S256x1024_512_0)) w (View.ld p (Rect.unit (s := S2048x128) ![512, 0] S256x128.size inb_S2048x128_S256x128_512_0)) (View.ld q (Rect.unit (s := S2048x128) ![512, 0] S256x128.size inb_S2048x128_S256x128_512_0))⟩,
    ⟨Rect.unit (s := S2048x1024) ![512, 640] S256x128.size inb_S2048x1024_S256x128_512_640, tile 640 slices_S256x1024_o0_640_S256x128 s (View.ld h (Rect.unit (s := S2048x1024) ![512, 0] S256x1024.size inb_S2048x1024_S256x1024_512_0)) w (View.ld p (Rect.unit (s := S2048x128) ![512, 0] S256x128.size inb_S2048x128_S256x128_512_0)) (View.ld q (Rect.unit (s := S2048x128) ![512, 0] S256x128.size inb_S2048x128_S256x128_512_0))⟩,
    ⟨Rect.unit (s := S2048x1024) ![512, 512] S256x128.size inb_S2048x1024_S256x128_512_512, tile 512 slices_S256x1024_o0_512_S256x128 s (View.ld h (Rect.unit (s := S2048x1024) ![512, 0] S256x1024.size inb_S2048x1024_S256x1024_512_0)) w (View.ld p (Rect.unit (s := S2048x128) ![512, 0] S256x128.size inb_S2048x128_S256x128_512_0)) (View.ld q (Rect.unit (s := S2048x128) ![512, 0] S256x128.size inb_S2048x128_S256x128_512_0))⟩,
    ⟨Rect.unit (s := S2048x1024) ![512, 384] S256x128.size inb_S2048x1024_S256x128_512_384, tile 384 slices_S256x1024_o0_384_S256x128 s (View.ld h (Rect.unit (s := S2048x1024) ![512, 0] S256x1024.size inb_S2048x1024_S256x1024_512_0)) w (View.ld p (Rect.unit (s := S2048x128) ![512, 0] S256x128.size inb_S2048x128_S256x128_512_0)) (View.ld q (Rect.unit (s := S2048x128) ![512, 0] S256x128.size inb_S2048x128_S256x128_512_0))⟩,
    ⟨Rect.unit (s := S2048x1024) ![512, 256] S256x128.size inb_S2048x1024_S256x128_512_256, tile 256 slices_S256x1024_o0_256_S256x128 s (View.ld h (Rect.unit (s := S2048x1024) ![512, 0] S256x1024.size inb_S2048x1024_S256x1024_512_0)) w (View.ld p (Rect.unit (s := S2048x128) ![512, 0] S256x128.size inb_S2048x128_S256x128_512_0)) (View.ld q (Rect.unit (s := S2048x128) ![512, 0] S256x128.size inb_S2048x128_S256x128_512_0))⟩,
    ⟨Rect.unit (s := S2048x1024) ![512, 128] S256x128.size inb_S2048x1024_S256x128_512_128, tile 128 slices_S256x1024_o0_128_S256x128 s (View.ld h (Rect.unit (s := S2048x1024) ![512, 0] S256x1024.size inb_S2048x1024_S256x1024_512_0)) w (View.ld p (Rect.unit (s := S2048x128) ![512, 0] S256x128.size inb_S2048x128_S256x128_512_0)) (View.ld q (Rect.unit (s := S2048x128) ![512, 0] S256x128.size inb_S2048x128_S256x128_512_0))⟩,
    ⟨Rect.unit (s := S2048x1024) ![512, 0] S256x128.size inb_S2048x1024_S256x128_512_0, tile 0 slices_S256x1024_o0_0_S256x128 s (View.ld h (Rect.unit (s := S2048x1024) ![512, 0] S256x1024.size inb_S2048x1024_S256x1024_512_0)) w (View.ld p (Rect.unit (s := S2048x128) ![512, 0] S256x128.size inb_S2048x128_S256x128_512_0)) (View.ld q (Rect.unit (s := S2048x128) ![512, 0] S256x128.size inb_S2048x128_S256x128_512_0))⟩,
    ⟨Rect.unit (s := S2048x1024) ![256, 896] S256x128.size inb_S2048x1024_S256x128_256_896, tile 896 slices_S256x1024_o0_896_S256x128 s (View.ld h (Rect.unit (s := S2048x1024) ![256, 0] S256x1024.size inb_S2048x1024_S256x1024_256_0)) w (View.ld p (Rect.unit (s := S2048x128) ![256, 0] S256x128.size inb_S2048x128_S256x128_256_0)) (View.ld q (Rect.unit (s := S2048x128) ![256, 0] S256x128.size inb_S2048x128_S256x128_256_0))⟩,
    ⟨Rect.unit (s := S2048x1024) ![256, 768] S256x128.size inb_S2048x1024_S256x128_256_768, tile 768 slices_S256x1024_o0_768_S256x128 s (View.ld h (Rect.unit (s := S2048x1024) ![256, 0] S256x1024.size inb_S2048x1024_S256x1024_256_0)) w (View.ld p (Rect.unit (s := S2048x128) ![256, 0] S256x128.size inb_S2048x128_S256x128_256_0)) (View.ld q (Rect.unit (s := S2048x128) ![256, 0] S256x128.size inb_S2048x128_S256x128_256_0))⟩,
    ⟨Rect.unit (s := S2048x1024) ![256, 640] S256x128.size inb_S2048x1024_S256x128_256_640, tile 640 slices_S256x1024_o0_640_S256x128 s (View.ld h (Rect.unit (s := S2048x1024) ![256, 0] S256x1024.size inb_S2048x1024_S256x1024_256_0)) w (View.ld p (Rect.unit (s := S2048x128) ![256, 0] S256x128.size inb_S2048x128_S256x128_256_0)) (View.ld q (Rect.unit (s := S2048x128) ![256, 0] S256x128.size inb_S2048x128_S256x128_256_0))⟩,
    ⟨Rect.unit (s := S2048x1024) ![256, 512] S256x128.size inb_S2048x1024_S256x128_256_512, tile 512 slices_S256x1024_o0_512_S256x128 s (View.ld h (Rect.unit (s := S2048x1024) ![256, 0] S256x1024.size inb_S2048x1024_S256x1024_256_0)) w (View.ld p (Rect.unit (s := S2048x128) ![256, 0] S256x128.size inb_S2048x128_S256x128_256_0)) (View.ld q (Rect.unit (s := S2048x128) ![256, 0] S256x128.size inb_S2048x128_S256x128_256_0))⟩,
    ⟨Rect.unit (s := S2048x1024) ![256, 384] S256x128.size inb_S2048x1024_S256x128_256_384, tile 384 slices_S256x1024_o0_384_S256x128 s (View.ld h (Rect.unit (s := S2048x1024) ![256, 0] S256x1024.size inb_S2048x1024_S256x1024_256_0)) w (View.ld p (Rect.unit (s := S2048x128) ![256, 0] S256x128.size inb_S2048x128_S256x128_256_0)) (View.ld q (Rect.unit (s := S2048x128) ![256, 0] S256x128.size inb_S2048x128_S256x128_256_0))⟩,
    ⟨Rect.unit (s := S2048x1024) ![256, 256] S256x128.size inb_S2048x1024_S256x128_256_256, tile 256 slices_S256x1024_o0_256_S256x128 s (View.ld h (Rect.unit (s := S2048x1024) ![256, 0] S256x1024.size inb_S2048x1024_S256x1024_256_0)) w (View.ld p (Rect.unit (s := S2048x128) ![256, 0] S256x128.size inb_S2048x128_S256x128_256_0)) (View.ld q (Rect.unit (s := S2048x128) ![256, 0] S256x128.size inb_S2048x128_S256x128_256_0))⟩,
    ⟨Rect.unit (s := S2048x1024) ![256, 128] S256x128.size inb_S2048x1024_S256x128_256_128, tile 128 slices_S256x1024_o0_128_S256x128 s (View.ld h (Rect.unit (s := S2048x1024) ![256, 0] S256x1024.size inb_S2048x1024_S256x1024_256_0)) w (View.ld p (Rect.unit (s := S2048x128) ![256, 0] S256x128.size inb_S2048x128_S256x128_256_0)) (View.ld q (Rect.unit (s := S2048x128) ![256, 0] S256x128.size inb_S2048x128_S256x128_256_0))⟩,
    ⟨Rect.unit (s := S2048x1024) ![256, 0] S256x128.size inb_S2048x1024_S256x128_256_0, tile 0 slices_S256x1024_o0_0_S256x128 s (View.ld h (Rect.unit (s := S2048x1024) ![256, 0] S256x1024.size inb_S2048x1024_S256x1024_256_0)) w (View.ld p (Rect.unit (s := S2048x128) ![256, 0] S256x128.size inb_S2048x128_S256x128_256_0)) (View.ld q (Rect.unit (s := S2048x128) ![256, 0] S256x128.size inb_S2048x128_S256x128_256_0))⟩,
    ⟨Rect.unit (s := S2048x1024) ![0, 896] S256x128.size inb_S2048x1024_S256x128_0_896, tile 896 slices_S256x1024_o0_896_S256x128 s (View.ld h (Rect.unit (s := S2048x1024) ![0, 0] S256x1024.size inb_S2048x1024_S256x1024_0_0)) w (View.ld p (Rect.unit (s := S2048x128) ![0, 0] S256x128.size inb_S2048x128_S256x128_0_0)) (View.ld q (Rect.unit (s := S2048x128) ![0, 0] S256x128.size inb_S2048x128_S256x128_0_0))⟩,
    ⟨Rect.unit (s := S2048x1024) ![0, 768] S256x128.size inb_S2048x1024_S256x128_0_768, tile 768 slices_S256x1024_o0_768_S256x128 s (View.ld h (Rect.unit (s := S2048x1024) ![0, 0] S256x1024.size inb_S2048x1024_S256x1024_0_0)) w (View.ld p (Rect.unit (s := S2048x128) ![0, 0] S256x128.size inb_S2048x128_S256x128_0_0)) (View.ld q (Rect.unit (s := S2048x128) ![0, 0] S256x128.size inb_S2048x128_S256x128_0_0))⟩,
    ⟨Rect.unit (s := S2048x1024) ![0, 640] S256x128.size inb_S2048x1024_S256x128_0_640, tile 640 slices_S256x1024_o0_640_S256x128 s (View.ld h (Rect.unit (s := S2048x1024) ![0, 0] S256x1024.size inb_S2048x1024_S256x1024_0_0)) w (View.ld p (Rect.unit (s := S2048x128) ![0, 0] S256x128.size inb_S2048x128_S256x128_0_0)) (View.ld q (Rect.unit (s := S2048x128) ![0, 0] S256x128.size inb_S2048x128_S256x128_0_0))⟩,
    ⟨Rect.unit (s := S2048x1024) ![0, 512] S256x128.size inb_S2048x1024_S256x128_0_512, tile 512 slices_S256x1024_o0_512_S256x128 s (View.ld h (Rect.unit (s := S2048x1024) ![0, 0] S256x1024.size inb_S2048x1024_S256x1024_0_0)) w (View.ld p (Rect.unit (s := S2048x128) ![0, 0] S256x128.size inb_S2048x128_S256x128_0_0)) (View.ld q (Rect.unit (s := S2048x128) ![0, 0] S256x128.size inb_S2048x128_S256x128_0_0))⟩,
    ⟨Rect.unit (s := S2048x1024) ![0, 384] S256x128.size inb_S2048x1024_S256x128_0_384, tile 384 slices_S256x1024_o0_384_S256x128 s (View.ld h (Rect.unit (s := S2048x1024) ![0, 0] S256x1024.size inb_S2048x1024_S256x1024_0_0)) w (View.ld p (Rect.unit (s := S2048x128) ![0, 0] S256x128.size inb_S2048x128_S256x128_0_0)) (View.ld q (Rect.unit (s := S2048x128) ![0, 0] S256x128.size inb_S2048x128_S256x128_0_0))⟩,
    ⟨Rect.unit (s := S2048x1024) ![0, 256] S256x128.size inb_S2048x1024_S256x128_0_256, tile 256 slices_S256x1024_o0_256_S256x128 s (View.ld h (Rect.unit (s := S2048x1024) ![0, 0] S256x1024.size inb_S2048x1024_S256x1024_0_0)) w (View.ld p (Rect.unit (s := S2048x128) ![0, 0] S256x128.size inb_S2048x128_S256x128_0_0)) (View.ld q (Rect.unit (s := S2048x128) ![0, 0] S256x128.size inb_S2048x128_S256x128_0_0))⟩,
    ⟨Rect.unit (s := S2048x1024) ![0, 128] S256x128.size inb_S2048x1024_S256x128_0_128, tile 128 slices_S256x1024_o0_128_S256x128 s (View.ld h (Rect.unit (s := S2048x1024) ![0, 0] S256x1024.size inb_S2048x1024_S256x1024_0_0)) w (View.ld p (Rect.unit (s := S2048x128) ![0, 0] S256x128.size inb_S2048x128_S256x128_0_0)) (View.ld q (Rect.unit (s := S2048x128) ![0, 0] S256x128.size inb_S2048x128_S256x128_0_0))⟩,
    ⟨Rect.unit (s := S2048x1024) ![0, 0] S256x128.size inb_S2048x1024_S256x128_0_0, tile 0 slices_S256x1024_o0_0_S256x128 s (View.ld h (Rect.unit (s := S2048x1024) ![0, 0] S256x1024.size inb_S2048x1024_S256x1024_0_0)) w (View.ld p (Rect.unit (s := S2048x128) ![0, 0] S256x128.size inb_S2048x128_S256x128_0_0)) (View.ld q (Rect.unit (s := S2048x128) ![0, 0] S256x128.size inb_S2048x128_S256x128_0_0))⟩]

/-- The scale the body takes at a point. -/
def scaleAt (i : grid0.Coords) : F .f32 := k0_pay9 (BitVec.ofNat 32 (i 1).val)

set_option maxHeartbeats 4000000 in
theorem runC_pieces (c : Dev nD) (i : grid0.Coords) (a2 : Memref sig .tc .vmem S2048x1024 .f32) (e2 : a2.IsWhole)
    (a3 : Memref sig .tc .vmem S1x1024 .f32) (e3 : a3.IsWhole) (a4 : Memref sig .tc .vmem S1024x1024 .bf16) (e4 : a4.IsWhole)
    (a5 : Memref sig .tc .vmem S1024x128 .bf16) (e5 : a5.IsWhole) (a6 : Memref sig .tc .vmem S1x128 .f32) (e6 : a6.IsWhole)
    (a7 : Memref sig .tc .vmem S2048x128 .f32) (e7 : a7.IsWhole) (a8 : Memref sig .tc .vmem S2048x128 .f32) (e8 : a8.IsWhole)
    (a9 : Memref sig .tc .vmem S2048x1024 .bf16) (e9 : a9.IsWhole) (a10 : Memref sig .tc .vmem S2048x128 .f32) (e10 : a10.IsWhole)
    (a11 : Memref sig .tc .vmem S2048x1024 .bf16) (e11 : a11.IsWhole)
    (n1 : ¬ k0_cond1 i = 1#1) (y2 : k0_cond2 i = 1#1) (n3 : ¬ k0_cond3 i = 1#1)
    (w : Vec F S1024x1024 .bf16) (p q : Vec F S2048x128 .f32) (h : Vec F S2048x1024 .bf16) :
    (runC c i a2 e2 a3 e3 a4 e4 a5 e5 a6 e6 a7 e7 a8 e8 a9 e9 a10 e10 a11 e11 n1 y2 n3 w p q h).1 = rotPieces (scaleAt i) w p q h := by
  dsimp only [runC]
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.r_36, runC.sl.r_37, runC.sl.r_38, runC.sl.r_39, runC.sl.r_40, runC.sl.r_41, runC.sl.r_42, runC.sl.r_43, runC.sl.r_44, runC.sl.r_45, View.readAt_eq_ld, Memref.IsWhole.read_unread]
  have ew : View.ld w (Rect.unit (s := S1024x1024) ![0, 0] S1024x1024.size inb_S1024x1024_S1024x1024_0_0) = w := View.ld_unit_lit inb_S1024x1024_S1024x1024_0_0 w (by decide)
  simp only [ew]
  rfl

end AnyFloat

theorem tile_at (o : ℕ) (hs : S256x1024.Slices ![0, o] S256x128) (s : EReal) (h : Vec Ideal S256x1024 .bf16) (w : Vec Ideal S1024x1024 .bf16)
    (p q : Vec Ideal S256x128 .f32) (r : Fin 256) (l : Fin 128) (ho : o + 128 ≤ 1024) :
    tile (F := Ideal) o hs s h w p q (ix2 r l)
      = ((∑ k : Fin 1024, h (ix2 r k) * w (ix2 k (⟨o + l.val, by omega⟩ : Fin 1024))) * p (ix2 r l)
        + (∑ k : Fin 1024, h (ix2 r k) * w (ix2 k (⟨o + (l.val + 64) % 128, by omega⟩ : Fin 1024))) * q (ix2 r l)) * s := by
  pointwise [tile, k0_pay10, k0_pay11, k0_pay12]
  have e : l.val + 128 - 64 = l.val + 64 := by omega
  simp only [e]

/-- The column a rotated column is combined with: the one 64 lanes away in its 128. -/
def other (n : ℕ) : ℕ := n / 128 * 128 + (n % 128 + 64) % 128

theorem other_lt {N : ℕ} (n : ℕ) (h : n < 128 * N) : other n < 128 * N := by unfold other; omega

theorem other_add (o l : ℕ) (ho : o % 128 = 0) (hl : l < 128) : o + (l + 64) % 128 = other (o + l) := by unfold other; omega

/-- A rotated column tile at a row and a column. -/
def rotAt (s : EReal) (h : Vec Ideal S2048x1024 .bf16) (w : Vec Ideal S1024x1024 .bf16) (p q : Vec Ideal S2048x128 .f32)
    (r : Fin 2048) (j : Fin 1024) : EReal :=
  ((∑ k : Fin 1024, h (ix2 r k) * w (ix2 k j)) * p (ix2 r (⟨j.val % 128, by omega⟩ : Fin 128))
    + (∑ k : Fin 1024, h (ix2 r k) * w (ix2 k (⟨other j.val, other_lt (N := 8) j.val j.isLt⟩ : Fin 1024))) * q (ix2 r (⟨j.val % 128, by omega⟩ : Fin 128))) * s

theorem ld_rows {n : ℕ} {φ : EltTy} (v : Vec Ideal (⟨2, ![2048, n]⟩ : Shape) φ) (R : ℕ)
    (inb : ∀ a : Fin 2, (![R, 0] : Fin 2 → ℕ) a + (![256, n] : Fin 2 → ℕ) a ≤ (⟨2, ![2048, n]⟩ : Shape).size a) (r : Fin 256) (k : Fin n)
    (r' : Fin 2048) (e : r'.val = R + r.val) :
    View.ld v (Rect.unit (s := (⟨2, ![2048, n]⟩ : Shape)) ![R, 0] ![256, n] inb) (ix2 r k) = v (ix2 r' k) := by
  refine View.ld_unit_apply_of v _ _ _ _ _ fun a => ?_
  fin_cases a
  · exact e
  · show k.val = 0 + k.val; omega

theorem tile_rows (s : EReal) (h : Vec Ideal S2048x1024 .bf16) (w : Vec Ideal S1024x1024 .bf16) (p q : Vec Ideal S2048x128 .f32)
    (R o : ℕ) (hs : S256x1024.Slices ![0, o] S256x128)
    (ih : ∀ a : Fin 2, (![R, 0] : Fin 2 → ℕ) a + S256x1024.size a ≤ S2048x1024.size a)
    (ip : ∀ a : Fin 2, (![R, 0] : Fin 2 → ℕ) a + S256x128.size a ≤ S2048x128.size a)
    (iq : ∀ a : Fin 2, (![R, 0] : Fin 2 → ℕ) a + S256x128.size a ≤ S2048x128.size a)
    (io : ∀ a : Fin 2, (![R, o] : Fin 2 → ℕ) a + S256x128.size a ≤ S2048x1024.size a)
    (ho : o % 128 = 0)
    (x : (Rect.unit (s := S2048x1024) ![R, o] S256x128.size io).shape.Idx) :
    tile (F := Ideal) o hs s (View.ld h (Rect.unit (s := S2048x1024) ![R, 0] S256x1024.size ih)) w
        (View.ld p (Rect.unit (s := S2048x128) ![R, 0] S256x128.size ip)) (View.ld q (Rect.unit (s := S2048x128) ![R, 0] S256x128.size iq)) x
      = rotAt s h w p q ((Rect.unit (s := S2048x1024) ![R, o] S256x128.size io).emb x 0) ((Rect.unit (s := S2048x1024) ![R, o] S256x128.size io).emb x 1) := by
  have hx : (x : S256x128.Idx) = ix2 (x 0 : Fin 256) (x 1 : Fin 128) := by funext a; fin_cases a <;> rfl
  have h1 : o + 128 ≤ 1024 := io 1
  have e0 : ((Rect.unit (s := S2048x1024) ![R, o] S256x128.size io).emb x 0).val = R + (x 0).val := Rect.idx_unit_val _ _ _ x 0
  have e1 : ((Rect.unit (s := S2048x1024) ![R, o] S256x128.size io).emb x 1).val = o + (x 1).val := Rect.idx_unit_val _ _ _ x 1
  generalize (Rect.unit (s := S2048x1024) ![R, o] S256x128.size io).emb x = y at e0 e1 ⊢
  have hl : (x 1).val < 128 := (x 1).isLt
  have e := tile_at o hs s (View.ld h (Rect.unit (s := S2048x1024) ![R, 0] S256x1024.size ih)) w
        (View.ld p (Rect.unit (s := S2048x128) ![R, 0] S256x128.size ip)) (View.ld q (Rect.unit (s := S2048x128) ![R, 0] S256x128.size iq)) (x 0) (x 1) h1
  refine (congrArg _ hx).trans (e.trans ?_)
  unfold rotAt
  have el : (⟨(y 1).val % 128, by omega⟩ : Fin 128) = x 1 := Fin.ext (by show (y 1).val % 128 = (x 1).val; rw [e1]; omega)
  have ec : (⟨o + (x 1).val, by omega⟩ : Fin 1024) = y 1 := Fin.ext e1.symm
  have eo : (⟨o + ((x 1).val + 64) % 128, by omega⟩ : Fin 1024) = ⟨other (y 1).val, other_lt (N := 8) _ (y 1).isLt⟩ :=
    Fin.ext ((other_add o (x 1).val ho hl).trans (congrArg other e1.symm))
  rw [el, ec, eo]
  have hh : ∀ k : Fin 1024, View.ld h (Rect.unit (s := S2048x1024) ![R, 0] S256x1024.size ih) (ix2 (x 0) k) = h (ix2 (y 0) k) :=
    fun k => ld_rows (n := 1024) h R ih (x 0) k (y 0) e0
  have hp : View.ld p (Rect.unit (s := S2048x128) ![R, 0] S256x128.size ip) (ix2 (x 0) (x 1)) = p (ix2 (y 0) (x 1)) :=
    ld_rows (n := 128) p R ip (x 0) (x 1) (y 0) e0
  have hq : View.ld q (Rect.unit (s := S2048x128) ![R, 0] S256x128.size iq) (ix2 (x 0) (x 1)) = q (ix2 (y 0) (x 1)) :=
    ld_rows (n := 128) q R iq (x 0) (x 1) (y 0) e0
  simp only [hh, hp, hq]

/-- The rotated column tile's stores cover its block. -/
theorem rotPieces_cover (s : EReal) (w : Vec Ideal S1024x1024 .bf16) (p q : Vec Ideal S2048x128 .f32) (h : Vec Ideal S2048x1024 .bf16) :
    ∀ y : S2048x1024.Idx, ∃ z ∈ rotPieces (F := Ideal) s w p q h, y ∈ z.1.set :=
  View.cover_of_tiledL _ S256x128.size (by sl_kernel_rfl)

set_option maxHeartbeats 4000000 in
theorem rot_at (s : EReal) (h : Vec Ideal S2048x1024 .bf16) (w : Vec Ideal S1024x1024 .bf16) (p q : Vec Ideal S2048x128 .f32)
    (r : Fin 2048) (j : Fin 1024) :
    View.canon (rotPieces (F := Ideal) s w p q h) (ix2 r j) = rotAt s h w p q r j := by
  refine View.canon_apply_of_pieces (fun y : S2048x1024.Idx => rotAt s h w p q (y 0) (y 1)) (rotPieces (F := Ideal) s w p q h) ?_ (ix2 r j) (rotPieces_cover s w p q h _)
  intro z hz x
  simp only [rotPieces, List.mem_cons, List.not_mem_nil, or_false] at hz
  rcases hz with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_rows s h w p q 1792 896 _ inb_S2048x1024_S256x1024_1792_0 inb_S2048x128_S256x128_1792_0 inb_S2048x128_S256x128_1792_0 inb_S2048x1024_S256x128_1792_896 (by decide) x
  · exact tile_rows s h w p q 1792 768 _ inb_S2048x1024_S256x1024_1792_0 inb_S2048x128_S256x128_1792_0 inb_S2048x128_S256x128_1792_0 inb_S2048x1024_S256x128_1792_768 (by decide) x
  · exact tile_rows s h w p q 1792 640 _ inb_S2048x1024_S256x1024_1792_0 inb_S2048x128_S256x128_1792_0 inb_S2048x128_S256x128_1792_0 inb_S2048x1024_S256x128_1792_640 (by decide) x
  · exact tile_rows s h w p q 1792 512 _ inb_S2048x1024_S256x1024_1792_0 inb_S2048x128_S256x128_1792_0 inb_S2048x128_S256x128_1792_0 inb_S2048x1024_S256x128_1792_512 (by decide) x
  · exact tile_rows s h w p q 1792 384 _ inb_S2048x1024_S256x1024_1792_0 inb_S2048x128_S256x128_1792_0 inb_S2048x128_S256x128_1792_0 inb_S2048x1024_S256x128_1792_384 (by decide) x
  · exact tile_rows s h w p q 1792 256 _ inb_S2048x1024_S256x1024_1792_0 inb_S2048x128_S256x128_1792_0 inb_S2048x128_S256x128_1792_0 inb_S2048x1024_S256x128_1792_256 (by decide) x
  · exact tile_rows s h w p q 1792 128 _ inb_S2048x1024_S256x1024_1792_0 inb_S2048x128_S256x128_1792_0 inb_S2048x128_S256x128_1792_0 inb_S2048x1024_S256x128_1792_128 (by decide) x
  · exact tile_rows s h w p q 1792 0 _ inb_S2048x1024_S256x1024_1792_0 inb_S2048x128_S256x128_1792_0 inb_S2048x128_S256x128_1792_0 inb_S2048x1024_S256x128_1792_0 (by decide) x
  · exact tile_rows s h w p q 1536 896 _ inb_S2048x1024_S256x1024_1536_0 inb_S2048x128_S256x128_1536_0 inb_S2048x128_S256x128_1536_0 inb_S2048x1024_S256x128_1536_896 (by decide) x
  · exact tile_rows s h w p q 1536 768 _ inb_S2048x1024_S256x1024_1536_0 inb_S2048x128_S256x128_1536_0 inb_S2048x128_S256x128_1536_0 inb_S2048x1024_S256x128_1536_768 (by decide) x
  · exact tile_rows s h w p q 1536 640 _ inb_S2048x1024_S256x1024_1536_0 inb_S2048x128_S256x128_1536_0 inb_S2048x128_S256x128_1536_0 inb_S2048x1024_S256x128_1536_640 (by decide) x
  · exact tile_rows s h w p q 1536 512 _ inb_S2048x1024_S256x1024_1536_0 inb_S2048x128_S256x128_1536_0 inb_S2048x128_S256x128_1536_0 inb_S2048x1024_S256x128_1536_512 (by decide) x
  · exact tile_rows s h w p q 1536 384 _ inb_S2048x1024_S256x1024_1536_0 inb_S2048x128_S256x128_1536_0 inb_S2048x128_S256x128_1536_0 inb_S2048x1024_S256x128_1536_384 (by decide) x
  · exact tile_rows s h w p q 1536 256 _ inb_S2048x1024_S256x1024_1536_0 inb_S2048x128_S256x128_1536_0 inb_S2048x128_S256x128_1536_0 inb_S2048x1024_S256x128_1536_256 (by decide) x
  · exact tile_rows s h w p q 1536 128 _ inb_S2048x1024_S256x1024_1536_0 inb_S2048x128_S256x128_1536_0 inb_S2048x128_S256x128_1536_0 inb_S2048x1024_S256x128_1536_128 (by decide) x
  · exact tile_rows s h w p q 1536 0 _ inb_S2048x1024_S256x1024_1536_0 inb_S2048x128_S256x128_1536_0 inb_S2048x128_S256x128_1536_0 inb_S2048x1024_S256x128_1536_0 (by decide) x
  · exact tile_rows s h w p q 1280 896 _ inb_S2048x1024_S256x1024_1280_0 inb_S2048x128_S256x128_1280_0 inb_S2048x128_S256x128_1280_0 inb_S2048x1024_S256x128_1280_896 (by decide) x
  · exact tile_rows s h w p q 1280 768 _ inb_S2048x1024_S256x1024_1280_0 inb_S2048x128_S256x128_1280_0 inb_S2048x128_S256x128_1280_0 inb_S2048x1024_S256x128_1280_768 (by decide) x
  · exact tile_rows s h w p q 1280 640 _ inb_S2048x1024_S256x1024_1280_0 inb_S2048x128_S256x128_1280_0 inb_S2048x128_S256x128_1280_0 inb_S2048x1024_S256x128_1280_640 (by decide) x
  · exact tile_rows s h w p q 1280 512 _ inb_S2048x1024_S256x1024_1280_0 inb_S2048x128_S256x128_1280_0 inb_S2048x128_S256x128_1280_0 inb_S2048x1024_S256x128_1280_512 (by decide) x
  · exact tile_rows s h w p q 1280 384 _ inb_S2048x1024_S256x1024_1280_0 inb_S2048x128_S256x128_1280_0 inb_S2048x128_S256x128_1280_0 inb_S2048x1024_S256x128_1280_384 (by decide) x
  · exact tile_rows s h w p q 1280 256 _ inb_S2048x1024_S256x1024_1280_0 inb_S2048x128_S256x128_1280_0 inb_S2048x128_S256x128_1280_0 inb_S2048x1024_S256x128_1280_256 (by decide) x
  · exact tile_rows s h w p q 1280 128 _ inb_S2048x1024_S256x1024_1280_0 inb_S2048x128_S256x128_1280_0 inb_S2048x128_S256x128_1280_0 inb_S2048x1024_S256x128_1280_128 (by decide) x
  · exact tile_rows s h w p q 1280 0 _ inb_S2048x1024_S256x1024_1280_0 inb_S2048x128_S256x128_1280_0 inb_S2048x128_S256x128_1280_0 inb_S2048x1024_S256x128_1280_0 (by decide) x
  · exact tile_rows s h w p q 1024 896 _ inb_S2048x1024_S256x1024_1024_0 inb_S2048x128_S256x128_1024_0 inb_S2048x128_S256x128_1024_0 inb_S2048x1024_S256x128_1024_896 (by decide) x
  · exact tile_rows s h w p q 1024 768 _ inb_S2048x1024_S256x1024_1024_0 inb_S2048x128_S256x128_1024_0 inb_S2048x128_S256x128_1024_0 inb_S2048x1024_S256x128_1024_768 (by decide) x
  · exact tile_rows s h w p q 1024 640 _ inb_S2048x1024_S256x1024_1024_0 inb_S2048x128_S256x128_1024_0 inb_S2048x128_S256x128_1024_0 inb_S2048x1024_S256x128_1024_640 (by decide) x
  · exact tile_rows s h w p q 1024 512 _ inb_S2048x1024_S256x1024_1024_0 inb_S2048x128_S256x128_1024_0 inb_S2048x128_S256x128_1024_0 inb_S2048x1024_S256x128_1024_512 (by decide) x
  · exact tile_rows s h w p q 1024 384 _ inb_S2048x1024_S256x1024_1024_0 inb_S2048x128_S256x128_1024_0 inb_S2048x128_S256x128_1024_0 inb_S2048x1024_S256x128_1024_384 (by decide) x
  · exact tile_rows s h w p q 1024 256 _ inb_S2048x1024_S256x1024_1024_0 inb_S2048x128_S256x128_1024_0 inb_S2048x128_S256x128_1024_0 inb_S2048x1024_S256x128_1024_256 (by decide) x
  · exact tile_rows s h w p q 1024 128 _ inb_S2048x1024_S256x1024_1024_0 inb_S2048x128_S256x128_1024_0 inb_S2048x128_S256x128_1024_0 inb_S2048x1024_S256x128_1024_128 (by decide) x
  · exact tile_rows s h w p q 1024 0 _ inb_S2048x1024_S256x1024_1024_0 inb_S2048x128_S256x128_1024_0 inb_S2048x128_S256x128_1024_0 inb_S2048x1024_S256x128_1024_0 (by decide) x
  · exact tile_rows s h w p q 768 896 _ inb_S2048x1024_S256x1024_768_0 inb_S2048x128_S256x128_768_0 inb_S2048x128_S256x128_768_0 inb_S2048x1024_S256x128_768_896 (by decide) x
  · exact tile_rows s h w p q 768 768 _ inb_S2048x1024_S256x1024_768_0 inb_S2048x128_S256x128_768_0 inb_S2048x128_S256x128_768_0 inb_S2048x1024_S256x128_768_768 (by decide) x
  · exact tile_rows s h w p q 768 640 _ inb_S2048x1024_S256x1024_768_0 inb_S2048x128_S256x128_768_0 inb_S2048x128_S256x128_768_0 inb_S2048x1024_S256x128_768_640 (by decide) x
  · exact tile_rows s h w p q 768 512 _ inb_S2048x1024_S256x1024_768_0 inb_S2048x128_S256x128_768_0 inb_S2048x128_S256x128_768_0 inb_S2048x1024_S256x128_768_512 (by decide) x
  · exact tile_rows s h w p q 768 384 _ inb_S2048x1024_S256x1024_768_0 inb_S2048x128_S256x128_768_0 inb_S2048x128_S256x128_768_0 inb_S2048x1024_S256x128_768_384 (by decide) x
  · exact tile_rows s h w p q 768 256 _ inb_S2048x1024_S256x1024_768_0 inb_S2048x128_S256x128_768_0 inb_S2048x128_S256x128_768_0 inb_S2048x1024_S256x128_768_256 (by decide) x
  · exact tile_rows s h w p q 768 128 _ inb_S2048x1024_S256x1024_768_0 inb_S2048x128_S256x128_768_0 inb_S2048x128_S256x128_768_0 inb_S2048x1024_S256x128_768_128 (by decide) x
  · exact tile_rows s h w p q 768 0 _ inb_S2048x1024_S256x1024_768_0 inb_S2048x128_S256x128_768_0 inb_S2048x128_S256x128_768_0 inb_S2048x1024_S256x128_768_0 (by decide) x
  · exact tile_rows s h w p q 512 896 _ inb_S2048x1024_S256x1024_512_0 inb_S2048x128_S256x128_512_0 inb_S2048x128_S256x128_512_0 inb_S2048x1024_S256x128_512_896 (by decide) x
  · exact tile_rows s h w p q 512 768 _ inb_S2048x1024_S256x1024_512_0 inb_S2048x128_S256x128_512_0 inb_S2048x128_S256x128_512_0 inb_S2048x1024_S256x128_512_768 (by decide) x
  · exact tile_rows s h w p q 512 640 _ inb_S2048x1024_S256x1024_512_0 inb_S2048x128_S256x128_512_0 inb_S2048x128_S256x128_512_0 inb_S2048x1024_S256x128_512_640 (by decide) x
  · exact tile_rows s h w p q 512 512 _ inb_S2048x1024_S256x1024_512_0 inb_S2048x128_S256x128_512_0 inb_S2048x128_S256x128_512_0 inb_S2048x1024_S256x128_512_512 (by decide) x
  · exact tile_rows s h w p q 512 384 _ inb_S2048x1024_S256x1024_512_0 inb_S2048x128_S256x128_512_0 inb_S2048x128_S256x128_512_0 inb_S2048x1024_S256x128_512_384 (by decide) x
  · exact tile_rows s h w p q 512 256 _ inb_S2048x1024_S256x1024_512_0 inb_S2048x128_S256x128_512_0 inb_S2048x128_S256x128_512_0 inb_S2048x1024_S256x128_512_256 (by decide) x
  · exact tile_rows s h w p q 512 128 _ inb_S2048x1024_S256x1024_512_0 inb_S2048x128_S256x128_512_0 inb_S2048x128_S256x128_512_0 inb_S2048x1024_S256x128_512_128 (by decide) x
  · exact tile_rows s h w p q 512 0 _ inb_S2048x1024_S256x1024_512_0 inb_S2048x128_S256x128_512_0 inb_S2048x128_S256x128_512_0 inb_S2048x1024_S256x128_512_0 (by decide) x
  · exact tile_rows s h w p q 256 896 _ inb_S2048x1024_S256x1024_256_0 inb_S2048x128_S256x128_256_0 inb_S2048x128_S256x128_256_0 inb_S2048x1024_S256x128_256_896 (by decide) x
  · exact tile_rows s h w p q 256 768 _ inb_S2048x1024_S256x1024_256_0 inb_S2048x128_S256x128_256_0 inb_S2048x128_S256x128_256_0 inb_S2048x1024_S256x128_256_768 (by decide) x
  · exact tile_rows s h w p q 256 640 _ inb_S2048x1024_S256x1024_256_0 inb_S2048x128_S256x128_256_0 inb_S2048x128_S256x128_256_0 inb_S2048x1024_S256x128_256_640 (by decide) x
  · exact tile_rows s h w p q 256 512 _ inb_S2048x1024_S256x1024_256_0 inb_S2048x128_S256x128_256_0 inb_S2048x128_S256x128_256_0 inb_S2048x1024_S256x128_256_512 (by decide) x
  · exact tile_rows s h w p q 256 384 _ inb_S2048x1024_S256x1024_256_0 inb_S2048x128_S256x128_256_0 inb_S2048x128_S256x128_256_0 inb_S2048x1024_S256x128_256_384 (by decide) x
  · exact tile_rows s h w p q 256 256 _ inb_S2048x1024_S256x1024_256_0 inb_S2048x128_S256x128_256_0 inb_S2048x128_S256x128_256_0 inb_S2048x1024_S256x128_256_256 (by decide) x
  · exact tile_rows s h w p q 256 128 _ inb_S2048x1024_S256x1024_256_0 inb_S2048x128_S256x128_256_0 inb_S2048x128_S256x128_256_0 inb_S2048x1024_S256x128_256_128 (by decide) x
  · exact tile_rows s h w p q 256 0 _ inb_S2048x1024_S256x1024_256_0 inb_S2048x128_S256x128_256_0 inb_S2048x128_S256x128_256_0 inb_S2048x1024_S256x128_256_0 (by decide) x
  · exact tile_rows s h w p q 0 896 _ inb_S2048x1024_S256x1024_0_0 inb_S2048x128_S256x128_0_0 inb_S2048x128_S256x128_0_0 inb_S2048x1024_S256x128_0_896 (by decide) x
  · exact tile_rows s h w p q 0 768 _ inb_S2048x1024_S256x1024_0_0 inb_S2048x128_S256x128_0_0 inb_S2048x128_S256x128_0_0 inb_S2048x1024_S256x128_0_768 (by decide) x
  · exact tile_rows s h w p q 0 640 _ inb_S2048x1024_S256x1024_0_0 inb_S2048x128_S256x128_0_0 inb_S2048x128_S256x128_0_0 inb_S2048x1024_S256x128_0_640 (by decide) x
  · exact tile_rows s h w p q 0 512 _ inb_S2048x1024_S256x1024_0_0 inb_S2048x128_S256x128_0_0 inb_S2048x128_S256x128_0_0 inb_S2048x1024_S256x128_0_512 (by decide) x
  · exact tile_rows s h w p q 0 384 _ inb_S2048x1024_S256x1024_0_0 inb_S2048x128_S256x128_0_0 inb_S2048x128_S256x128_0_0 inb_S2048x1024_S256x128_0_384 (by decide) x
  · exact tile_rows s h w p q 0 256 _ inb_S2048x1024_S256x1024_0_0 inb_S2048x128_S256x128_0_0 inb_S2048x128_S256x128_0_0 inb_S2048x1024_S256x128_0_256 (by decide) x
  · exact tile_rows s h w p q 0 128 _ inb_S2048x1024_S256x1024_0_0 inb_S2048x128_S256x128_0_0 inb_S2048x128_S256x128_0_0 inb_S2048x1024_S256x128_0_128 (by decide) x
  · exact tile_rows s h w p q 0 0 _ inb_S2048x1024_S256x1024_0_0 inb_S2048x128_S256x128_0_0 inb_S2048x128_S256x128_0_0 inb_S2048x1024_S256x128_0_0 (by decide) x

end Cert.Inp

end
-- ==== Proof.Inproj.KernelRot.lean ====
/- The kernel's rotated results at an index over the extended reals, and that they are the reference's. -/
module

public import proofs.«01_k».proof.Proof.Inproj.KernelValue
public import proofs.«01_k».proof.Proof.Inproj.EntryRot
public import proofs.«01_k».proof.Proof.Inproj.Rot

@[expose] public section

set_option maxRecDepth 16384
set_option maxHeartbeats 1000000

noncomputable section

namespace Cert.Inp

open Idealize.ShloMosaic Idealize.ShloMosaic.TcCoe Idealize.ShloMosaic.Tactic
open Cert.InprojIdeal Cert.InprojIdeal.Gen

section AnyFloat

variable {F : FTy → Type} [FloatOps F]
variable (m : (ℓ : Loc nD τ sig) → Buf (Elt F) ℓ)

/-- A block of 1024 columns of the projection with each head's halves and maps exchanged, as the program reads it after the loop. -/
def heads (x : FVec F S32768x1024 .bf16) : FVec F S32768x1024 .bf16 :=
  shapeCast S32768x1024 (transpose S32768x8x2x2x32 [0, 1, 3, 2, 4] (shapeCast S32768x8x2x2x32 x shapeCasts_S32768x1024_S32768x8x2x2x32) transposes_S32768x8x2x2x32_S32768x8x2x2x32_0_1_3_2_4) shapeCasts_S32768x8x2x2x32_S32768x1024

theorem tail_92 (c : Dev nD) : Pipeline.afterTail₀ cfgs (dats m) 0 (V0 m) [hostOps1] c main_v92
    = heads (extractStridedSlice S32768x1024 ![0, 6144] ((dats m 0 c).arrAt 7 cfg0.N : FVec F S32768x11264 .bf16) slices_S32768x11264_S32768x1024_0_6144) := by
  unfold Pipeline.afterTail₀
  simp only [hostOps1, List.flatten_cons, List.flatten_nil, List.append_nil, List.cons_append, List.nil_append]
  after_results_simp
  exact congrArg (fun X : FVec F S32768x11264 .bf16 => heads (extractStridedSlice S32768x1024 ![0, 6144] X slices_S32768x11264_S32768x1024_0_6144))
    (Pipeline.withArrays_arr spec0 arr_inj c (V0 m c) (fun w => (dats m 0 c).arrAt w cfg0.N) 7)

theorem tail_96 (c : Dev nD) : Pipeline.afterTail₀ cfgs (dats m) 0 (V0 m) [hostOps1] c main_v96
    = heads (extractStridedSlice S32768x1024 ![0, 7168] ((dats m 0 c).arrAt 7 cfg0.N : FVec F S32768x11264 .bf16) slices_S32768x11264_S32768x1024_0_7168) := by
  unfold Pipeline.afterTail₀
  simp only [hostOps1, List.flatten_cons, List.flatten_nil, List.append_nil, List.cons_append, List.nil_append]
  after_results_simp
  exact congrArg (fun X : FVec F S32768x11264 .bf16 => heads (extractStridedSlice S32768x1024 ![0, 7168] X slices_S32768x11264_S32768x1024_0_7168))
    (Pipeline.withArrays_arr spec0 arr_inj c (V0 m c) (fun w => (dats m 0 c).arrAt w cfg0.N) 7)

end AnyFloat

variable (m : (ℓ : Loc nD τ sig) → Buf (Elt Ideal) ℓ)

theorem coord_1 : ∀ t : Fin cfg0.N, (grid0.coords t 1).val = t.val % 11 :=
  (by decide +kernel : ∀ t : Fin grid0.N, (grid0.coords t 1).val = t.val % 11)

/-- The scale of the query columns, and of the key columns. -/
theorem scale_q (t : Fin cfg0.N) (h : t.val % 11 = 6) : (scaleAt (F := Ideal) (grid0.coords t) : EReal) = Ideal.ofBits .f32 0x3E38AA3B#32 := by
  unfold scaleAt
  rw [coord_1, h]
  rfl

theorem scale_k (t : Fin cfg0.N) (h : t.val % 11 = 7) : (scaleAt (F := Ideal) (grid0.coords t) : EReal) = 1 := by
  unfold scaleAt
  rw [coord_1, h]
  exact Idealize.ShloMosaic.Ideal.ofBits_one_f32

/-- A row's cosines and sines. -/
def rowCos (c : Dev nD) (r : Fin 32768) (i : Fin 32) : EReal := (Host.cos (rowAngles (argP m c)) : FVec Ideal S32768x32 .f32) (ix2 r i)
def rowSin (c : Dev nD) (r : Fin 32768) (i : Fin 32) : EReal := (Host.sin (rowAngles (argP m c)) : FVec Ideal S32768x32 .f32) (ix2 r i)

theorem src_src (j : ℕ) : src (src j) = j := by
  obtain ⟨a, b, h, i, hb, hh, hi, rfl⟩ := parts j
  rw [src_parts a b h i hb hh hi, src_parts a h b i hh hb hi]

theorem src_other (j : ℕ) : src (other j) = Ref.mate (src j) := by
  obtain ⟨a, b, h, i, hb, hh, hi, rfl⟩ := parts j
  have e : other (a * 128 + b * 64 + h * 32 + i) = a * 128 + (1 - b) * 64 + h * 32 + i := by unfold other; omega
  rw [e, src_parts a (1 - b) h i (by omega) hh hi, src_parts a b h i hb hh hi]
  unfold Ref.mate
  omega

theorem src_low (j : ℕ) : src j % 32 = j % 32 := by
  obtain ⟨a, b, h, i, hb, hh, hi, rfl⟩ := parts j
  rw [src_parts a b h i hb hh hi]; omega

theorem src_half (j : ℕ) : j % 128 < 64 ↔ src j % 64 < 32 := by
  obtain ⟨a, b, h, i, hb, hh, hi, rfl⟩ := parts j
  rw [src_parts a b h i hb hh hi]; omega

/-- The sum a rotated column of the kernel is made of, when the weights' block holds the columns that start at `o`. -/
theorem sum_at (c : Dev nD) (t : Fin cfg0.N) (o : ℕ) (ho : o + 1024 ≤ 11296) (hw : ∀ k j : Fin 1024, (iblk m c 2 t (ix2 k j) : EReal) = argW m c (ix3 0 k (⟨o + src j.val, by have := src_lt j.val j.isLt; omega⟩ : Fin 11296)))
    (r : Fin 2048) (R : Fin 32768) (h : R.val = t.val / 11 * 2048 + r.val) (j : Fin 1024) :
    (∑ k : Fin 1024, (hAt m c t (ix2 r k) : EReal) * (iblk m c 2 t (ix2 k j) : EReal))
      = proj (rowX m c R) (rowG m c) (colW m c (⟨o + src j.val, by have := src_lt j.val j.isLt; omega⟩ : Fin 11296)) := by
  unfold proj
  refine Finset.sum_congr rfl fun k _ => ?_
  rw [h_at m c t r R h k, hw k j]
  rfl

theorem rotated_at (c : Dev nD) (t : Fin cfg0.N) (hr : isRot t) (o : ℕ) (ho : o + 1024 ≤ 11296) (hw : ∀ k j : Fin 1024, (iblk m c 2 t (ix2 k j) : EReal) = argW m c (ix3 0 k (⟨o + src j.val, by have := src_lt j.val j.isLt; omega⟩ : Fin 11296)))
    (r : Fin 2048) (R : Fin 32768) (h : R.val = t.val / 11 * 2048 + r.val) (j : Fin 1024) :
    (oAt m c t (ix2 r j) : EReal) = Ref.turn (fun n => proj (rowX m c R) (rowG m c) (colW m c (⟨o + n.val, by omega⟩ : Fin 11296))) (rowCos m c R) (rowSin m c R) (⟨src j.val, src_lt j.val j.isLt⟩ : Fin 1024) * scaleAt (F := Ideal) (grid0.coords t) := by
  unfold oAt
  rw [dif_pos hr, runC_pieces]
  refine (rot_at _ _ _ _ _ r j).trans ?_
  unfold rotAt
  refine congrArg (· * (scaleAt (F := Ideal) (grid0.coords t) : EReal)) ?_
  rw [sum_at m c t o ho hw r R h j, sum_at m c t o ho hw r R h (⟨other j.val, other_lt (N := 8) j.val j.isLt⟩ : Fin 1024)]
  have eR : (⟨t.val / 11 * 2048 + r.val, row_lt t r⟩ : Fin 32768) = R := Fin.ext h.symm
  have ep : (iblk m c 5 t (ix2 r (⟨j.val % 128, by omega⟩ : Fin 128)) : EReal) = rowCos m c R (⟨src j.val % 32, by omega⟩ : Fin 32) := by
    refine (blk_5 m c t r _).trans ?_
    rw [eR]
    refine (p_at m c R _).trans ?_
    exact congrArg (rowCos m c R) (Fin.ext (by show j.val % 128 % 32 = src j.val % 32; rw [src_low]; omega))
  have eq : (iblk m c 6 t (ix2 r (⟨j.val % 128, by omega⟩ : Fin 128)) : EReal) = rowSin m c R (⟨src j.val % 32, by omega⟩ : Fin 32) * (if src j.val % 64 < 32 then (-1 : EReal) else 1) := by
    refine (blk_6 m c t r _).trans ?_
    rw [eR]
    refine (q_at m c R _).trans ?_
    refine congrArg₂ (· * ·) (congrArg (rowSin m c R) (Fin.ext (by show j.val % 128 % 32 = src j.val % 32; rw [src_low]; omega))) ?_
    exact if_congr (src_half j.val) rfl rfl
  rw [ep, eq]
  have hl : src (other j.val) < 1024 := src_lt _ (other_lt (N := 8) j.val j.isLt)
  have hl' : Ref.mate (src j.val) < 1024 := src_other j.val ▸ hl
  have em : (⟨o + src (other j.val), by omega⟩ : Fin 11296) = ⟨o + Ref.mate (src j.val), by omega⟩ := Fin.ext (congrArg (o + ·) (src_other j.val))
  rw [em]
  unfold Ref.turn
  dsimp only
  split
  · rw [mul_neg, mul_one, mul_neg, ← sub_eq_add_neg]
  · rw [mul_one]

/-- The rotated columns of the projection's array after the loop. -/
theorem proj_q (c : Dev nD) (r : Fin 32768) (j : Fin 1024) :
    (dats m 0 c).arrAt 7 cfg0.N (ix2 r (⟨6144 + j.val, by omega⟩ : Fin 11264) : S32768x11264.Idx)
      = Ref.turn (fun n => proj (rowX m c r) (rowG m c) (colW m c (⟨0 + n.val, by omega⟩ : Fin 11296))) (rowCos m c r) (rowSin m c r) (⟨src j.val, src_lt j.val j.isLt⟩ : Fin 1024) * Ideal.ofBits .f32 0x3E38AA3B#32 := by
  have hj := j.isLt
  generalize hn : (⟨6144 + j.val, by omega⟩ : Fin 11264) = n
  have hv : n.val = 6144 + j.val := by rw [← hn]
  have hd : (ptOf r n).val / 11 = r.val / 2048 := by simp only [ptOf]; omega
  have hm : (ptOf r n).val % 11 = 6 := by simp only [ptOf]; omega
  have e := out_7 m c (ptOf r n) (⟨r.val % 2048, by omega⟩ : Fin 2048) j
  have er : (⟨(ptOf r n).val / 11 * 2048 + r.val % 2048, row_lt (ptOf r n) ⟨r.val % 2048, by omega⟩⟩ : Fin 32768) = r := Fin.ext (by simp only [hd]; omega)
  have en : (⟨(ptOf r n).val % 11 * 1024 + j.val, col_lt (ptOf r n) j⟩ : Fin 11264) = n := Fin.ext (by simp only [hm]; omega)
  rw [er, en] at e
  rw [e]
  have hr : isRot (ptOf r n) := Or.inl hm
  refine (rotated_at m c (ptOf r n) hr 0 (by decide) (fun k j => ?_) (⟨r.val % 2048, by omega⟩ : Fin 2048) r (by simp only [hd]; omega) j).trans ?_
  · refine (blk_2 m c (ptOf r n) k j).trans ?_
    have ej : (⟨(ptOf r n).val % 11 * 1024 + j.val, col_lt (ptOf r n) j⟩ : Fin 11264) = ⟨6144 + j.val, by omega⟩ := Fin.ext (by simp only [hm])
    rw [ej]
    refine (w_rot m c k j).1.trans ?_
    exact congrArg (fun z => argW m c (ix3 0 k z)) (Fin.ext (Nat.zero_add _).symm)
  · rw [scale_q _ hm]

/-- The rotated columns of the projection's array after the loop. -/
theorem proj_k (c : Dev nD) (r : Fin 32768) (j : Fin 1024) :
    (dats m 0 c).arrAt 7 cfg0.N (ix2 r (⟨7168 + j.val, by omega⟩ : Fin 11264) : S32768x11264.Idx)
      = Ref.turn (fun n => proj (rowX m c r) (rowG m c) (colW m c (⟨1024 + n.val, by omega⟩ : Fin 11296))) (rowCos m c r) (rowSin m c r) (⟨src j.val, src_lt j.val j.isLt⟩ : Fin 1024) * 1 := by
  have hj := j.isLt
  generalize hn : (⟨7168 + j.val, by omega⟩ : Fin 11264) = n
  have hv : n.val = 7168 + j.val := by rw [← hn]
  have hd : (ptOf r n).val / 11 = r.val / 2048 := by simp only [ptOf]; omega
  have hm : (ptOf r n).val % 11 = 7 := by simp only [ptOf]; omega
  have e := out_7 m c (ptOf r n) (⟨r.val % 2048, by omega⟩ : Fin 2048) j
  have er : (⟨(ptOf r n).val / 11 * 2048 + r.val % 2048, row_lt (ptOf r n) ⟨r.val % 2048, by omega⟩⟩ : Fin 32768) = r := Fin.ext (by simp only [hd]; omega)
  have en : (⟨(ptOf r n).val % 11 * 1024 + j.val, col_lt (ptOf r n) j⟩ : Fin 11264) = n := Fin.ext (by simp only [hm]; omega)
  rw [er, en] at e
  rw [e]
  have hr : isRot (ptOf r n) := Or.inr hm
  refine (rotated_at m c (ptOf r n) hr 1024 (by decide) (fun k j => ?_) (⟨r.val % 2048, by omega⟩ : Fin 2048) r (by simp only [hd]; omega) j).trans ?_
  · refine (blk_2 m c (ptOf r n) k j).trans ?_
    have ej : (⟨(ptOf r n).val % 11 * 1024 + j.val, col_lt (ptOf r n) j⟩ : Fin 11264) = ⟨7168 + j.val, by omega⟩ := Fin.ext (by simp only [hm])
    rw [ej]
    exact (w_rot m c k j).2
  · rw [scale_k _ hm]

theorem heads_at (x : FVec Ideal S32768x1024 .bf16) (r : Fin 32768) (j : Fin 1024) : heads x (ix2 r j) = x (ix2 r (⟨src j.val, src_lt j.val j.isLt⟩ : Fin 1024)) := by
  pointwise [heads]
  rfl

theorem angles_at (n : IVec S16x2048 32) (r : Fin 32768) (i : Fin 32) :
    (rowAngles n : FVec Ideal S32768x32 .f32) (ix2 r i) = Ref.angles n (ix3 (⟨r.val / 2048, by omega⟩ : Fin 16) (⟨r.val % 2048, by omega⟩ : Fin 2048) i) := by
  pointwise [rowAngles, Ref.angles]

theorem res_92 (c : Dev nD) : Pipeline.afterTail₀ cfgs (dats m) 0 (V0 m) [hostOps1] c main_v92
    = Ref.out3 (Ref.dots (argX m c) (argG m c) (argW m c)) (Host.cos (Ref.angles (argP m c))) (Host.sin (Ref.angles (argP m c))) := by
  rw [tail_92]
  have key : ∀ (X : FVec Ideal S32768x11264 .bf16) (r : Fin 32768) (j : Fin 1024),
      extractStridedSlice S32768x1024 ![0, 6144] X slices_S32768x11264_S32768x1024_0_6144 (ix2 r j) = X (ix2 r (⟨6144 + j.val, by omega⟩ : Fin 11264)) := by
    intro X r j; pointwise []
  refine ext2 _ _ fun r j => ?_
  refine (heads_at _ r j).trans ((key _ r _).trans ((proj_q m c r _).trans ?_))
  refine Eq.trans ?_ (Ref.out3_at _ _ _ r j).symm
  refine congrArg (· * Ideal.ofBits .f32 0x3E38AA3B#32) ?_
  have ej : (⟨src (src j.val), src_lt _ (src_lt j.val j.isLt)⟩ : Fin 1024) = j := Fin.ext (src_src j.val)
  dsimp only
  rw [ej]
  congr 1
  · funext n
    refine Eq.trans ?_ (dots_row m c r _).symm
    exact congrArg (fun n => proj (rowX m c r) (rowG m c) (colW m c n)) (Fin.ext (Nat.zero_add _))
  · funext i
    exact congrArg Ideal.cos (angles_at (argP m c) r i)
  · funext i
    exact congrArg Ideal.sin (angles_at (argP m c) r i)

theorem res_96 (c : Dev nD) : Pipeline.afterTail₀ cfgs (dats m) 0 (V0 m) [hostOps1] c main_v96
    = Ref.out4 (Ref.dots (argX m c) (argG m c) (argW m c)) (Host.cos (Ref.angles (argP m c))) (Host.sin (Ref.angles (argP m c))) := by
  rw [tail_96]
  have key : ∀ (X : FVec Ideal S32768x11264 .bf16) (r : Fin 32768) (j : Fin 1024),
      extractStridedSlice S32768x1024 ![0, 7168] X slices_S32768x11264_S32768x1024_0_7168 (ix2 r j) = X (ix2 r (⟨7168 + j.val, by omega⟩ : Fin 11264)) := by
    intro X r j; pointwise []
  refine ext2 _ _ fun r j => ?_
  refine (heads_at _ r j).trans ((key _ r _).trans ((proj_k m c r _).trans ?_))
  refine Eq.trans ?_ (Ref.out4_at _ _ _ r j).symm
  rw [mul_one]
  have ej : (⟨src (src j.val), src_lt _ (src_lt j.val j.isLt)⟩ : Fin 1024) = j := Fin.ext (src_src j.val)
  dsimp only
  rw [ej]
  congr 1
  · funext n
    exact (dots_row m c r _).symm
  · funext i
    exact congrArg Ideal.cos (angles_at (argP m c) r i)
  · funext i
    exact congrArg Ideal.sin (angles_at (argP m c) r i)

end Cert.Inp

end
-- ==== Proof.Inproj.Same.lean ====
/- The program read at the machine's floats is the one read at the extended reals, as text: its functions are the same terms. -/
module

public import proofs.«01_k».proof.Proof.Gen.InprojIdeal
public import proofs.«01_k».proof.Proof.Gen.Inproj

@[expose] public section

set_option maxRecDepth 16384
set_option maxHeartbeats 4000000

noncomputable section

namespace Cert.Inp

open Idealize.ShloMosaic Idealize.ShloMosaic.TcCoe Idealize.SL.Sem

variable {F : FTy → Type} [FloatOps F]

theorem same_main : (Cert.Inproj.main (F := F)) = Cert.InprojIdeal.main := rfl

theorem same_body : (Cert.Inproj.defs₀ (F := F)) = Cert.InprojIdeal.defs₀ := by
  unfold Cert.Inproj.defs₀ Cert.InprojIdeal.defs₀
  congr 1
  funext l a
  match l, a with
  | 0, (t, s) => rfl

theorem same_defs : (Cert.Inproj.defs (F := F)) = Cert.InprojIdeal.defs :=
  congrArg (Pipeline.defs (Cert.InprojIdeal.pcfgs (F := F))) same_body

/-- A run of the one is a run of the other. -/
theorem same_run (s : MemSt Cert.InprojIdeal.nD Cert.InprojIdeal.τ Cert.InprojIdeal.sig (Elt F))
    (Q : PUnit × MemSt Cert.InprojIdeal.nD Cert.InprojIdeal.τ Cert.InprojIdeal.sig (Elt F) → Prop)
    (h : θ_run (Cert.InprojIdeal.defs (F := F)) (onTc (τ := Cert.InprojIdeal.τ) (Cert.InprojIdeal.main (F := F))) s Q) :
    θ_run (Cert.Inproj.defs (F := F)) (onTc (τ := Cert.Inproj.τ) (Cert.Inproj.main (F := F))) s Q := by
  have e : (fun p => θ_run (Cert.Inproj.defs (F := F)) (onTc (τ := Cert.Inproj.τ) p) s Q)
      = fun p => θ_run (Cert.InprojIdeal.defs (F := F)) (onTc (τ := Cert.InprojIdeal.τ) p) s Q :=
    congrArg (fun d p => θ_run d (onTc (τ := Cert.InprojIdeal.τ) p) s Q) same_defs
  refine Eq.mpr (congrFun e (Cert.Inproj.main (F := F))) ?_
  exact Eq.mpr (congrArg (fun p => θ_run (Cert.InprojIdeal.defs (F := F)) (onTc (τ := Cert.InprojIdeal.τ) p) s Q) same_main) h

end Cert.Inp

end
-- ==== Proof.Inproj.Claims.lean ====
/- The claims about the input projection. -/
module

public import proofs.«01_k».proof.Defs
public import proofs.«01_k».proof.Proof.Inproj.KernelRot
public import proofs.«01_k».proof.Proof.Inproj.Same
public import Idealize.ShloMosaic.Lib.Quiescent

@[expose] public section

set_option maxRecDepth 16384

noncomputable section

namespace Cert.Inp

open Idealize.ShloMosaic Idealize.ShloMosaic.TcCoe Idealize.SL.Sem
open Cert.InprojIdeal Cert.InprojIdeal.Gen

section AnyFloat

variable {F : FTy → Type} [FloatOps F]

/-- What the loop's run leaves of the arguments, the five results and the counters. -/
theorem run_out (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v86) = Pipeline.afterTail₀ cfgs (dats m) 0 (V0 m) [hostOps1] c main_v86
      ∧ r.2.mem ((c.tc : Thread nD τ).loc main_v87) = Pipeline.afterTail₀ cfgs (dats m) 0 (V0 m) [hostOps1] c main_v87
      ∧ r.2.mem ((c.tc : Thread nD τ).loc main_v88) = Pipeline.afterTail₀ cfgs (dats m) 0 (V0 m) [hostOps1] c main_v88
      ∧ r.2.mem ((c.tc : Thread nD τ).loc main_v92) = Pipeline.afterTail₀ cfgs (dats m) 0 (V0 m) [hostOps1] c main_v92
      ∧ r.2.mem ((c.tc : Thread nD τ).loc main_v96) = Pipeline.afterTail₀ cfgs (dats m) 0 (V0 m) [hostOps1] c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run (defs (F := F)) _ _).mono (fun _ h => ⟨fun c =>
    ⟨(h.1 c).2 main_v86 (Pipeline.mem_restRefs_of main_v86 (by decide) (by decide)),
      (h.1 c).2 main_v87 (Pipeline.mem_restRefs_of main_v87 (by decide) (by decide)),
      (h.1 c).2 main_v88 (Pipeline.mem_restRefs_of main_v88 (by decide) (by decide)),
      (h.1 c).2 main_v92 (Pipeline.mem_restRefs_of main_v92 (by decide) (by decide)),
      (h.1 c).2 main_v96 (Pipeline.mem_restRefs_of main_v96 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩, h.2⟩) (run m ρ)

end AnyFloat

theorem frame_bits : Cert.quiescent_Inproj := fun m ρ _ =>
  same_run (F := Bits) _ _ ((θ_run (defs (F := Bits)) _ _).mono (fun _ hr => ⟨fun c => (hr.1 c).2.2.2.2.2, hr.2⟩) (run_out (F := Bits) m ρ))

theorem frame_ideal : Cert.quiescent_InprojIdeal := fun m ρ _ =>
  (θ_run (defs (F := Ideal)) _ _).mono (fun _ hr => ⟨fun c => (hr.1 c).2.2.2.2.2, hr.2⟩) (run_out (F := Ideal) m ρ)

theorem frame_ref : Cert.quiescent_InprojRefIdeal := fun m ρ _ =>
  (θ_run (Cert.InprojRefIdeal.defs (F := Ideal)) _ _).mono
    (fun _ hr => ⟨fun c => (hr c).2.2.2.2.2, sem_eq_zero_of_no_sems rfl _⟩) (Ref.run_ref m ρ)

theorem algebraic : Cert.algebraic_InprojIdeal_InprojRefIdeal := fun m ρ m' ρ' _ hag =>
  ⟨fun c => Ref.out0 (Ref.dots (argX m c) (argG m c) (argW m c)), fun c => Ref.out1 (Ref.dots (argX m c) (argG m c) (argW m c)),
    fun c => Ref.out2 (Ref.dots (argX m c) (argG m c) (argW m c)) (argB m c),
    fun c => Ref.out3 (Ref.dots (argX m c) (argG m c) (argW m c)) (Host.cos (Ref.angles (argP m c))) (Host.sin (Ref.angles (argP m c))),
    fun c => Ref.out4 (Ref.dots (argX m c) (argG m c) (argW m c)) (Host.cos (Ref.angles (argP m c))) (Host.sin (Ref.angles (argP m c))),
    (θ_run (defs (F := Ideal)) _ _).mono (fun r hr c => by
      have h := hr.1 c
      exact ⟨h.1.trans (res_86 m c), h.2.1.trans (res_87 m c), h.2.2.1.trans (res_88 m c), h.2.2.2.1.trans (res_92 m c), h.2.2.2.2.1.trans (res_96 m c), h.2.2.2.2.2⟩) (run_out (F := Ideal) m ρ),
    (θ_run (Cert.InprojRefIdeal.defs (F := Ideal)) _ _).mono (fun r hr c => by
      have h := hr c
      have a := hag c
      rw [a.1, a.2.1, a.2.2.1, a.2.2.2.1, a.2.2.2.2] at h
      rw [a.1, a.2.1, a.2.2.1, a.2.2.2.1, a.2.2.2.2]
      exact h) (Ref.run_ref m' ρ')⟩

end Cert.Inp

end
-- ==== Proof.Merge.Payload.lean ====
/- The rows of the merged branches a point stores, read at an index over the extended reals. -/
module

public import proofs.«01_k».proof.Proof.Gen.MergeIdeal.Skeleton
public import Idealize.ShloMosaic.Lib.Pointwise

@[expose] public section

set_option maxRecDepth 16384
set_option maxHeartbeats 1000000

noncomputable section

namespace Cert.Mrg

open Idealize.ShloMosaic Idealize.ShloMosaic.TcCoe Idealize.ShloMosaic.Tactic

/-- The logistic function. -/
def gate (z : EReal) : EReal := Ideal.div 1 (1 + Ideal.exp (-z))

/-- The product of a row with a column. -/
def dotp {n : ℕ} (x w : Fin n → EReal) : EReal := ∑ k : Fin n, x k * w k

/-- The two branches' results, each weighted by its gate, at one channel. -/
def mixed (p q ga gs : EReal) : EReal := gate ga * p + gate gs * q

open Cert.MergeIdeal Cert.MergeIdeal.Gen

theorem pay2_at (a : Vec Ideal S512x1024 .bf16) (wa : Vec Ideal S1024x1024 .bf16) (s : Vec Ideal S512x2048 .bf16)
    (ws : Vec Ideal S2048x1024 .bf16) (ga gs : Vec Ideal S512x1024 .bf16) (r : Fin 512) (k : Fin 1024) :
    k0_pay2 a wa s ws ga gs (ix2 r k)
      = mixed (dotp (fun j : Fin 1024 => a (ix2 r j)) (fun j => wa (ix2 j k))) (dotp (fun j : Fin 2048 => s (ix2 r j)) (fun j => ws (ix2 j k)))
          (ga (ix2 r k)) (gs (ix2 r k)) := by
  pointwise [k0_pay2, mixed, dotp, gate]
  simp only [sub_eq_add_neg, zero_add]
  rw [mul_comm (∑ x, a (ix2 r x) * wa (ix2 x k)), mul_comm (∑ x, s (ix2 r x) * ws (ix2 x k))]

theorem pay3_at (x : Vec Ideal S512x1024 .f32) (h : FVec Ideal S512x1024 .bf16) (wo : Vec Ideal S1024x1024 .bf16) (r : Fin 512) (j : Fin 1024) :
    k0_pay3 x h wo (ix2 r j) = x (ix2 r j) + dotp (fun k : Fin 1024 => h (ix2 r k)) (fun k => wo (ix2 k j)) := by
  pointwise [k0_pay3, dotp]

end Cert.Mrg

end
-- ==== Proof.Merge.RefValue.lean ====
/- The reference's merged rows at an index over the extended reals. -/
module

public import proofs.«01_k».proof.Proof.Merge.Payload
public import proofs.«01_k».proof.Proof.Gen.MergeRefIdeal.Run

@[expose] public section

set_option maxRecDepth 16384
set_option maxHeartbeats 1000000

noncomputable section

namespace Cert.Mrg.Ref

open Idealize.ShloMosaic Idealize.ShloMosaic.TcCoe Idealize.ShloMosaic.Tactic
open Idealize.SL.Sem
open Cert.MergeRefIdeal Cert.MergeRefIdeal.Gen

/-- One gate's weights. -/
def wts (p : FVec Ideal S32768x11264 .bf16) (o : ℕ) (h : S32768x11264.Slices ![0, o] S32768x1024) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, o] p h) bitsLt_bf16_f32))))

/-- The branches' results, each weighted by its gate. -/
def mix (a : FVec Ideal S32768x1024 .bf16) (s : FVec Ideal S32768x2048 .bf16) (p : FVec Ideal S32768x11264 .bf16)
    (wa : FVec Ideal S1x1024x1024 .f32) (ws : FVec Ideal S1x2048x1024 .f32) : FVec Ideal S32768x1024 .f32 :=
  addf (mulf (wts p 9216 slices_S32768x11264_S32768x1024_0_9216) (Host.dotGeneral dot_S32768x1024_S1024x1024_S32768x1024_1_0_0_1_n_n none (extf .f32 a bitsLt_bf16_f32) (shapeCast _ wa shapeCasts_S1x1024x1024_S1024x1024)))
    (mulf (wts p 10240 slices_S32768x11264_S32768x1024_0_10240) (Host.dotGeneral dot_S32768x2048_S2048x1024_S32768x1024_1_0_0_1_n_n none (extf .f32 s bitsLt_bf16_f32) (shapeCast _ ws shapeCasts_S1x2048x1024_S2048x1024)))

/-- The result. -/
def out (x : FVec Ideal S32768x1024 .f32) (a : FVec Ideal S32768x1024 .bf16) (s : FVec Ideal S32768x2048 .bf16) (p : FVec Ideal S32768x11264 .bf16)
    (wa : FVec Ideal S1x1024x1024 .f32) (ws : FVec Ideal S1x2048x1024 .f32) (wo : FVec Ideal S1x1024x1024 .f32) : FVec Ideal S32768x1024 .f32 :=
  addf x (Host.dotGeneral dot_S32768x1024_S1024x1024_S32768x1024_1_0_0_1_n_n none (mix a s p wa ws) (shapeCast _ wo shapeCasts_S1x1024x1024_S1024x1024))

theorem mix_at (a : FVec Ideal S32768x1024 .bf16) (s : FVec Ideal S32768x2048 .bf16) (p : FVec Ideal S32768x11264 .bf16)
    (wa : FVec Ideal S1x1024x1024 .f32) (ws : FVec Ideal S1x2048x1024 .f32) (r : Fin 32768) (k : Fin 1024) :
    mix a s p wa ws (ix2 r k)
      = mixed (dotp (fun j : Fin 1024 => a (ix2 r j)) (fun j => wa (ix3 0 j k))) (dotp (fun j : Fin 2048 => s (ix2 r j)) (fun j => ws (ix3 0 j k)))
          (p (ix2 r (⟨9216 + k.val, by omega⟩ : Fin 11264))) (p (ix2 r (⟨10240 + k.val, by omega⟩ : Fin 11264))) := by
  pointwise [mix, wts, mixed, dotp, gate]

theorem out_at (x : FVec Ideal S32768x1024 .f32) (a : FVec Ideal S32768x1024 .bf16) (s : FVec Ideal S32768x2048 .bf16) (p : FVec Ideal S32768x11264 .bf16)
    (wa : FVec Ideal S1x1024x1024 .f32) (ws : FVec Ideal S1x2048x1024 .f32) (wo : FVec Ideal S1x1024x1024 .f32) (r : Fin 32768) (j : Fin 1024) :
    out x a s p wa ws wo (ix2 r j) = x (ix2 r j) + dotp (fun k : Fin 1024 => mix a s p wa ws (ix2 r k)) (fun k => wo (ix3 0 k j)) := by
  unfold out
  generalize mix a s p wa ws = h
  pointwise [dotp]

theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.MergeRefIdeal.Value.run m ρ

end Cert.Mrg.Ref

end
-- ==== Proof.Merge.Entry.lean ====
/- The arrays as the loop finds them, in terms of the arguments, and a window's block read at an index. -/
module

public import proofs.«01_k».proof.Proof.Gen.MergeIdeal.Frame
public import Idealize.ShloMosaic.Lib.Pointwise
public import Idealize.ShloMosaic.Lib.Pipeline.ValueKit

@[expose] public section

set_option maxRecDepth 16384
set_option maxHeartbeats 4000000

noncomputable section

namespace Cert.Mrg

open Idealize.ShloMosaic Idealize.ShloMosaic.TcCoe Idealize.ShloMosaic.Tactic Idealize.ShloMosaic.StableHlo
open Cert.MergeIdeal Cert.MergeIdeal.Gen

section AnyFloat

variable {F : FTy → Type} [FloatOps F]
variable (m : (ℓ : Loc nD τ sig) → Buf (Elt F) ℓ)

theorem entry_wa (c : Dev nD) : V m c main_v15 = truncf .bf16 (shapeCast S1024x1024 (m ((c.tc : Thread nD τ).loc main_arg4)) shapeCasts_S1x1024x1024_S1024x1024) bitsLt_bf16_f32 := by
  show StableHlo.after (List.flatten _) _ (Proc.devRef .tc main_v15) = _
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_ws (c : Dev nD) : V m c main_v17 = truncf .bf16 (shapeCast S2048x1024 (m ((c.tc : Thread nD τ).loc main_arg5)) shapeCasts_S1x2048x1024_S2048x1024) bitsLt_bf16_f32 := by
  show StableHlo.after (List.flatten _) _ (Proc.devRef .tc main_v17) = _
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem entry_wo (c : Dev nD) : V m c main_v19 = truncf .bf16 (shapeCast S1024x1024 (m ((c.tc : Thread nD τ).loc main_arg6)) shapeCasts_S1x1024x1024_S1024x1024) bitsLt_bf16_f32 := by
  show StableHlo.after (List.flatten _) _ (Proc.devRef .tc main_v19) = _
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp <;> (try dsimp only [Matrix.cons_val]) <;> (try after_results_simp) <;> rfl

theorem ix_0 : ∀ t : Fin cfg0.N, (cfg0.win 0).index t = ![t.val, 0] :=
  (by decide +kernel : ∀ t : Fin grid0.N, (cfg0.win 0).index t = ![t.val, 0])
theorem ix_1 : ∀ t : Fin cfg0.N, (cfg0.win 1).index t = ![t.val, 0] :=
  (by decide +kernel : ∀ t : Fin grid0.N, (cfg0.win 1).index t = ![t.val, 0])
theorem ix_2 : ∀ t : Fin cfg0.N, (cfg0.win 2).index t = ![t.val, 0] :=
  (by decide +kernel : ∀ t : Fin grid0.N, (cfg0.win 2).index t = ![t.val, 0])
theorem ix_3 : ∀ t : Fin cfg0.N, (cfg0.win 3).index t = ![t.val, 9] :=
  (by decide +kernel : ∀ t : Fin grid0.N, (cfg0.win 3).index t = ![t.val, 9])
theorem ix_4 : ∀ t : Fin cfg0.N, (cfg0.win 4).index t = ![t.val, 10] :=
  (by decide +kernel : ∀ t : Fin grid0.N, (cfg0.win 4).index t = ![t.val, 10])
theorem ix_5 : ∀ t : Fin cfg0.N, (cfg0.win 5).index t = ![0, 0] :=
  (by decide +kernel : ∀ t : Fin grid0.N, (cfg0.win 5).index t = ![0, 0])
theorem ix_6 : ∀ t : Fin cfg0.N, (cfg0.win 6).index t = ![0, 0] :=
  (by decide +kernel : ∀ t : Fin grid0.N, (cfg0.win 6).index t = ![0, 0])
theorem ix_7 : ∀ t : Fin cfg0.N, (cfg0.win 7).index t = ![0, 0] :=
  (by decide +kernel : ∀ t : Fin grid0.N, (cfg0.win 7).index t = ![0, 0])
theorem ix_11 : ∀ t : Fin cfg0.N, (cfg0.win 11).index t = ![t.val, 0] :=
  (by decide +kernel : ∀ t : Fin grid0.N, (cfg0.win 11).index t = ![t.val, 0])

theorem lt64 (t : Fin cfg0.N) : t.val < 64 := lt_of_lt_of_eq t.isLt N_0
theorem row_lt (t : Fin cfg0.N) (r : Fin 512) : t.val * 512 + r.val < 32768 := by
  have := lt64 t; omega

theorem blk_0 (c : Dev nD) (t : Fin cfg0.N) (r : Fin 512) (k : Fin 1024) :
    iblk m c 0 t (ix2 r k) = V m c main_arg0 (ix2 (⟨t.val * 512 + r.val, row_lt t r⟩ : Fin 32768) k) := by
  show V m c main_arg0 (((cfg0.win 0).rect t).emb (ix2 r k)) = _
  refine congrArg (V m c main_arg0) (funext fun a => Fin.ext ?_)
  refine (((cfg0.win 0).rect_emb_val t _ a).trans ?_)
  rw [ix_0]
  fin_cases a
  · rfl
  · show 0 * 1024 + k.val = k.val; omega

theorem blk_1 (c : Dev nD) (t : Fin cfg0.N) (r : Fin 512) (k : Fin 1024) :
    iblk m c 1 t (ix2 r k) = V m c main_arg1 (ix2 (⟨t.val * 512 + r.val, row_lt t r⟩ : Fin 32768) k) := by
  show V m c main_arg1 (((cfg0.win 1).rect t).emb (ix2 r k)) = _
  refine congrArg (V m c main_arg1) (funext fun a => Fin.ext ?_)
  refine (((cfg0.win 1).rect_emb_val t _ a).trans ?_)
  rw [ix_1]
  fin_cases a
  · rfl
  · show 0 * 1024 + k.val = k.val; omega

theorem blk_2 (c : Dev nD) (t : Fin cfg0.N) (r : Fin 512) (k : Fin 2048) :
    iblk m c 2 t (ix2 r k) = V m c main_arg2 (ix2 (⟨t.val * 512 + r.val, row_lt t r⟩ : Fin 32768) k) := by
  show V m c main_arg2 (((cfg0.win 2).rect t).emb (ix2 r k)) = _
  refine congrArg (V m c main_arg2) (funext fun a => Fin.ext ?_)
  refine (((cfg0.win 2).rect_emb_val t _ a).trans ?_)
  rw [ix_2]
  fin_cases a
  · rfl
  · show 0 * 2048 + k.val = k.val; omega

theorem blk_3 (c : Dev nD) (t : Fin cfg0.N) (r : Fin 512) (k : Fin 1024) :
    iblk m c 3 t (ix2 r k) = V m c main_arg3 (ix2 (⟨t.val * 512 + r.val, row_lt t r⟩ : Fin 32768) (⟨9216 + k.val, by omega⟩ : Fin 11264)) := by
  show V m c main_arg3 (((cfg0.win 3).rect t).emb (ix2 r k)) = _
  refine congrArg (V m c main_arg3) (funext fun a => Fin.ext ?_)
  refine (((cfg0.win 3).rect_emb_val t _ a).trans ?_)
  rw [ix_3]
  fin_cases a
  · rfl
  · show 9 * 1024 + k.val = 9216 + k.val; omega

theorem blk_4 (c : Dev nD) (t : Fin cfg0.N) (r : Fin 512) (k : Fin 1024) :
    iblk m c 4 t (ix2 r k) = V m c main_arg3 (ix2 (⟨t.val * 512 + r.val, row_lt t r⟩ : Fin 32768) (⟨10240 + k.val, by omega⟩ : Fin 11264)) := by
  show V m c main_arg3 (((cfg0.win 4).rect t).emb (ix2 r k)) = _
  refine congrArg (V m c main_arg3) (funext fun a => Fin.ext ?_)
  refine (((cfg0.win 4).rect_emb_val t _ a).trans ?_)
  rw [ix_4]
  fin_cases a
  · rfl
  · show 10 * 1024 + k.val = 10240 + k.val; omega

theorem blk_5 (c : Dev nD) (t : Fin cfg0.N) (r : Fin 1024) (k : Fin 1024) :
    iblk m c 5 t (ix2 r k) = V m c main_v15 (ix2 r k) := by
  show V m c main_v15 (((cfg0.win 5).rect t).emb (ix2 r k)) = _
  refine congrArg (V m c main_v15) (funext fun a => Fin.ext ?_)
  refine (((cfg0.win 5).rect_emb_val t _ a).trans ?_)
  rw [ix_5]
  fin_cases a
  · show 0 * 1024 + r.val = r.val; omega
  · show 0 * 1024 + k.val = k.val; omega

theorem blk_6 (c : Dev nD) (t : Fin cfg0.N) (r : Fin 2048) (k : Fin 1024) :
    iblk m c 6 t (ix2 r k) = V m c main_v17 (ix2 r k) := by
  show V m c main_v17 (((cfg0.win 6).rect t).emb (ix2 r k)) = _
  refine congrArg (V m c main_v17) (funext fun a => Fin.ext ?_)
  refine (((cfg0.win 6).rect_emb_val t _ a).trans ?_)
  rw [ix_6]
  fin_cases a
  · show 0 * 2048 + r.val = r.val; omega
  · show 0 * 1024 + k.val = k.val; omega

theorem blk_7 (c : Dev nD) (t : Fin cfg0.N) (r : Fin 1024) (k : Fin 1024) :
    iblk m c 7 t (ix2 r k) = V m c main_v19 (ix2 r k) := by
  show V m c main_v19 (((cfg0.win 7).rect t).emb (ix2 r k)) = _
  refine congrArg (V m c main_v19) (funext fun a => Fin.ext ?_)
  refine (((cfg0.win 7).rect_emb_val t _ a).trans ?_)
  rw [ix_7]
  fin_cases a
  · show 0 * 1024 + r.val = r.val; omega
  · show 0 * 1024 + k.val = k.val; omega

end AnyFloat

variable (m : (ℓ : Loc nD τ sig) → Buf (Elt Ideal) ℓ)

/-- The seven arguments the merged rows depend on. -/
abbrev argX (c : Dev nD) : FVec Ideal S32768x1024 .f32 := m ((c.tc : Thread nD τ).loc main_arg0)
abbrev argA (c : Dev nD) : FVec Ideal S32768x1024 .bf16 := m ((c.tc : Thread nD τ).loc main_arg1)
abbrev argS (c : Dev nD) : FVec Ideal S32768x2048 .bf16 := m ((c.tc : Thread nD τ).loc main_arg2)
abbrev argP (c : Dev nD) : FVec Ideal S32768x11264 .bf16 := m ((c.tc : Thread nD τ).loc main_arg3)
abbrev argWa (c : Dev nD) : FVec Ideal S1x1024x1024 .f32 := m ((c.tc : Thread nD τ).loc main_arg4)
abbrev argWs (c : Dev nD) : FVec Ideal S1x2048x1024 .f32 := m ((c.tc : Thread nD τ).loc main_arg5)
abbrev argWo (c : Dev nD) : FVec Ideal S1x1024x1024 .f32 := m ((c.tc : Thread nD τ).loc main_arg6)

theorem sq_at (x : FVec Ideal S1x1024x1024 .f32) (k n : Fin 1024) :
    (truncf .bf16 (shapeCast S1024x1024 x shapeCasts_S1x1024x1024_S1024x1024) bitsLt_bf16_f32 : FVec Ideal S1024x1024 .bf16) (ix2 k n) = x (ix3 0 k n) := by
  pointwise []

theorem tall_at (x : FVec Ideal S1x2048x1024 .f32) (k : Fin 2048) (n : Fin 1024) :
    (truncf .bf16 (shapeCast S2048x1024 x shapeCasts_S1x2048x1024_S2048x1024) bitsLt_bf16_f32 : FVec Ideal S2048x1024 .bf16) (ix2 k n) = x (ix3 0 k n) := by
  pointwise []

theorem wa_at (c : Dev nD) (k n : Fin 1024) : V m c main_v15 (ix2 k n) = argWa m c (ix3 0 k n) := by
  rw [entry_wa]; exact sq_at (argWa m c) k n
theorem ws_at (c : Dev nD) (k : Fin 2048) (n : Fin 1024) : V m c main_v17 (ix2 k n) = argWs m c (ix3 0 k n) := by
  rw [entry_ws]; exact tall_at (argWs m c) k n
theorem wo_at (c : Dev nD) (k n : Fin 1024) : V m c main_v19 (ix2 k n) = argWo m c (ix3 0 k n) := by
  rw [entry_wo]; exact sq_at (argWo m c) k n

end Cert.Mrg

end
-- ==== Proof.Merge.Blocks.lean ====
/- The block a point stores into the merged rows, as a function of what it finds. -/
module

public import proofs.«01_k».proof.Proof.Gen.MergeIdeal.Frame
public import Idealize.ShloMosaic.Lib.Pipeline.ValueKit.Basic
public import Idealize.ShloMosaic.Lib.VecWindow

@[expose] public section

set_option maxRecDepth 16384
set_option maxHeartbeats 4000000

noncomputable section

namespace Cert.Mrg

open Idealize.ShloMosaic Idealize.ShloMosaic.TcCoe Idealize.ShloMosaic.Tactic
open Cert.MergeIdeal Cert.MergeIdeal.Gen

variable {F : FTy → Type} [FloatOps F]

/-- One store over the whole block. -/
def piece (X : FVec F S512x1024 .f32) : List (View.Piece (Elt F) S512x1024 .f32) :=
  [⟨Rect.unit (s := S512x1024) ![0, 0] S512x1024.size inb_S512x1024_S512x1024_0_0, X⟩]

theorem read_piece (v : View sig .tc .vmem S512x1024 .f32) (X : FVec F S512x1024 .f32) :
    v.read (Elt F) (v.writes (Elt F) v.junk (piece X)) = X :=
  View.read_writes_full v (v.junk : v.ty.Contents (Elt F)) (inb_S512x1024_S512x1024_0_0 : ∀ a, (![0, 0] : Fin S512x1024.rank → ℕ) a + S512x1024.size a ≤ S512x1024.size a) (X : S512x1024.Idx → Elt F .f32) []

theorem runA_11 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x2x256 .bf16) (harg13 : arg13.IsWhole) (arg14 : Memref sig .tc .vmem S512x2x256 .bf16) (harg14 : arg14.IsWhole) (arg15 : Memref sig .tc .vmem S512x8 .f32) (harg15 : arg15.IsWhole) (arg16 : Memref sig .tc .vmem S512x8 .i32) (harg16 : arg16.IsWhole) (arg17 : Memref sig .tc .vmem S8x128 .i32) (harg17 : arg17.IsWhole) (arg18 : Memref sig .tc .vmem S1x128 .f32) (harg18 : arg18.IsWhole) (hc0 : cond0_0 i)
    (x0 : Vec F S512x1024 .f32) (x1 : Vec F S512x1024 .bf16) (x2 : Vec F S512x2048 .bf16) (x3 : Vec F S512x1024 .bf16) (x4 : Vec F S512x1024 .bf16) (x5 : Vec F S1024x1024 .bf16) (x6 : Vec F S2048x1024 .bf16) (x7 : Vec F S1024x1024 .bf16) (x8 : Vec F S1x1024 .f32) (x9 : Vec F S1024x256 .bf16) (x10 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10).1 = piece (k0_pay3 x0 (k0_pay2 x1 x5 x2 x6 x3 x4) x7) := by
  dsimp only [kernelRun0_A, piece]
  unfold kernelRun0_A.sl.r kernelRun0_A.sl.r_1
  simp only [View.readAt_eq_ld, Memref.IsWhole.read_unread]
  have e0 : View.ld x0 (Rect.unit (s := S512x1024) ![0, 0] ![512, 1024] inb_S512x1024_S512x1024_0_0) = x0 := View.ld_unit_lit inb_S512x1024_S512x1024_0_0 x0 (by decide)
  have e1 : View.ld x1 (Rect.unit (s := S512x1024) ![0, 0] ![512, 1024] inb_S512x1024_S512x1024_0_0) = x1 := View.ld_unit_lit inb_S512x1024_S512x1024_0_0 x1 (by decide)
  have e2 : View.ld x2 (Rect.unit (s := S512x2048) ![0, 0] ![512, 2048] inb_S512x2048_S512x2048_0_0) = x2 := View.ld_unit_lit inb_S512x2048_S512x2048_0_0 x2 (by decide)
  have e3 : View.ld x3 (Rect.unit (s := S512x1024) ![0, 0] ![512, 1024] inb_S512x1024_S512x1024_0_0) = x3 := View.ld_unit_lit inb_S512x1024_S512x1024_0_0 x3 (by decide)
  have e4 : View.ld x4 (Rect.unit (s := S512x1024) ![0, 0] ![512, 1024] inb_S512x1024_S512x1024_0_0) = x4 := View.ld_unit_lit inb_S512x1024_S512x1024_0_0 x4 (by decide)
  have e5 : View.ld x5 (Rect.unit (s := S1024x1024) ![0, 0] ![1024, 1024] inb_S1024x1024_S1024x1024_0_0) = x5 := View.ld_unit_lit inb_S1024x1024_S1024x1024_0_0 x5 (by decide)
  have e6 : View.ld x6 (Rect.unit (s := S2048x1024) ![0, 0] ![2048, 1024] inb_S2048x1024_S2048x1024_0_0) = x6 := View.ld_unit_lit inb_S2048x1024_S2048x1024_0_0 x6 (by decide)
  have e7 : View.ld x7 (Rect.unit (s := S1024x1024) ![0, 0] ![1024, 1024] inb_S1024x1024_S1024x1024_0_0) = x7 := View.ld_unit_lit inb_S1024x1024_S1024x1024_0_0 x7 (by decide)
  simp only [e0, e1, e2, e3, e4, e5, e6, e7]

theorem outA_11 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x2x256 .bf16) (harg13 : arg13.IsWhole) (arg14 : Memref sig .tc .vmem S512x2x256 .bf16) (harg14 : arg14.IsWhole) (arg15 : Memref sig .tc .vmem S512x8 .f32) (harg15 : arg15.IsWhole) (arg16 : Memref sig .tc .vmem S512x8 .i32) (harg16 : arg16.IsWhole) (arg17 : Memref sig .tc .vmem S8x128 .i32) (harg17 : arg17.IsWhole) (arg18 : Memref sig .tc .vmem S1x128 .f32) (harg18 : arg18.IsWhole) (hc0 : cond0_0 i)
    (x0 : Vec F S512x1024 .f32) (x1 : Vec F S512x1024 .bf16) (x2 : Vec F S512x2048 .bf16) (x3 : Vec F S512x1024 .bf16) (x4 : Vec F S512x1024 .bf16) (x5 : Vec F S1024x1024 .bf16) (x6 : Vec F S2048x1024 .bf16) (x7 : Vec F S1024x1024 .bf16) (x8 : Vec F S1x1024 .f32) (x9 : Vec F S1024x256 .bf16) (x10 : Vec F S1x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = k0_pay3 x0 (k0_pay2 x1 x5 x2 x6 x3 x4) x7 := by
  unfold out0_A_11
  rw [runA_11]
  exact read_piece _ _

theorem runB_11 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x2x256 .bf16) (harg13 : arg13.IsWhole) (arg14 : Memref sig .tc .vmem S512x2x256 .bf16) (harg14 : arg14.IsWhole) (arg15 : Memref sig .tc .vmem S512x8 .f32) (harg15 : arg15.IsWhole) (arg16 : Memref sig .tc .vmem S512x8 .i32) (harg16 : arg16.IsWhole) (arg17 : Memref sig .tc .vmem S8x128 .i32) (harg17 : arg17.IsWhole) (arg18 : Memref sig .tc .vmem S1x128 .f32) (harg18 : arg18.IsWhole) (hc0 : ¬cond0_0 i)
    (x0 : Vec F S512x1024 .f32) (x1 : Vec F S512x1024 .bf16) (x2 : Vec F S512x2048 .bf16) (x3 : Vec F S512x1024 .bf16) (x4 : Vec F S512x1024 .bf16) (x5 : Vec F S1024x1024 .bf16) (x6 : Vec F S2048x1024 .bf16) (x7 : Vec F S1024x1024 .bf16) (x8 : Vec F S1x1024 .f32) (x9 : Vec F S1024x256 .bf16) (x10 : Vec F S1x128 .f32) (xs0 : Vec F S1x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0).1 = piece (k0_pay3 x0 (k0_pay2 x1 x5 x2 x6 x3 x4) x7) := by
  dsimp only [kernelRun0_B, piece]
  unfold kernelRun0_B.sl.r kernelRun0_B.sl.r_1
  simp only [View.readAt_eq_ld, Memref.IsWhole.read_unread]
  have e0 : View.ld x0 (Rect.unit (s := S512x1024) ![0, 0] ![512, 1024] inb_S512x1024_S512x1024_0_0) = x0 := View.ld_unit_lit inb_S512x1024_S512x1024_0_0 x0 (by decide)
  have e1 : View.ld x1 (Rect.unit (s := S512x1024) ![0, 0] ![512, 1024] inb_S512x1024_S512x1024_0_0) = x1 := View.ld_unit_lit inb_S512x1024_S512x1024_0_0 x1 (by decide)
  have e2 : View.ld x2 (Rect.unit (s := S512x2048) ![0, 0] ![512, 2048] inb_S512x2048_S512x2048_0_0) = x2 := View.ld_unit_lit inb_S512x2048_S512x2048_0_0 x2 (by decide)
  have e3 : View.ld x3 (Rect.unit (s := S512x1024) ![0, 0] ![512, 1024] inb_S512x1024_S512x1024_0_0) = x3 := View.ld_unit_lit inb_S512x1024_S512x1024_0_0 x3 (by decide)
  have e4 : View.ld x4 (Rect.unit (s := S512x1024) ![0, 0] ![512, 1024] inb_S512x1024_S512x1024_0_0) = x4 := View.ld_unit_lit inb_S512x1024_S512x1024_0_0 x4 (by decide)
  have e5 : View.ld x5 (Rect.unit (s := S1024x1024) ![0, 0] ![1024, 1024] inb_S1024x1024_S1024x1024_0_0) = x5 := View.ld_unit_lit inb_S1024x1024_S1024x1024_0_0 x5 (by decide)
  have e6 : View.ld x6 (Rect.unit (s := S2048x1024) ![0, 0] ![2048, 1024] inb_S2048x1024_S2048x1024_0_0) = x6 := View.ld_unit_lit inb_S2048x1024_S2048x1024_0_0 x6 (by decide)
  have e7 : View.ld x7 (Rect.unit (s := S1024x1024) ![0, 0] ![1024, 1024] inb_S1024x1024_S1024x1024_0_0) = x7 := View.ld_unit_lit inb_S1024x1024_S1024x1024_0_0 x7 (by decide)
  simp only [e0, e1, e2, e3, e4, e5, e6, e7]

theorem outB_11 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x2x256 .bf16) (harg13 : arg13.IsWhole) (arg14 : Memref sig .tc .vmem S512x2x256 .bf16) (harg14 : arg14.IsWhole) (arg15 : Memref sig .tc .vmem S512x8 .f32) (harg15 : arg15.IsWhole) (arg16 : Memref sig .tc .vmem S512x8 .i32) (harg16 : arg16.IsWhole) (arg17 : Memref sig .tc .vmem S8x128 .i32) (harg17 : arg17.IsWhole) (arg18 : Memref sig .tc .vmem S1x128 .f32) (harg18 : arg18.IsWhole) (hc0 : ¬cond0_0 i)
    (x0 : Vec F S512x1024 .f32) (x1 : Vec F S512x1024 .bf16) (x2 : Vec F S512x2048 .bf16) (x3 : Vec F S512x1024 .bf16) (x4 : Vec F S512x1024 .bf16) (x5 : Vec F S1024x1024 .bf16) (x6 : Vec F S2048x1024 .bf16) (x7 : Vec F S1024x1024 .bf16) (x8 : Vec F S1x1024 .f32) (x9 : Vec F S1024x256 .bf16) (x10 : Vec F S1x128 .f32) (xs0 : Vec F S1x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 = k0_pay3 x0 (k0_pay2 x1 x5 x2 x6 x3 x4) x7 := by
  unfold out0_B_11
  rw [runB_11]
  exact read_piece _ _

end Cert.Mrg

end
-- ==== Proof.Merge.Claims.lean ====
/- The merged rows the kernel leaves are the reference's; the claims about the merge. -/
module

public import proofs.«01_k».proof.Defs
public import proofs.«01_k».proof.Proof.Merge.Payload
public import proofs.«01_k».proof.Proof.Merge.RefValue
public import proofs.«01_k».proof.Proof.Merge.Entry
public import proofs.«01_k».proof.Proof.Merge.Blocks
public import proofs.«01_k».proof.Proof.Gen.Merge.Frame
public import proofs.«01_k».proof.Proof.Gen.MergeIdeal.Value
public import Idealize.ShloMosaic.Lib.Quiescent
public import Idealize.ShloMosaic.Lib.Bf16PairInverse

@[expose] public section

set_option maxRecDepth 16384
set_option maxHeartbeats 1000000

noncomputable section

namespace Cert.Mrg

open Idealize.ShloMosaic Idealize.ShloMosaic.TcCoe Idealize.ShloMosaic.Tactic Idealize.SL.Sem
open Idealize.ShloMosaic.Pipeline (Dat Cfg Window)
open Cert.MergeIdeal Cert.MergeIdeal.Gen

variable (m : (ℓ : Loc nD τ sig) → Buf (Elt Ideal) ℓ)

/-- The rows a point stores, as a function of its blocks. -/
def rowsAt (c : Dev nD) (t : Fin cfg0.N) : FVec Ideal S512x1024 .f32 :=
  k0_pay3 (iblk m c 0 t) (k0_pay2 (iblk m c 1 t) (iblk m c 5 t) (iblk m c 2 t) (iblk m c 6 t) (iblk m c 3 t) (iblk m c 4 t)) (iblk m c 7 t)

theorem outs11 (c : Dev nD) (t : Fin cfg0.N) : ((outsAt0 m c t.val t.isLt).1 : FVec Ideal S512x1024 .f32) = rowsAt m c t := by
  unfold rowsAt
  by_cases h0 : t.val % 64 = 0
  · rw [outsAt0_A m c t h0]
    dsimp only
    rw [outA_11]
  · rw [outsAt0_B m c t h0]
    dsimp only
    rw [outB_11]

theorem left11 (c : Dev nD) (t : Fin cfg0.N) : (dats m 0 c).after 11 t = rowsAt m c t := by
  rw [after0_11]
  exact outs11 m c t

theorem flush_11 : ∀ t : Fin cfg0.N, (cfg0.win 11).flush t = true :=
  (by decide +kernel : ∀ t : Fin grid0.N, (cfg0.win 11).flush t = true)

theorem out_11 (c : Dev nD) (t : Fin cfg0.N) (r : Fin 512) (j : Fin 1024) :
    (dats m 0 c).arrAt 11 cfg0.N (ix2 (⟨t.val * 512 + r.val, row_lt t r⟩ : Fin 32768) j : S32768x1024.Idx) = rowsAt m c t (ix2 r j) := by
  have h := (dats m 0 c).arrAt_emb_eq_flushed 11 Value.disjoint11 t (flush_11 t) (ix2 r j : S512x1024.Idx)
  refine Eq.trans (congrArg ((dats m 0 c).arrAt 11 cfg0.N) (funext fun a => Fin.ext ?_)) (h.trans ?_)
  · refine Eq.trans ?_ ((cfg0.win 11).rect_emb_val t (ix2 r j : S512x1024.Idx) a).symm
    rw [ix_11]
    fin_cases a
    · rfl
    · show j.val = 0 * 1024 + j.val; omega
  · show (dats m 0 c).after 11 t (ix2 r j) = _
    rw [left11]

/-- The point whose block holds a row. -/
def ptOf (r : Fin 32768) : Fin cfg0.N := ⟨r.val / 512, lt_of_lt_of_eq (by omega) (show 64 = cfg0.N from N_0.symm)⟩

/-- The reference's result on the arguments. -/
def res (c : Dev nD) : FVec Ideal S32768x1024 .f32 :=
  Ref.out (argX m c) (argA m c) (argS m c) (argP m c) (argWa m c) (argWs m c) (argWo m c)

theorem rows_eq (c : Dev nD) (t : Fin cfg0.N) (r : Fin 512) (j : Fin 1024) :
    rowsAt m c t (ix2 r j) = res m c (ix2 (⟨t.val * 512 + r.val, row_lt t r⟩ : Fin 32768) j) := by
  unfold rowsAt res
  refine (pay3_at _ _ _ r j).trans (Eq.trans ?_ (Ref.out_at _ _ _ _ _ _ _ _ j).symm)
  refine congr_arg₂ (· + ·) ((blk_0 m c t r j).trans (congrFun (V_main_arg0 m c) _)) (Finset.sum_congr rfl fun k _ => ?_)
  refine congr_arg₂ (· * ·) ?_ ((blk_7 m c t k j).trans (wo_at m c k j))
  refine (pay2_at _ _ _ _ _ _ r k).trans (Eq.trans ?_ (Ref.mix_at _ _ _ _ _ _ k).symm)
  have e1 : ∀ i : Fin 1024, iblk m c 1 t (ix2 r i) = argA m c (ix2 (⟨t.val * 512 + r.val, row_lt t r⟩ : Fin 32768) i) :=
    fun i => (blk_1 m c t r i).trans (congrFun (V_main_arg1 m c) _)
  have e2 : ∀ i : Fin 2048, iblk m c 2 t (ix2 r i) = argS m c (ix2 (⟨t.val * 512 + r.val, row_lt t r⟩ : Fin 32768) i) :=
    fun i => (blk_2 m c t r i).trans (congrFun (V_main_arg2 m c) _)
  have e3 : iblk m c 3 t (ix2 r k) = argP m c (ix2 (⟨t.val * 512 + r.val, row_lt t r⟩ : Fin 32768) (⟨9216 + k.val, by omega⟩ : Fin 11264)) :=
    (blk_3 m c t r k).trans (congrFun (V_main_arg3 m c) _)
  have e4 : iblk m c 4 t (ix2 r k) = argP m c (ix2 (⟨t.val * 512 + r.val, row_lt t r⟩ : Fin 32768) (⟨10240 + k.val, by omega⟩ : Fin 11264)) :=
    (blk_4 m c t r k).trans (congrFun (V_main_arg3 m c) _)
  refine Eq.trans (congr (congr (congr_arg₂ mixed (Finset.sum_congr rfl fun i _ => ?_) (Finset.sum_congr rfl fun i _ => ?_)) e3) e4) rfl
  · exact congr_arg₂ (· * ·) (e1 i) ((blk_5 m c t i k).trans (wa_at m c i k))
  · exact congr_arg₂ (· * ·) (e2 i) ((blk_6 m c t i k).trans (ws_at m c i k))

theorem arr_eq (c : Dev nD) : Value.G11 m c = res m c := by
  rw [← Value.final11]
  have all_eq : ∀ (r : Fin 32768) (j : Fin 1024), (dats m 0 c).arrAt 11 cfg0.N (ix2 r j : S32768x1024.Idx) = res m c (ix2 r j) := by
    intro r j
    have e := out_11 m c (ptOf r) (⟨r.val % 512, by omega⟩ : Fin 512) j
    replace e := e.trans (rows_eq m c (ptOf r) (⟨r.val % 512, by omega⟩ : Fin 512) j)
    have er : (⟨(ptOf r).val * 512 + r.val % 512, row_lt (ptOf r) ⟨r.val % 512, by omega⟩⟩ : Fin 32768) = r := Fin.ext (by simp only [ptOf]; omega)
    rw [er] at e
    exact e
  funext y
  have hy : y = ix2 (y 0 : Fin 32768) (y 1 : Fin 1024) := by funext a; fin_cases a <;> rfl
  rw [hy]
  refine all_eq (y 0) (y 1)

/-! ## The claims -/

theorem frame_bits : Cert.quiescent_Merge := fun m ρ _ => Cert.Merge.Gen.frame m ρ

theorem frame_ideal : Cert.quiescent_MergeIdeal := fun m ρ _ => Cert.MergeIdeal.Gen.frame m ρ

theorem frame_ref : Cert.quiescent_MergeRefIdeal := fun m ρ _ =>
  (θ_run (Cert.MergeRefIdeal.defs (F := Ideal)) _ _).mono
    (fun _ hr => ⟨fun c => (hr c).2, sem_eq_zero_of_no_sems rfl _⟩) (Ref.run_ref m ρ)

theorem preserves : Cert.preserves_Merge_MergeIdeal :=
  ⟨IdealRules.bf16_pair.bufferStatement _ _, IdealRules.bf16_pair.bufferStatement _ _, IdealRules.bf16_pair.statement _ _, IdealRules.bf16_pack.statement _⟩

theorem algebraic : Cert.algebraic_MergeIdeal_MergeRefIdeal := fun m ρ m' ρ' _ hag =>
  ⟨fun c => res m c,
    (θ_run (defs (F := Ideal)) _ _).mono (fun r hr c => by
      have h := hr c
      exact ⟨h.1.trans (arr_eq m c), h.2.2.2.2.2.2⟩) (Value.run (F := Ideal) m ρ),
    (θ_run (Cert.MergeRefIdeal.defs (F := Ideal)) _ _).mono (fun r hr c => by
      have h := hr c
      have a := hag c
      refine ⟨h.1.trans ?_, h.2⟩
      unfold res
      rw [a.1, a.2.1, a.2.2.1, a.2.2.2.1, a.2.2.2.2.1, a.2.2.2.2.2.1, a.2.2.2.2.2.2.1]) (Ref.run_ref m' ρ')⟩

end Cert.Mrg

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Claims
public import proofs.«01_k».proof.Proof.Inproj.Claims
public import proofs.«01_k».proof.Proof.Gen.Merge
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal
public import proofs.«01_k».proof.Proof.Merge.Claims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Reference.Gen.facts,
  Cert.Inproj.Gen.facts, Cert.InprojIdeal.Gen.facts, Cert.InprojRefIdeal.Gen.facts, Cert.Merge.Gen.facts,
  Cert.MergeIdeal.Gen.facts, Cert.MergeRefIdeal.Gen.facts, Cert.Gather.preFacts, Cert.Gather.frame_kernel, Cert.Gather.frame_kernelIdeal, Cert.Gather.frame_referenceIdeal,
  Cert.Gather.frame_referenceIdeal_pre, Cert.Gather.frame_reference,
  Cert.Inp.frame_bits, Cert.Inp.frame_ideal, Cert.Inp.frame_ref, Cert.Mrg.frame_bits, Cert.Mrg.frame_ideal, Cert.Mrg.frame_ref, trivial, Cert.Gather.algebraic, Cert.Gather.bitexact, trivial,
  Cert.Inp.algebraic, Cert.Mrg.preserves, Cert.Mrg.algebraic⟩

end Cert.Proof

end
